-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "minus_2_over_ln_2" .f32 0xC038AA3B#32 (((-2) * (Real.log 2)⁻¹ : ℝ) : EReal)
  ∧ IdealRules.named_const.Statement Cert.KernelIdeal.κ "inv_17" .f32 0x3D70F0F1#32 ((1 / 17 : ℝ) : EReal)
  ∧ IdealRules.bf16_pack.Statement Cert.KernelIdeal.S16x128
  ∧ IdealRules.bf16_pack.Statement Cert.KernelIdeal.S32x128
  ∧ IdealRules.named_const.Statement Cert.KernelIdeal.κ "inv_n" .f32 0x3A088889#32 ((1 / 1920 : ℝ) : EReal)
  ∧ IdealRules.named_const.Statement Cert.KernelIdeal.κ "ln_256" .f32 0x40B17218#32 ((Real.log 256 : ℝ) : EReal)
  ∧ IdealRules.named_const.Statement Cert.KernelIdeal.κ "ln_512" .f32 0x40C7A05B#32 ((Real.log 512 : ℝ) : EReal)
  ∧ IdealRules.named_const.Statement Cert.KernelIdeal.κ "ln_256_over_n" .f32 0xC000F42C#32 ((Real.log (2 / 15) : ℝ) : EReal)
  ∧ IdealRules.named_const.Statement Cert.KernelIdeal.κ "ln_512_over_n" .f32 0xBFA92F4C#32 ((Real.log (4 / 15) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v1_5)) (v6 : (c : Dev Cert.KernelIdeal.nD) → Buf (Elt Ideal) ((c.tc : Thread Cert.KernelIdeal.nD Cert.KernelIdeal.τ).loc Cert.KernelIdeal.main_v1_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_v1_5) = v5 c
          ∧ r.2.mem ((c.tc : Thread Cert.KernelIdeal.nD Cert.KernelIdeal.τ).loc Cert.KernelIdeal.main_v1_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_v30) = v3 c
          ∧ r.2.mem ((c.tc : Thread Cert.ReferenceIdeal.nD Cert.ReferenceIdeal.τ).loc Cert.ReferenceIdeal.main_v130) = v4 c
          ∧ r.2.mem ((c.tc : Thread Cert.ReferenceIdeal.nD Cert.ReferenceIdeal.τ).loc Cert.ReferenceIdeal.main_v131) = v5 c
          ∧ r.2.mem ((c.tc : Thread Cert.ReferenceIdeal.nD Cert.ReferenceIdeal.τ).loc Cert.ReferenceIdeal.main_v132) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x640x17 : Shape := ⟨3, ![3, 640, 17]⟩
abbrev S17x3x640 : Shape := ⟨3, ![17, 3, 640]⟩
abbrev S3x640 : Shape := ⟨2, ![3, 640]⟩
abbrev S2x128 : Shape := ⟨2, ![2, 128]⟩
abbrev S4x128 : Shape := ⟨2, ![4, 128]⟩
abbrev S1x1 : Shape := ⟨2, ![1, 1]⟩
abbrev S17x16x128 : Shape := ⟨3, ![17, 16, 128]⟩
abbrev S1344x128 : Shape := ⟨2, ![1344, 128]⟩
abbrev S2x17x16x128 : Shape := ⟨4, ![2, 17, 16, 128]⟩
abbrev S1x128 : Shape := ⟨2, ![1, 128]⟩
abbrev S1x1x128 : Shape := ⟨3, ![1, 1, 128]⟩
abbrev S1x3x128 : Shape := ⟨3, ![1, 3, 128]⟩
abbrev S3x128 : Shape := ⟨2, ![3, 128]⟩
abbrev S1x8x128 : Shape := ⟨3, ![1, 8, 128]⟩
abbrev S8x128 : Shape := ⟨2, ![8, 128]⟩
abbrev S16x128 : Shape := ⟨2, ![16, 128]⟩
abbrev S48x128 : Shape := ⟨2, ![48, 128]⟩
abbrev S48x1024 : Shape := ⟨2, ![48, 1024]⟩
abbrev S48x48 : Shape := ⟨2, ![48, 48]⟩
abbrev S32x128 : Shape := ⟨2, ![32, 128]⟩
abbrev S96x128 : Shape := ⟨2, ![96, 128]⟩
abbrev S96x1024 : Shape := ⟨2, ![96, 1024]⟩
abbrev S96x48 : Shape := ⟨2, ![96, 48]⟩
abbrev S48x896 : Shape := ⟨2, ![48, 896]⟩
abbrev S96x896 : Shape := ⟨2, ![96, 896]⟩
abbrev S1 : Shape := ⟨1, ![1]⟩
abbrev S1x1x1 : Shape := ⟨3, ![1, 1, 1]⟩
abbrev S16x48 : Shape := ⟨2, ![16, 48]⟩
abbrev S16x80 : Shape := ⟨2, ![16, 80]⟩
abbrev S8x128x1 : Shape := ⟨3, ![8, 128, 1]⟩
abbrev S128 : Shape := ⟨1, ![128]⟩
abbrev S32x48 : Shape := ⟨2, ![32, 48]⟩
abbrev S32x80 : Shape := ⟨2, ![32, 80]⟩
abbrev S1x16x128 : Shape := ⟨3, ![1, 16, 128]⟩
abbrev S1x1x16x128 : Shape := ⟨4, ![1, 1, 16, 128]⟩

abbrev nBuf : Space → Nat
  | .hbm => 9
  | .vmem => 11
  | .smem => 0
  | _ => 0

abbrev bufTy : (tb : Table) → Fin (tcTables nBuf tb) → BufTy
  | .hbm, ⟨0, _⟩ => ⟨S3x640x17, .bf16⟩
  | .hbm, ⟨1, _⟩ => ⟨S17x3x640, .bf16⟩
  | .hbm, ⟨2, _⟩ => ⟨S3x640, .i32⟩
  | .hbm, ⟨3, _⟩ => ⟨S3x640, .i32⟩
  | .hbm, ⟨4, _⟩ => ⟨S3x640, .f32⟩
  | .hbm, ⟨5, _⟩ => ⟨S3x640, .f32⟩
  | .hbm, ⟨6, _⟩ => ⟨S2x128, .f32⟩
  | .hbm, ⟨7, _⟩ => ⟨S4x128, .f32⟩
  | .hbm, ⟨8, _⟩ => ⟨S1x1, .f32⟩
  | .local _ .vmem, ⟨0, _⟩ => ⟨S17x3x640, .bf16⟩
  | .local _ .vmem, ⟨1, _⟩ => ⟨S3x640, .i32⟩
  | .local _ .vmem, ⟨2, _⟩ => ⟨S3x640, .i32⟩
  | .local _ .vmem, ⟨3, _⟩ => ⟨S3x640, .f32⟩
  | .local _ .vmem, ⟨4, _⟩ => ⟨S3x640, .f32⟩
  | .local _ .vmem, ⟨5, _⟩ => ⟨S2x128, .f32⟩
  | .local _ .vmem, ⟨6, _⟩ => ⟨S4x128, .f32⟩
  | .local _ .vmem, ⟨7, _⟩ => ⟨S1x1, .f32⟩
  | .local _ .vmem, ⟨8, _⟩ => ⟨S17x16x128, .f32⟩
  | .local _ .vmem, ⟨9, _⟩ => ⟨S1344x128, .f32⟩
  | .local _ .vmem, ⟨10, _⟩ => ⟨S2x17x16x128, .f32⟩
  | _, _ => ⟨S3x640x17, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v1_3 : Ref sig .tc := ⟨.hbm, 5, rfl⟩
abbrev main_v1_4 : Ref sig .tc := ⟨.hbm, 6, rfl⟩
abbrev main_v1_5 : Ref sig .tc := ⟨.hbm, 7, rfl⟩
abbrev main_v1_6 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [BitOps F]

abbrev grid0 : Pipeline.Grid := .none

@[reducible] def k0_t1_loop : Scf.Loop 32 :=
  let c0_i32_1554 : BitVec 32 := 0#32
  let c17_i32 : BitVec 32 := 17#32
  let v3888 : BitVec 32 := Scalar.addi c0_i32_1554 c17_i32
  let c1_i32_1555 : BitVec 32 := 1#32
  ⟨c0_i32_1554, v3888, c1_i32_1555⟩
def k0_off1 (k0_t1 : Fin k0_t1_loop.trips) : Fin 3 → Nat :=
  let c0_i32_1554 : BitVec 32 := 0#32
  let c1_i32_1555 : BitVec 32 := 1#32
  let arg11 : BitVec 32 := Scf.iv c0_i32_1554 c1_i32_1555 k0_t1
  let v3897 : Index := Scalar.indexCast arg11
  let c0_1568 : Index := 0#32
  let c0_1569 : Index := 0#32
  ![v3897.toNat, 0, 0]
def k0_off2 (k0_t1 : Fin k0_t1_loop.trips) : Fin 4 → Nat :=
  let c0_1575 : Index := 0#32
  let c0_i32_1554 : BitVec 32 := 0#32
  let c1_i32_1555 : BitVec 32 := 1#32
  let arg11 : BitVec 32 := Scf.iv c0_i32_1554 c1_i32_1555 k0_t1
  let v3920 : Index := Scalar.indexCast arg11
  let c0_1576 : Index := 0#32
  let c0_1577 : Index := 0#32
  ![0, v3920.toNat, 0, 0]
def k0_off3 (k0_t1 : Fin k0_t1_loop.trips) : Fin 4 → Nat :=
  let c1_1583 : Index := 1#32
  let c0_i32_1554 : BitVec 32 := 0#32
  let c1_i32_1555 : BitVec 32 := 1#32
  let arg11 : BitVec 32 := Scf.iv c0_i32_1554 c1_i32_1555 k0_t1
  let v3944 : Index := Scalar.indexCast arg11
  let c0_1584 : Index := 0#32
  let c0_1585 : Index := 0#32
  ![1, v3944.toNat, 0, 0]
@[reducible] def k0_t2_loop : Scf.Loop 32 :=
  let c0_i32_1558 : BitVec 32 := 0#32
  let c256_i32_1559 : BitVec 32 := 256#32
  let v3890 : BitVec 32 := Scalar.addi c0_i32_1558 c256_i32_1559
  let c1_i32_1560 : BitVec 32 := 1#32
  ⟨c0_i32_1558, v3890, c1_i32_1560⟩
@[reducible] def k0_t3_loop : Scf.Loop 32 :=
  let c0_i32_1569 : BitVec 32 := 0#32
  let c8_i32_1570 : BitVec 32 := 8#32
  let v3898 : BitVec 32 := Scalar.addi c0_i32_1569 c8_i32_1570
  let c1_i32_1571 : BitVec 32 := 1#32
  ⟨c0_i32_1569, v3898, c1_i32_1571⟩
def k0_off4 (k0_t2 : Fin k0_t2_loop.trips) (k0_t3 : Fin k0_t3_loop.trips) : Fin 4 → Nat :=
  let c1_i32_1594 : BitVec 32 := 1#32
  let c0_i32_1558 : BitVec 32 := 0#32
  let c1_i32_1560 : BitVec 32 := 1#32
  let arg11 : BitVec 32 := Scf.iv c0_i32_1558 c1_i32_1560 k0_t2
  let c7_i32 : BitVec 32 := 7#32
  let c0_i32_1569 : BitVec 32 := 0#32
  let c1_i32_1571 : BitVec 32 := 1#32
  let arg13 : BitVec 32 := Scf.iv c0_i32_1569 c1_i32_1571 k0_t3
  let v3961 : BitVec 32 := Scalar.subi c7_i32 arg13
  let v3962 : BitVec 32 := Scalar.shrui arg11 v3961
  let c1_i32_1593 : BitVec 32 := 1#32
  let v3963 : BitVec 32 := Scalar.andi v3962 c1_i32_1593
  let v3964 : BitVec 32 := Scalar.subi c1_i32_1594 v3963
  let v3966 : Index := Scalar.indexCast v3964
  let c0_i32_1595 : BitVec 32 := 0#32
  let v3965 : BitVec 32 := Scalar.addi c0_i32_1595 arg13
  let v3967 : Index := Scalar.indexCast v3965
  let c0_1596 : Index := 0#32
  let c0_1597 : Index := 0#32
  ![v3966.toNat, v3967.toNat, 0, 0]
def k0_off5 (k0_t2 : Fin k0_t2_loop.trips) : Fin 2 → Nat :=
  let c0_i32_1558 : BitVec 32 := 0#32
  let c1_i32_1560 : BitVec 32 := 1#32
  let arg11 : BitVec 32 := Scf.iv c0_i32_1558 c1_i32_1560 k0_t2
  let c0_i32_1578 : BitVec 32 := 0#32
  let v3920 : BitVec 1 := Scalar.cmpi .sgt arg11 c0_i32_1578
  let v3921 : BitVec 32 := Scalar.extui v3920
  let c0_i32_1579 : BitVec 32 := 0#32
  let v3922 : BitVec 1 := Scalar.cmpi .slt arg11 c0_i32_1579
  let v3923 : BitVec 32 := Scalar.extui v3922
  let v3924 : BitVec 32 := Scalar.subi v3921 v3923
  let c128_i32_1577 : BitVec 32 := 128#32
  let c0_i32_1580 : BitVec 32 := 0#32
  let v3925 : BitVec 1 := Scalar.cmpi .sgt c128_i32_1577 c0_i32_1580
  let v3926 : BitVec 32 := Scalar.extui v3925
  let c0_i32_1581 : BitVec 32 := 0#32
  let v3927 : BitVec 1 := Scalar.cmpi .slt c128_i32_1577 c0_i32_1581
  let v3928 : BitVec 32 := Scalar.extui v3927
  let v3929 : BitVec 32 := Scalar.subi v3926 v3928
  let v3930 : BitVec 1 := Scalar.cmpi .ne v3924 v3929
  let v3931 : BitVec 32 := Scalar.remsi arg11 c128_i32_1577
  let c0_i32_1582 : BitVec 32 := 0#32
  let v3932 : BitVec 1 := Scalar.cmpi .ne v3931 c0_i32_1582
  let v3933 : BitVec 1 := Scalar.andi v3930 v3932
  let v3919 : BitVec 32 := Scalar.divsi arg11 c128_i32_1577
  let c1_i32_1583 : BitVec 32 := 1#32
  let v3934 : BitVec 32 := Scalar.subi v3919 c1_i32_1583
  let v3935 : BitVec 32 := Scalar.select v3933 v3934 v3919
  let v3936 : Index := Scalar.indexCast v3935
  let c0_1584 : Index := 0#32
  ![v3936.toNat, 0]
@[reducible] def k0_t4_loop : Scf.Loop 32 :=
  let c0_i32_1563 : BitVec 32 := 0#32
  let c512_i32 : BitVec 32 := 512#32
  let v3893 : BitVec 32 := Scalar.addi c0_i32_1563 c512_i32
  let c1_i32_1564 : BitVec 32 := 1#32
  ⟨c0_i32_1563, v3893, c1_i32_1564⟩
@[reducible] def k0_t5_loop : Scf.Loop 32 :=
  let c0_i32_1569 : BitVec 32 := 0#32
  let c9_i32 : BitVec 32 := 9#32
  let v3898 : BitVec 32 := Scalar.addi c0_i32_1569 c9_i32
  let c1_i32_1570 : BitVec 32 := 1#32
  ⟨c0_i32_1569, v3898, c1_i32_1570⟩
def k0_off6 (k0_t4 : Fin k0_t4_loop.trips) (k0_t5 : Fin k0_t5_loop.trips) : Fin 4 → Nat :=
  let c1_i32_1594 : BitVec 32 := 1#32
  let c0_i32_1563 : BitVec 32 := 0#32
  let c1_i32_1564 : BitVec 32 := 1#32
  let arg11 : BitVec 32 := Scf.iv c0_i32_1563 c1_i32_1564 k0_t4
  let c8_i32_1592 : BitVec 32 := 8#32
  let c0_i32_1569 : BitVec 32 := 0#32
  let c1_i32_1570 : BitVec 32 := 1#32
  let arg13 : BitVec 32 := Scf.iv c0_i32_1569 c1_i32_1570 k0_t5
  let v3961 : BitVec 32 := Scalar.subi c8_i32_1592 arg13
  let v3962 : BitVec 32 := Scalar.shrui arg11 v3961
  let c1_i32_1593 : BitVec 32 := 1#32
  let v3963 : BitVec 32 := Scalar.andi v3962 c1_i32_1593
  let v3964 : BitVec 32 := Scalar.subi c1_i32_1594 v3963
  let v3966 : Index := Scalar.indexCast v3964
  let c8_i32_1595 : BitVec 32 := 8#32
  let v3965 : BitVec 32 := Scalar.addi c8_i32_1595 arg13
  let v3967 : Index := Scalar.indexCast v3965
  let c0_1596 : Index := 0#32
  let c0_1597 : Index := 0#32
  ![v3966.toNat, v3967.toNat, 0, 0]
def k0_off7 (k0_t4 : Fin k0_t4_loop.trips) : Fin 2 → Nat :=
  let c0_i32_1563 : BitVec 32 := 0#32
  let c1_i32_1564 : BitVec 32 := 1#32
  let arg11 : BitVec 32 := Scf.iv c0_i32_1563 c1_i32_1564 k0_t4
  let c0_i32_1577 : BitVec 32 := 0#32
  let v3920 : BitVec 1 := Scalar.cmpi .sgt arg11 c0_i32_1577
  let v3921 : BitVec 32 := Scalar.extui v3920
  let c0_i32_1578 : BitVec 32 := 0#32
  let v3922 : BitVec 1 := Scalar.cmpi .slt arg11 c0_i32_1578
  let v3923 : BitVec 32 := Scalar.extui v3922
  let v3924 : BitVec 32 := Scalar.subi v3921 v3923
  let c128_i32_1576 : BitVec 32 := 128#32
  let c0_i32_1579 : BitVec 32 := 0#32
  let v3925 : BitVec 1 := Scalar.cmpi .sgt c128_i32_1576 c0_i32_1579
  let v3926 : BitVec 32 := Scalar.extui v3925
  let c0_i32_1580 : BitVec 32 := 0#32
  let v3927 : BitVec 1 := Scalar.cmpi .slt c128_i32_1576 c0_i32_1580
  let v3928 : BitVec 32 := Scalar.extui v3927
  let v3929 : BitVec 32 := Scalar.subi v3926 v3928
  let v3930 : BitVec 1 := Scalar.cmpi .ne v3924 v3929
  let v3931 : BitVec 32 := Scalar.remsi arg11 c128_i32_1576
  let c0_i32_1581 : BitVec 32 := 0#32
  let v3932 : BitVec 1 := Scalar.cmpi .ne v3931 c0_i32_1581
  let v3933 : BitVec 1 := Scalar.andi v3930 v3932
  let v3919 : BitVec 32 := Scalar.divsi arg11 c128_i32_1576
  let c1_i32_1582 : BitVec 32 := 1#32
  let v3934 : BitVec 32 := Scalar.subi v3919 c1_i32_1582
  let v3935 : BitVec 32 := Scalar.select v3933 v3934 v3919
  let v3936 : Index := Scalar.indexCast v3935
  let c0_1583 : Index := 0#32
  ![v3936.toNat, 0]
abbrev stage0_0 : Fin 1 → Memref sig .tc .vmem S17x3x640 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x640 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x640 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== KernelIdeal.lean ====
variable {F : FTy → Type} [FloatOps F] [Named F]
def κ : String → Option EReal := fun
  | "inv_17" => some ((1 / 17 : ℝ) : EReal)
  | "inv_n" => some ((1 / 1920 : ℝ) : EReal)
  | "ln_256" => some ((Real.log 256 : ℝ) : EReal)
  | "ln_256_over_n" => some ((Real.log (2 / 15) : ℝ) : EReal)
  | "ln_512" => some ((Real.log 512 : ℝ) : EReal)
  | "ln_512_over_n" => some ((Real.log (4 / 15) : ℝ) : EReal)
  | "minus_2_over_ln_2" => some (((-2) * (Real.log 2)⁻¹ : ℝ) : EReal)
  | _ => none
-- ==== ReferenceIdeal.lean ====
abbrev S3x640x17 : Shape := ⟨3, ![3, 640, 17]⟩
abbrev S_ : Shape := ⟨0, ![]⟩
abbrev S8 : Shape := ⟨1, ![8]⟩
abbrev S9 : Shape := ⟨1, ![9]⟩
abbrev S3x640x8 : Shape := ⟨3, ![3, 640, 8]⟩
abbrev S1x1x8 : Shape := ⟨3, ![1, 1, 8]⟩
abbrev S3x640 : Shape := ⟨2, ![3, 640]⟩
abbrev S3x640x9 : Shape := ⟨3, ![3, 640, 9]⟩
abbrev S1x1x9 : Shape := ⟨3, ![1, 1, 9]⟩
abbrev S1920x17 : Shape := ⟨2, ![1920, 17]⟩
abbrev S1920x8 : Shape := ⟨2, ![1920, 8]⟩
abbrev S1920x16 : Shape := ⟨2, ![1920, 16]⟩
abbrev S256 : Shape := ⟨1, ![256]⟩
abbrev S8x1 : Shape := ⟨2, ![8, 1]⟩
abbrev S1x256 : Shape := ⟨2, ![1, 256]⟩
abbrev S8x256 : Shape := ⟨2, ![8, 256]⟩
abbrev S16x256 : Shape := ⟨2, ![16, 256]⟩
abbrev S1920x256 : Shape := ⟨2, ![1920, 256]⟩
abbrev S1920x9 : Shape := ⟨2, ![1920, 9]⟩
abbrev S1920x18 : Shape := ⟨2, ![1920, 18]⟩
abbrev S512 : Shape := ⟨1, ![512]⟩
abbrev S9x1 : Shape := ⟨2, ![9, 1]⟩
abbrev S1x512 : Shape := ⟨2, ![1, 512]⟩
abbrev S9x512 : Shape := ⟨2, ![9, 512]⟩
abbrev S18x512 : Shape := ⟨2, ![18, 512]⟩
abbrev S1920x512 : Shape := ⟨2, ![1920, 512]⟩
abbrev S2x128 : Shape := ⟨2, ![2, 128]⟩
abbrev S4x128 : Shape := ⟨2, ![4, 128]⟩
abbrev S1x1 : Shape := ⟨2, ![1, 1]⟩

abbrev nBuf : Space → Nat
  | .hbm => 205
  | .vmem => 0
  | .smem => 0
  | _ => 0

abbrev hbmTy0_0 (i : Nat) : BufTy := match i % 128 with
  | 0 => ⟨S3x640x17, .bf16⟩
  | 1 => ⟨S3x640x17, .f32⟩
  | 2 => ⟨S_, .f32⟩
  | 3 => ⟨S3x640x17, .f32⟩
  | 4 => ⟨S3x640x17, .i1⟩
  | 5 => ⟨S3x640x17, .i32⟩
  | 6 => ⟨S_, .f32⟩
  | 7 => ⟨S_, .f32⟩
  | 8 => ⟨S3x640x17, .f32⟩
  | 9 => ⟨S3x640x17, .f32⟩
  | 10 => ⟨S3x640x17, .f32⟩
  | 11 => ⟨S3x640x17, .f32⟩
  | 12 => ⟨S8, .i32⟩
  | 13 => ⟨S_, .i32⟩
  | 14 => ⟨S8, .i32⟩
  | 15 => ⟨S8, .i32⟩
  | 16 => ⟨S_, .i32⟩
  | 17 => ⟨S8, .i32⟩
  | 18 => ⟨S8, .i32⟩
  | 19 => ⟨S9, .i32⟩
  | 20 => ⟨S_, .i32⟩
  | 21 => ⟨S9, .i32⟩
  | 22 => ⟨S9, .i32⟩
  | 23 => ⟨S_, .i32⟩
  | 24 => ⟨S9, .i32⟩
  | 25 => ⟨S9, .i32⟩
  | 26 => ⟨S3x640x8, .i32⟩
  | 27 => ⟨S1x1x8, .i32⟩
  | 28 => ⟨S3x640x8, .i32⟩
  | 29 => ⟨S3x640x8, .i32⟩
  | 30 => ⟨S_, .i32⟩
  | 31 => ⟨S3x640, .i32⟩
  | 32 => ⟨S3x640x9, .i32⟩
  | 33 => ⟨S1x1x9, .i32⟩
  | 34 => ⟨S3x640x9, .i32⟩
  | 35 => ⟨S3x640x9, .i32⟩
  | 36 => ⟨S_, .i32⟩
  | 37 => ⟨S3x640, .i32⟩
  | 38 => ⟨S3x640x17, .f32⟩
  | 39 => ⟨S3x640x17, .f32⟩
  | 40 => ⟨S_, .f32⟩
  | 41 => ⟨S3x640, .f32⟩
  | 42 => ⟨S_, .f32⟩
  | 43 => ⟨S3x640, .f32⟩
  | 44 => ⟨S3x640, .f32⟩
  | 45 => ⟨S_, .f32⟩
  | 46 => ⟨S3x640x17, .f32⟩
  | 47 => ⟨S3x640x17, .f32⟩
  | 48 => ⟨S3x640x17, .f32⟩
  | 49 => ⟨S_, .f32⟩
  | 50 => ⟨S3x640x17, .f32⟩
  | 51 => ⟨S3x640x17, .f32⟩
  | 52 => ⟨S3x640x17, .f32⟩
  | 53 => ⟨S3x640x17, .f32⟩
  | 54 => ⟨S3x640x17, .i1⟩
  | 55 => ⟨S3x640x17, .f32⟩
  | 56 => ⟨S3x640x17, .f32⟩
  | 57 => ⟨S3x640x17, .f32⟩
  | 58 => ⟨S3x640x17, .f32⟩
  | 59 => ⟨S3x640x17, .f32⟩
  | 60 => ⟨S3x640x17, .f32⟩
  | 61 => ⟨S3x640x17, .f32⟩
  | 62 => ⟨S3x640x17, .f32⟩
  | 63 => ⟨S3x640x17, .f32⟩
  | 64 => ⟨S3x640x17, .f32⟩
  | 65 => ⟨S3x640x17, .f32⟩
  | 66 => ⟨S_, .f32⟩
  | 67 => ⟨S3x640x17, .f32⟩
  | 68 => ⟨S3x640x17, .f32⟩
  | 69 => ⟨S3x640x17, .f32⟩
  | 70 => ⟨S3x640x17, .f32⟩
  | 71 => ⟨S3x640x17, .i1⟩
  | 72 => ⟨S3x640x17, .f32⟩
  | 73 => ⟨S3x640x17, .f32⟩
  | 74 => ⟨S3x640x17, .f32⟩
  | 75 => ⟨S3x640x17, .f32⟩
  | 76 => ⟨S3x640x17, .f32⟩
  | 77 => ⟨S3x640x17, .f32⟩
  | 78 => ⟨S3x640x17, .f32⟩
  | 79 => ⟨S3x640x17, .f32⟩
  | 80 => ⟨S3x640x17, .f32⟩
  | 81 => ⟨S3x640x17, .f32⟩
  | 82 => ⟨S3x640x17, .f32⟩
  | 83 => ⟨S3x640x17, .f32⟩
  | 84 => ⟨S3x640x17, .f32⟩
  | 85 => ⟨S3x640x17, .f32⟩
  | 86 => ⟨S_, .f32⟩
  | 87 => ⟨S3x640, .f32⟩
  | 88 => ⟨S3x640, .f32⟩
  | 89 => ⟨S1920x17, .f32⟩
  | 90 => ⟨S1920x17, .f32⟩
  | 91 => ⟨S1920x8, .f32⟩
  | 92 => ⟨S1920x8, .f32⟩
  | 93 => ⟨S1920x16, .f32⟩
  | 94 => ⟨S256, .i32⟩
  | 95 => ⟨S8, .i32⟩
  | 96 => ⟨S_, .i32⟩
  | 97 => ⟨S8, .i32⟩
  | 98 => ⟨S8, .i32⟩
  | 99 => ⟨S8x1, .i32⟩
  | 100 => ⟨S1x256, .i32⟩
  | 101 => ⟨S8x256, .i32⟩
  | 102 => ⟨S8x256, .i32⟩
  | 103 => ⟨S8x256, .i32⟩
  | 104 => ⟨S_, .i32⟩
  | 105 => ⟨S8x256, .i32⟩
  | 106 => ⟨S8x256, .i32⟩
  | 107 => ⟨S_, .i32⟩
  | 108 => ⟨S8x256, .i32⟩
  | 109 => ⟨S8x256, .i32⟩
  | 110 => ⟨S16x256, .i32⟩
  | 111 => ⟨S16x256, .f32⟩
  | 112 => ⟨S1920x256, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S256, .f32⟩
  | 122 => ⟨S256, .f32⟩
  | 123 => ⟨S_, .f32⟩
  | 124 => ⟨S256, .f32⟩
  | 125 => ⟨S256, .i1⟩
  | 126 => ⟨S_, .f32⟩
  | 127 => ⟨S_, .f32⟩
  | _ => ⟨S3x640x17, .bf16⟩

abbrev hbmTy0_1 (i : Nat) : BufTy := match i % 128 with
  | 0 => ⟨S256, .f32⟩
  | 1 => ⟨S256, .f32⟩
  | 2 => ⟨S1x256, .f32⟩
  | 3 => ⟨S1920x256, .f32⟩
  | 4 => ⟨S1920x256, .f32⟩
  | 5 => ⟨S1920x256, .f32⟩
  | 6 => ⟨S_, .f32⟩
  | 7 => ⟨S256, .f32⟩
  | 8 => ⟨S256, .f32⟩
  | 9 => ⟨S256, .f32⟩
  | 10 => ⟨S256, .f32⟩
  | 11 => ⟨S256, .f32⟩
  | 12 => ⟨S256, .f32⟩
  | 13 => ⟨S256, .f32⟩
  | 14 => ⟨S256, .f32⟩
  | 15 => ⟨S256, .f32⟩
  | 16 => ⟨S_, .f32⟩
  | 17 => ⟨S_, .f32⟩
  | 18 => ⟨S1920x9, .f32⟩
  | 19 => ⟨S1920x9, .f32⟩
  | 20 => ⟨S1920x18, .f32⟩
  | 21 => ⟨S512, .i32⟩
  | 22 => ⟨S9, .i32⟩
  | 23 => ⟨S_, .i32⟩
  | 24 => ⟨S9, .i32⟩
  | 25 => ⟨S9, .i32⟩
  | 26 => ⟨S9x1, .i32⟩
  | 27 => ⟨S1x512, .i32⟩
  | 28 => ⟨S9x512, .i32⟩
  | 29 => ⟨S9x512, .i32⟩
  | 30 => ⟨S9x512, .i32⟩
  | 31 => ⟨S_, .i32⟩
  | 32 => ⟨S9x512, .i32⟩
  | 33 => ⟨S9x512, .i32⟩
  | 34 => ⟨S_, .i32⟩
  | 35 => ⟨S9x512, .i32⟩
  | 36 => ⟨S9x512, .i32⟩
  | 37 => ⟨S18x512, .i32⟩
  | 38 => ⟨S18x512, .f32⟩
  | 39 => ⟨S1920x512, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S512, .f32⟩
  | 49 => ⟨S512, .f32⟩
  | 50 => ⟨S_, .f32⟩
  | 51 => ⟨S512, .f32⟩
  | 52 => ⟨S512, .i1⟩
  | 53 => ⟨S_, .f32⟩
  | 54 => ⟨S_, .f32⟩
  | 55 => ⟨S512, .f32⟩
  | 56 => ⟨S512, .f32⟩
  | 57 => ⟨S1x512, .f32⟩
  | 58 => ⟨S1920x512, .f32⟩
  | 59 => ⟨S1920x512, .f32⟩
  | 60 => ⟨S1920x512, .f32⟩
  | 61 => ⟨S_, .f32⟩
  | 62 => ⟨S512, .f32⟩
  | 63 => ⟨S512, .f32⟩
  | 64 => ⟨S512, .f32⟩
  | 65 => ⟨S512, .f32⟩
  | 66 => ⟨S512, .f32⟩
  | 67 => ⟨S512, .f32⟩
  | 68 => ⟨S512, .f32⟩
  | 69 => ⟨S512, .f32⟩
  | 70 => ⟨S512, .f32⟩
  | 71 => ⟨S_, .f32⟩
  | 72 => ⟨S_, .f32⟩
  | 73 => ⟨S_, .f32⟩
  | 74 => ⟨S2x128, .f32⟩
  | 75 => ⟨S4x128, .f32⟩
  | 76 => ⟨S1x1, .f32⟩
  | _ => ⟨S3x640x17, .bf16⟩

abbrev hbmTy (i : Nat) : BufTy := match i / 128 with
  | 0 => hbmTy0_0 i
  | 1 => hbmTy0_1 i
  | _ => ⟨S3x640x17, .bf16⟩

abbrev bufTy : (tb : Table) → Fin (tcTables nBuf tb) → BufTy
  | .hbm, ⟨i, _⟩ => hbmTy i
  | _, _ => ⟨S3x640x17, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_3 : Ref sig .tc := ⟨.hbm, 20, rfl⟩
abbrev main_v12 : Ref sig .tc := ⟨.hbm, 21, rfl⟩
abbrev main_v13 : Ref sig .tc := ⟨.hbm, 22, rfl⟩
abbrev main_c_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_v32 : Ref sig .tc := ⟨.hbm, 47, rfl⟩
abbrev main_call1_v0 : Ref sig .tc := ⟨.hbm, 48, rfl⟩
abbrev main_call1_call0_cst : Ref sig .tc := ⟨.hbm, 49, rfl⟩
abbrev main_call1_call0_v0 : Ref sig .tc := ⟨.hbm, 50, rfl⟩
abbrev main_call1_call0_v1 : Ref sig .tc := ⟨.hbm, 51, rfl⟩
abbrev main_call1_call0_v2 : Ref sig .tc := ⟨.hbm, 52, rfl⟩
abbrev main_call1_call0_v3 : Ref sig .tc := ⟨.hbm, 53, rfl⟩
abbrev main_call1_call0_v4 : Ref sig .tc := ⟨.hbm, 54, rfl⟩
abbrev main_call1_call0_v5 : Ref sig .tc := ⟨.hbm, 55, rfl⟩
abbrev main_call1_call0_v6 : Ref sig .tc := ⟨.hbm, 56, rfl⟩
abbrev main_call1_call0_v7 : Ref sig .tc := ⟨.hbm, 57, rfl⟩
abbrev main_call1_call0_v8 : Ref sig .tc := ⟨.hbm, 58, rfl⟩
abbrev main_call1_call0_v9 : Ref sig .tc := ⟨.hbm, 59, rfl⟩
abbrev main_call1_call0_v10 : Ref sig .tc := ⟨.hbm, 60, rfl⟩
abbrev main_call1_call0_v11 : Ref sig .tc := ⟨.hbm, 61, rfl⟩
abbrev main_call1_v1 : Ref sig .tc := ⟨.hbm, 62, rfl⟩
abbrev main_v33 : Ref sig .tc := ⟨.hbm, 63, rfl⟩
abbrev main_v34 : Ref sig .tc := ⟨.hbm, 64, rfl⟩
abbrev main_call2_v0 : Ref sig .tc := ⟨.hbm, 65, rfl⟩
abbrev main_call2_call0_cst : Ref sig .tc := ⟨.hbm, 66, rfl⟩
abbrev main_call2_call0_v0 : Ref sig .tc := ⟨.hbm, 67, rfl⟩
abbrev main_call2_call0_v1 : Ref sig .tc := ⟨.hbm, 68, rfl⟩
abbrev main_call2_call0_v2 : Ref sig .tc := ⟨.hbm, 69, rfl⟩
abbrev main_call2_call0_v3 : Ref sig .tc := ⟨.hbm, 70, rfl⟩
abbrev main_call2_call0_v4 : Ref sig .tc := ⟨.hbm, 71, rfl⟩
abbrev main_call2_call0_v5 : Ref sig .tc := ⟨.hbm, 72, rfl⟩
abbrev main_call2_call0_v6 : Ref sig .tc := ⟨.hbm, 73, rfl⟩
abbrev main_call2_call0_v7 : Ref sig .tc := ⟨.hbm, 74, rfl⟩
abbrev main_call2_call0_v8 : Ref sig .tc := ⟨.hbm, 75, rfl⟩
abbrev main_call2_call0_v9 : Ref sig .tc := ⟨.hbm, 76, rfl⟩
abbrev main_call2_call0_v10 : Ref sig .tc := ⟨.hbm, 77, rfl⟩
abbrev main_call2_call0_v11 : Ref sig .tc := ⟨.hbm, 78, rfl⟩
abbrev main_call2_v1 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_cst_10 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_c_11 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_c_12 : Ref sig .tc := ⟨.hbm, 104, rfl⟩
abbrev main_v57 : Ref sig .tc := ⟨.hbm, 105, rfl⟩
abbrev main_v58 : Ref sig .tc := ⟨.hbm, 106, rfl⟩
abbrev main_c_13 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_cst_14 : Ref sig .tc := ⟨.hbm, 113, rfl⟩
abbrev main_v64 : Ref sig .tc := ⟨.hbm, 114, rfl⟩
abbrev main_cst_15 : Ref sig .tc := ⟨.hbm, 115, rfl⟩
abbrev main_v65 : Ref sig .tc := ⟨.hbm, 116, rfl⟩
abbrev main_cst_16 : Ref sig .tc := ⟨.hbm, 117, rfl⟩
abbrev main_v66 : Ref sig .tc := ⟨.hbm, 118, rfl⟩
abbrev main_v67 : Ref sig .tc := ⟨.hbm, 119, rfl⟩
abbrev main_cst_17 : Ref sig .tc := ⟨.hbm, 120, rfl⟩
abbrev main_v68 : Ref sig .tc := ⟨.hbm, 121, rfl⟩
abbrev main_v69 : Ref sig .tc := ⟨.hbm, 122, rfl⟩
abbrev main_cst_18 : Ref sig .tc := ⟨.hbm, 123, rfl⟩
abbrev main_v70 : Ref sig .tc := ⟨.hbm, 124, rfl⟩
abbrev main_v71 : Ref sig .tc := ⟨.hbm, 125, rfl⟩
abbrev main_cst_19 : Ref sig .tc := ⟨.hbm, 126, rfl⟩
abbrev main_call3_v0 : Ref sig .tc := ⟨.hbm, 127, rfl⟩
abbrev main_call3_v1 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_cst_20 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_cst_21 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_c_22 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_c_23 : Ref sig .tc := ⟨.hbm, 159, rfl⟩
abbrev main_v99 : Ref sig .tc := ⟨.hbm, 160, rfl⟩
abbrev main_v100 : Ref sig .tc := ⟨.hbm, 161, rfl⟩
abbrev main_c_24 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_cst_25 : Ref sig .tc := ⟨.hbm, 168, rfl⟩
abbrev main_v106 : Ref sig .tc := ⟨.hbm, 169, rfl⟩
abbrev main_cst_26 : Ref sig .tc := ⟨.hbm, 170, rfl⟩
abbrev main_v107 : Ref sig .tc := ⟨.hbm, 171, rfl⟩
abbrev main_cst_27 : Ref sig .tc := ⟨.hbm, 172, rfl⟩
abbrev main_v108 : Ref sig .tc := ⟨.hbm, 173, rfl⟩
abbrev main_v109 : Ref sig .tc := ⟨.hbm, 174, rfl⟩
abbrev main_cst_28 : Ref sig .tc := ⟨.hbm, 175, rfl⟩
abbrev main_v110 : Ref sig .tc := ⟨.hbm, 176, rfl⟩
abbrev main_v111 : Ref sig .tc := ⟨.hbm, 177, rfl⟩
abbrev main_cst_29 : Ref sig .tc := ⟨.hbm, 178, rfl⟩
abbrev main_v112 : Ref sig .tc := ⟨.hbm, 179, rfl⟩
abbrev main_v113 : Ref sig .tc := ⟨.hbm, 180, rfl⟩
abbrev main_cst_30 : Ref sig .tc := ⟨.hbm, 181, rfl⟩
abbrev main_call4_v0 : Ref sig .tc := ⟨.hbm, 182, rfl⟩
abbrev main_call4_v1 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_cst_31 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_cst_32 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩

abbrev nD : Nat := 1
abbrev τ : Topo := Topo.v7x

variable {F : FTy → Type} [FloatOps F]
-- ==== Proof.KernelLoops.lean ====
/-
  The two code loops of `Kernel`'s fallback branch, as invariants over the state they carry.

  For each code the loop sums the code's log-probabilities over the channels (an inner loop), reduces over all the tokens and
  stores one lane of one row of the result, which it loads, changes in that lane and stores back. So the state before a trip is the
  result's contents and the carried divergence, by a recursion on the trip number.
-/
module

public import proofs.«01_k».proof.Proof.Gen.Kernel.Loops

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- The loops carry no variants. -/
abbrev 𝒱₀ : Variants := Variants.none

variable (c : Dev nD) (arg0 : Memref sig .tc .vmem S17x3x640 .bf16) (harg0 : arg0.IsWhole) (arg1 : Memref sig .tc .vmem S3x640 .i32) (harg1 : arg1.IsWhole) (arg2 : Memref sig .tc .vmem S3x640 .i32) (harg2 : arg2.IsWhole) (arg3 : Memref sig .tc .vmem S3x640 .f32) (harg3 : arg3.IsWhole) (arg4 : Memref sig .tc .vmem S3x640 .f32) (harg4 : arg4.IsWhole) (arg5 : Memref sig .tc .vmem S2x128 .f32) (harg5 : arg5.IsWhole) (arg6 : Memref sig .tc .vmem S4x128 .f32) (harg6 : arg6.IsWhole) (arg7 : Memref sig .tc .vmem S1x1 .f32) (harg7 : arg7.IsWhole) (arg8 : Memref sig .tc .vmem S17x16x128 .f32) (harg8 : arg8.IsWhole) (arg9 : Memref sig .tc .vmem S1344x128 .f32) (harg9 : arg9.IsWhole) (arg10 : Memref sig .tc .vmem S2x17x16x128 .f32) (harg10 : arg10.IsWhole)

/-- One trip's resources: the log-sigmoids, which it reads, and the result row buffer, which it reads and writes. -/
abbrev Trip_t2 (X : BufTy.Contents (Elt F) arg10.view.ty) (f : BufTy.Contents (Elt F) arg5.view.ty) : sProp 𝕄 :=
  iprop((arg10.view.loc (c : Thread nD τ) ↦[arg10.view.set]{fullShare} X) ∗ (arg5.view.loc (c : Thread nD τ) ↦[arg5.view.set]{fullShare} f))

/-- One trip at a symbolic code: the pieces it stores, as a function of the row buffer it finds, and what it adds to the carried value. -/
@[irreducible] def trip_t2 (X : BufTy.Contents (Elt F) arg10.view.ty) (k : Fin k0_t2_loop.trips) :
    { LR : (BufTy.Contents (Elt F) arg5.view.ty → List (View.Piece (Elt F) S2x128 .f32)) × (FVec F S1x1 .f32 → FVec F S1x1 .f32) //
      ∀ (f : BufTy.Contents (Elt F) arg5.view.ty) (acc : FVec F S1x1 .f32),
      Trip_t2 (F := F) c arg5 arg10 X f
      ⊢ wp frame (wpE (defs₀ (F := F)) 𝒱₀ (c : Thread nD τ) none) Set.univ (k0_t2_body (F := F) arg0 harg0 arg1 harg1 arg2 harg2 arg3 harg3 arg4 harg4 arg5 harg5 arg6 harg6 arg7 harg7 arg8 harg8 arg9 harg9 arg10 harg10 k acc)
          (fun yld => iprop(⌜yld = LR.2 acc⌝ ∗ Trip_t2 (F := F) c arg5 arg10 X (arg5.view.writes (Elt F) f (LR.1 f)))) } := by
  refine ⟨⟨?L, ?R⟩, fun f acc => ?run⟩
  case run =>
    unfold k0_t2_body
    dsimp only
    iintro ⟨H10, Hu⟩
    sl_exec
    sl_step
    sl_close

/-- The row buffer before trip `k`, from the one at the loop's entry. -/
def row_t2 (X : BufTy.Contents (Elt F) arg10.view.ty) (G : BufTy.Contents (Elt F) arg5.view.ty) : ℕ → BufTy.Contents (Elt F) arg5.view.ty
  | 0 => G
  | k + 1 => if h : k < k0_t2_loop.trips then
      arg5.view.writes (Elt F) (row_t2 X G k) ((trip_t2 (F := F) c arg0 harg0 arg1 harg1 arg2 harg2 arg3 harg3 arg4 harg4 arg5 harg5 arg6 harg6 arg7 harg7 arg8 harg8 arg9 harg9 arg10 harg10 X ⟨k, h⟩).1.1 (row_t2 X G k))
    else row_t2 X G k

/-- The carried value before trip `k`. -/
def kl_t2 (X : BufTy.Contents (Elt F) arg10.view.ty) (init : FVec F S1x1 .f32) : ℕ → FVec F S1x1 .f32
  | 0 => init
  | k + 1 => if h : k < k0_t2_loop.trips then (trip_t2 (F := F) c arg0 harg0 arg1 harg1 arg2 harg2 arg3 harg3 arg4 harg4 arg5 harg5 arg6 harg6 arg7 harg7 arg8 harg8 arg9 harg9 arg10 harg10 X ⟨k, h⟩).1.2 (kl_t2 X init k) else kl_t2 X init k

/-- One more trip of the first loop over codes, in the stored rows. -/
theorem row_t2_succ (X : BufTy.Contents (Elt F) arg10.view.ty) (G : BufTy.Contents (Elt F) arg5.view.ty) (k : Fin k0_t2_loop.trips) :
    row_t2 (F := F) c arg0 harg0 arg1 harg1 arg2 harg2 arg3 harg3 arg4 harg4 arg5 harg5 arg6 harg6 arg7 harg7 arg8 harg8 arg9 harg9 arg10 harg10 X G (k.val + 1)
      = arg5.view.writes (Elt F) (row_t2 (F := F) c arg0 harg0 arg1 harg1 arg2 harg2 arg3 harg3 arg4 harg4 arg5 harg5 arg6 harg6 arg7 harg7 arg8 harg8 arg9 harg9 arg10 harg10 X G k.val) ((trip_t2 (F := F) c arg0 harg0 arg1 harg1 arg2 harg2 arg3 harg3 arg4 harg4 arg5 harg5 arg6 harg6 arg7 harg7 arg8 harg8 arg9 harg9 arg10 harg10 X k).1.1 (row_t2 (F := F) c arg0 harg0 arg1 harg1 arg2 harg2 arg3 harg3 arg4 harg4 arg5 harg5 arg6 harg6 arg7 harg7 arg8 harg8 arg9 harg9 arg10 harg10 X G k.val)) := by
  rw [row_t2.eq_2]; exact dif_pos k.isLt

/-- One more trip of the first loop over codes, in the carried divergence. -/
theorem kl_t2_succ (X : BufTy.Contents (Elt F) arg10.view.ty) (init : FVec F S1x1 .f32) (k : Fin k0_t2_loop.trips) :
    kl_t2 (F := F) c arg0 harg0 arg1 harg1 arg2 harg2 arg3 harg3 arg4 harg4 arg5 harg5 arg6 harg6 arg7 harg7 arg8 harg8 arg9 harg9 arg10 harg10 X init (k.val + 1) = (trip_t2 (F := F) c arg0 harg0 arg1 harg1 arg2 harg2 arg3 harg3 arg4 harg4 arg5 harg5 arg6 harg6 arg7 harg7 arg8 harg8 arg9 harg9 arg10 harg10 X k).1.2 (kl_t2 (F := F) c arg0 harg0 arg1 harg1 arg2 harg2 arg3 harg3 arg4 harg4 arg5 harg5 arg6 harg6 arg7 harg7 arg8 harg8 arg9 harg9 arg10 harg10 X init k.val) := by
  rw [kl_t2.eq_2]; exact dif_pos k.isLt

/-- The invariant before trip `k`: the buffers and the carried value at the state's, the row buffer's from some contents at the loop's
    entry (the loop stores over all of them). -/
abbrev inv_t2 (X : BufTy.Contents (Elt F) arg10.view.ty) (init : FVec F S1x1 .f32) (k : ℕ) (acc : FVec F S1x1 .f32) : sProp 𝕄 :=
  iprop((arg10.view.loc (c : Thread nD τ) ↦[arg10.view.set]{fullShare} X)
    ∗ (∃ f, (arg5.view.loc (c : Thread nD τ) ↦[arg5.view.set]{fullShare} f) ∗ ⌜k = 0 ∨ ∃ G, f = row_t2 (F := F) c arg0 harg0 arg1 harg1 arg2 harg2 arg3 harg3 arg4 harg4 arg5 harg5 arg6 harg6 arg7 harg7 arg8 harg8 arg9 harg9 arg10 harg10 X G k⌝)
    ∗ ⌜acc = kl_t2 (F := F) c arg0 harg0 arg1 harg1 arg2 harg2 arg3 harg3 arg4 harg4 arg5 harg5 arg6 harg6 arg7 harg7 arg8 harg8 arg9 harg9 arg10 harg10 X init k⌝)

set_option warn.classDefReducibility false in
/-- The loop by its invariant. -/
@[sl_loop] def loopInv_k0_t2 (X : BufTy.Contents (Elt F) arg10.view.ty) (init : FVec F S1x1 .f32) :
    LoopInvTy_k0_t2 (F := F) Unit ℕ (UR sig nD τ) ℕ 𝒱₀ c none Set.univ arg0 harg0 arg1 harg1 arg2 harg2 arg3 harg3 arg4 harg4 arg5 harg5 arg6 harg6 arg7 harg7 arg8 harg8 arg9 harg9 arg10 harg10 init where
  inv := inv_t2 (F := F) c arg0 harg0 arg1 harg1 arg2 harg2 arg3 harg3 arg4 harg4 arg5 harg5 arg6 harg6 arg7 harg7 arg8 harg8 arg9 harg9 arg10 harg10 X init
  step k acc := by
    iintro ⟨H10, ⟨%f, Hu, %hf⟩, %hacc⟩
    obtain ⟨G, rfl⟩ : ∃ G, f = row_t2 (F := F) c arg0 harg0 arg1 harg1 arg2 harg2 arg3 harg3 arg4 harg4 arg5 harg5 arg6 harg6 arg7 harg7 arg8 harg8 arg9 harg9 arg10 harg10 X G k.val := hf.elim (fun h => ⟨f, by rw [h]; rfl⟩) id
    subst hacc
    iapply (wp_wand_r Idealize.ShloMosaic.frame (wpE (defs₀ (F := F)) 𝒱₀ (c : Thread nD τ) none) Set.univ)
    isplitl [H10 Hu]
    · iapply ((trip_t2 (F := F) c arg0 harg0 arg1 harg1 arg2 harg2 arg3 harg3 arg4 harg4 arg5 harg5 arg6 harg6 arg7 harg7 arg8 harg8 arg9 harg9 arg10 harg10 X k).2 _ _)
      isplitl [H10]; · iexact H10
      iexact Hu
    · iintro %yld ⟨%h_res, H10, Hu⟩
      isplitl [H10]; · iexact H10
      rw [kl_t2_succ]
      isplitl [Hu]
      · iexists _; isplitl [Hu]; · iexact Hu
        ipureintro; exact .inr ⟨G, (row_t2_succ (F := F) c arg0 harg0 arg1 harg1 arg2 harg2 arg3 harg3 arg4 harg4 arg5 harg5 arg6 harg6 arg7 harg7 arg8 harg8 arg9 harg9 arg10 harg10 X G k).symm⟩
      ipureintro; exact h_res

/-- One trip's resources: the log-sigmoids, which it reads, and the result row buffer, which it reads and writes. -/
abbrev Trip_t4 (X : BufTy.Contents (Elt F) arg10.view.ty) (f : BufTy.Contents (Elt F) arg6.view.ty) : sProp 𝕄 :=
  iprop((arg10.view.loc (c : Thread nD τ) ↦[arg10.view.set]{fullShare} X) ∗ (arg6.view.loc (c : Thread nD τ) ↦[arg6.view.set]{fullShare} f))

/-- One trip at a symbolic code: the pieces it stores, as a function of the row buffer it finds, and what it adds to the carried value. -/
@[irreducible] def trip_t4 (X : BufTy.Contents (Elt F) arg10.view.ty) (k : Fin k0_t4_loop.trips) :
    { LR : (BufTy.Contents (Elt F) arg6.view.ty → List (View.Piece (Elt F) S4x128 .f32)) × (FVec F S1x1 .f32 → FVec F S1x1 .f32) //
      ∀ (f : BufTy.Contents (Elt F) arg6.view.ty) (acc : FVec F S1x1 .f32),
      Trip_t4 (F := F) c arg6 arg10 X f
      ⊢ wp frame (wpE (defs₀ (F := F)) 𝒱₀ (c : Thread nD τ) none) Set.univ (k0_t4_body (F := F) arg0 harg0 arg1 harg1 arg2 harg2 arg3 harg3 arg4 harg4 arg5 harg5 arg6 harg6 arg7 harg7 arg8 harg8 arg9 harg9 arg10 harg10 k acc)
          (fun yld => iprop(⌜yld = LR.2 acc⌝ ∗ Trip_t4 (F := F) c arg6 arg10 X (arg6.view.writes (Elt F) f (LR.1 f)))) } := by
  refine ⟨⟨?L, ?R⟩, fun f acc => ?run⟩
  case run =>
    unfold k0_t4_body
    dsimp only
    iintro ⟨H10, Hu⟩
    sl_exec
    sl_step
    sl_close

/-- The row buffer before trip `k`, from the one at the loop's entry. -/
def row_t4 (X : BufTy.Contents (Elt F) arg10.view.ty) (G : BufTy.Contents (Elt F) arg6.view.ty) : ℕ → BufTy.Contents (Elt F) arg6.view.ty
  | 0 => G
  | k + 1 => if h : k < k0_t4_loop.trips then
      arg6.view.writes (Elt F) (row_t4 X G k) ((trip_t4 (F := F) c arg0 harg0 arg1 harg1 arg2 harg2 arg3 harg3 arg4 harg4 arg5 harg5 arg6 harg6 arg7 harg7 arg8 harg8 arg9 harg9 arg10 harg10 X ⟨k, h⟩).1.1 (row_t4 X G k))
    else row_t4 X G k

/-- The carried value before trip `k`. -/
def kl_t4 (X : BufTy.Contents (Elt F) arg10.view.ty) (init : FVec F S1x1 .f32) : ℕ → FVec F S1x1 .f32
  | 0 => init
  | k + 1 => if h : k < k0_t4_loop.trips then (trip_t4 (F := F) c arg0 harg0 arg1 harg1 arg2 harg2 arg3 harg3 arg4 harg4 arg5 harg5 arg6 harg6 arg7 harg7 arg8 harg8 arg9 harg9 arg10 harg10 X ⟨k, h⟩).1.2 (kl_t4 X init k) else kl_t4 X init k

/-- One more trip of the second loop over codes, in the stored rows. -/
theorem row_t4_succ (X : BufTy.Contents (Elt F) arg10.view.ty) (G : BufTy.Contents (Elt F) arg6.view.ty) (k : Fin k0_t4_loop.trips) :
    row_t4 (F := F) c arg0 harg0 arg1 harg1 arg2 harg2 arg3 harg3 arg4 harg4 arg5 harg5 arg6 harg6 arg7 harg7 arg8 harg8 arg9 harg9 arg10 harg10 X G (k.val + 1)
      = arg6.view.writes (Elt F) (row_t4 (F := F) c arg0 harg0 arg1 harg1 arg2 harg2 arg3 harg3 arg4 harg4 arg5 harg5 arg6 harg6 arg7 harg7 arg8 harg8 arg9 harg9 arg10 harg10 X G k.val) ((trip_t4 (F := F) c arg0 harg0 arg1 harg1 arg2 harg2 arg3 harg3 arg4 harg4 arg5 harg5 arg6 harg6 arg7 harg7 arg8 harg8 arg9 harg9 arg10 harg10 X k).1.1 (row_t4 (F := F) c arg0 harg0 arg1 harg1 arg2 harg2 arg3 harg3 arg4 harg4 arg5 harg5 arg6 harg6 arg7 harg7 arg8 harg8 arg9 harg9 arg10 harg10 X G k.val)) := by
  rw [row_t4.eq_2]; exact dif_pos k.isLt

/-- One more trip of the second loop over codes, in the carried divergence. -/
theorem kl_t4_succ (X : BufTy.Contents (Elt F) arg10.view.ty) (init : FVec F S1x1 .f32) (k : Fin k0_t4_loop.trips) :
    kl_t4 (F := F) c arg0 harg0 arg1 harg1 arg2 harg2 arg3 harg3 arg4 harg4 arg5 harg5 arg6 harg6 arg7 harg7 arg8 harg8 arg9 harg9 arg10 harg10 X init (k.val + 1) = (trip_t4 (F := F) c arg0 harg0 arg1 harg1 arg2 harg2 arg3 harg3 arg4 harg4 arg5 harg5 arg6 harg6 arg7 harg7 arg8 harg8 arg9 harg9 arg10 harg10 X k).1.2 (kl_t4 (F := F) c arg0 harg0 arg1 harg1 arg2 harg2 arg3 harg3 arg4 harg4 arg5 harg5 arg6 harg6 arg7 harg7 arg8 harg8 arg9 harg9 arg10 harg10 X init k.val) := by
  rw [kl_t4.eq_2]; exact dif_pos k.isLt

/-- The invariant before trip `k`: the buffers and the carried value at the state's, the row buffer's from some contents at the loop's
    entry (the loop stores over all of them). -/
abbrev inv_t4 (X : BufTy.Contents (Elt F) arg10.view.ty) (init : FVec F S1x1 .f32) (k : ℕ) (acc : FVec F S1x1 .f32) : sProp 𝕄 :=
  iprop((arg10.view.loc (c : Thread nD τ) ↦[arg10.view.set]{fullShare} X)
    ∗ (∃ f, (arg6.view.loc (c : Thread nD τ) ↦[arg6.view.set]{fullShare} f) ∗ ⌜k = 0 ∨ ∃ G, f = row_t4 (F := F) c arg0 harg0 arg1 harg1 arg2 harg2 arg3 harg3 arg4 harg4 arg5 harg5 arg6 harg6 arg7 harg7 arg8 harg8 arg9 harg9 arg10 harg10 X G k⌝)
    ∗ ⌜acc = kl_t4 (F := F) c arg0 harg0 arg1 harg1 arg2 harg2 arg3 harg3 arg4 harg4 arg5 harg5 arg6 harg6 arg7 harg7 arg8 harg8 arg9 harg9 arg10 harg10 X init k⌝)

set_option warn.classDefReducibility false in
/-- The loop by its invariant. -/
@[sl_loop] def loopInv_k0_t4 (X : BufTy.Contents (Elt F) arg10.view.ty) (init : FVec F S1x1 .f32) :
    LoopInvTy_k0_t4 (F := F) Unit ℕ (UR sig nD τ) ℕ 𝒱₀ c none Set.univ arg0 harg0 arg1 harg1 arg2 harg2 arg3 harg3 arg4 harg4 arg5 harg5 arg6 harg6 arg7 harg7 arg8 harg8 arg9 harg9 arg10 harg10 init where
  inv := inv_t4 (F := F) c arg0 harg0 arg1 harg1 arg2 harg2 arg3 harg3 arg4 harg4 arg5 harg5 arg6 harg6 arg7 harg7 arg8 harg8 arg9 harg9 arg10 harg10 X init
  step k acc := by
    iintro ⟨H10, ⟨%f, Hu, %hf⟩, %hacc⟩
    obtain ⟨G, rfl⟩ : ∃ G, f = row_t4 (F := F) c arg0 harg0 arg1 harg1 arg2 harg2 arg3 harg3 arg4 harg4 arg5 harg5 arg6 harg6 arg7 harg7 arg8 harg8 arg9 harg9 arg10 harg10 X G k.val := hf.elim (fun h => ⟨f, by rw [h]; rfl⟩) id
    subst hacc
    iapply (wp_wand_r Idealize.ShloMosaic.frame (wpE (defs₀ (F := F)) 𝒱₀ (c : Thread nD τ) none) Set.univ)
    isplitl [H10 Hu]
    · iapply ((trip_t4 (F := F) c arg0 harg0 arg1 harg1 arg2 harg2 arg3 harg3 arg4 harg4 arg5 harg5 arg6 harg6 arg7 harg7 arg8 harg8 arg9 harg9 arg10 harg10 X k).2 _ _)
      isplitl [H10]; · iexact H10
      iexact Hu
    · iintro %yld ⟨%h_res, H10, Hu⟩
      isplitl [H10]; · iexact H10
      rw [kl_t4_succ]
      isplitl [Hu]
      · iexists _; isplitl [Hu]; · iexact Hu
        ipureintro; exact .inr ⟨G, (row_t4_succ (F := F) c arg0 harg0 arg1 harg1 arg2 harg2 arg3 harg3 arg4 harg4 arg5 harg5 arg6 harg6 arg7 harg7 arg8 harg8 arg9 harg9 arg10 harg10 X G k).symm⟩
      ipureintro; exact h_res

end Cert.Proof.Kernel

end
-- ==== Proof.KernelStretch.lean ====
/-
  The run of `Kernel`'s body up to its fallback branch, for any buffers.

  Each memory operation is one step of the separation logic; the contents that the run leaves in each buffer are named as it goes,
  as lists of the pieces stored. The run stops at the branch on the logits' size: what remains to be shown there is the first
  component of `stretch`.
-/
module

public import proofs.«01_k».proof.Proof.KernelLoops

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

variable (c : Dev nD) (arg0 : Memref sig .tc .vmem S17x3x640 .bf16) (harg0 : arg0.IsWhole) (arg1 : Memref sig .tc .vmem S3x640 .i32) (harg1 : arg1.IsWhole) (arg2 : Memref sig .tc .vmem S3x640 .i32) (harg2 : arg2.IsWhole) (arg3 : Memref sig .tc .vmem S3x640 .f32) (harg3 : arg3.IsWhole) (arg4 : Memref sig .tc .vmem S3x640 .f32) (harg4 : arg4.IsWhole) (arg5 : Memref sig .tc .vmem S2x128 .f32) (harg5 : arg5.IsWhole) (arg6 : Memref sig .tc .vmem S4x128 .f32) (harg6 : arg6.IsWhole) (arg7 : Memref sig .tc .vmem S1x1 .f32) (harg7 : arg7.IsWhole) (arg8 : Memref sig .tc .vmem S17x16x128 .f32) (harg8 : arg8.IsWhole) (arg9 : Memref sig .tc .vmem S1344x128 .f32) (harg9 : arg9.IsWhole) (arg10 : Memref sig .tc .vmem S2x17x16x128 .f32) (harg10 : arg10.IsWhole)
  (f0 : BufTy.Contents (Elt F) arg0.view.ty) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty)
  (Post : BufTy.Contents (Elt F) arg1.view.ty → BufTy.Contents (Elt F) arg2.view.ty → BufTy.Contents (Elt F) arg3.view.ty → BufTy.Contents (Elt F) arg4.view.ty → BufTy.Contents (Elt F) arg5.view.ty → BufTy.Contents (Elt F) arg6.view.ty → BufTy.Contents (Elt F) arg7.view.ty → Prop)

/-- From the eleven buffers held at their contents, the body runs to the continuation that takes the input as it was, the seven results at
    contents of which `Post` holds, and the three scratch buffers at something. -/
abbrev Runs : Prop :=
  ∀ (Q : PUnit → sProp 𝕄),
    iprop((arg0.view.loc (c : Thread nD τ) ↦[arg0.view.set]{fullShare} f0) ∗ (arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (iprop((arg0.view.loc (c : Thread nD τ) ↦[arg0.view.set]{fullShare} f0) ∗ (∃ g1 g2 g3 g4 g5 g6 g7, ⌜Post g1 g2 g3 g4 g5 g6 g7⌝ ∗ (arg1.view.loc (c : Thread nD τ) ↦[arg1.view.set]{fullShare} g1) ∗ (arg2.view.loc (c : Thread nD τ) ↦[arg2.view.set]{fullShare} g2) ∗ (arg3.view.loc (c : Thread nD τ) ↦[arg3.view.set]{fullShare} g3) ∗ (arg4.view.loc (c : Thread nD τ) ↦[arg4.view.set]{fullShare} g4) ∗ (arg5.view.loc (c : Thread nD τ) ↦[arg5.view.set]{fullShare} g5) ∗ (arg6.view.loc (c : Thread nD τ) ↦[arg6.view.set]{fullShare} g6) ∗ (arg7.view.loc (c : Thread nD τ) ↦[arg7.view.set]{fullShare} g7)) ∗ (∃ g8, (arg8.view.loc (c : Thread nD τ) ↦[arg8.view.set]{fullShare} g8)) ∗ (∃ g9, (arg9.view.loc (c : Thread nD τ) ↦[arg9.view.set]{fullShare} g9)) ∗ (∃ g10, (arg10.view.loc (c : Thread nD τ) ↦[arg10.view.set]{fullShare} g10))) -∗ Q ⟨⟩))
    ⊢ wp frame (wpE (defs₀ (F := F)) 𝒱₀ (c : Thread nD τ) none) Set.univ
        (cc0__body (F := F) arg0 harg0 arg1 harg1 arg2 harg2 arg3 harg3 arg4 harg4 arg5 harg5 arg6 harg6 arg7 harg7 arg8 harg8 arg9 harg9 arg10 harg10) Q

/-- The body's run up to the branch. -/
def stretch : Σ' (G : Prop), G → Runs (F := F) c arg0 harg0 arg1 harg1 arg2 harg2 arg3 harg3 arg4 harg4 arg5 harg5 arg6 harg6 arg7 harg7 arg8 harg8 arg9 harg9 arg10 harg10 f0 f1 f2 f3 f4 f5 f6 f7 f8 f9 f10 Post := by
  sl_stretch
  intro Q
  iintro ⟨H0, H1, H2, H3, H4, H5, H6, H7, H8, H9, H10, Hk⟩
  sl_unfold [cc0__body]
  sl_exec_parts
  sl_seam

end Cert.Proof.Kernel

end
-- ==== Proof.KernelFrame.lean ====
/-
  The frame of `Kernel`: the body runs to its end from any buffers, leaving its input as it found it.

  Nothing is said here of the contents of the results: the run's two ends, at the branch taken and not taken, each give every buffer
  back at some contents. The pipeline around the body is the library's, with the seven results' windows forgotten.
-/
module

public import proofs.«01_k».proof.Proof.KernelStretch
public import proofs.«01_k».proof.Proof.Gen.Kernel.Frame
public import Idealize.ShloMosaic.PureOps.BitExact

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

variable {F : FTy → Type} [BitOps F]

local notation "𝕄" => MT nD τ sig Unit (Elt F) ℕ (UR sig nD τ) ℕ

set_option maxHeartbeats 4000000 in
/-- The body runs to its end from any contents. -/
theorem bodyRun (c : Dev nD) (arg0 : Memref sig .tc .vmem S17x3x640 .bf16) (harg0 : arg0.IsWhole) (arg1 : Memref sig .tc .vmem S3x640 .i32) (harg1 : arg1.IsWhole) (arg2 : Memref sig .tc .vmem S3x640 .i32) (harg2 : arg2.IsWhole) (arg3 : Memref sig .tc .vmem S3x640 .f32) (harg3 : arg3.IsWhole) (arg4 : Memref sig .tc .vmem S3x640 .f32) (harg4 : arg4.IsWhole) (arg5 : Memref sig .tc .vmem S2x128 .f32) (harg5 : arg5.IsWhole) (arg6 : Memref sig .tc .vmem S4x128 .f32) (harg6 : arg6.IsWhole) (arg7 : Memref sig .tc .vmem S1x1 .f32) (harg7 : arg7.IsWhole) (arg8 : Memref sig .tc .vmem S17x16x128 .f32) (harg8 : arg8.IsWhole) (arg9 : Memref sig .tc .vmem S1344x128 .f32) (harg9 : arg9.IsWhole) (arg10 : Memref sig .tc .vmem S2x17x16x128 .f32) (harg10 : arg10.IsWhole)
    (f0 : BufTy.Contents (Elt F) arg0.view.ty) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) :
    Runs (F := F) c arg0 harg0 arg1 harg1 arg2 harg2 arg3 harg3 arg4 harg4 arg5 harg5 arg6 harg6 arg7 harg7 arg8 harg8 arg9 harg9 arg10 harg10 f0 f1 f2 f3 f4 f5 f6 f7 f8 f9 f10 (fun _ _ _ _ _ _ _ => True) := by
  refine (stretch (F := F) c arg0 harg0 arg1 harg1 arg2 harg2 arg3 harg3 arg4 harg4 arg5 harg5 arg6 harg6 arg7 harg7 arg8 harg8 arg9 harg9 arg10 harg10 f0 f1 f2 f3 f4 f5 f6 f7 f8 f9 f10 (fun _ _ _ _ _ _ _ => True)).2 ?_
  sl_resume
  by_cases hc : stretch.sl.v3883 arg0 arg8 f0 = 1#1
  · rw [if_pos hc]
    sl_exec
    sl_step
    iapply Hk
    isplitl [H0]; · iexact H0
    isplitl [H1 H2 H3 H4 H5 H6 H7]
    · iexists _, _, _, _, _, _, _
      isplitr; swap
      isplitl [H1]; · iexact H1
      isplitl [H2]; · iexact H2
      isplitl [H3]; · iexact H3
      isplitl [H4]; · iexact H4
      isplitl [H5]; · iexact H5
      isplitl [H6]; · iexact H6
      · iexact H7
      · ipureintro; exact trivial
    isplitl [H8]; · iexists _; iexact H8
    isplitl [H9]; · iexists _; iexact H9
    iexists _; iexact H10

  · rw [if_neg hc]
    sl_step
    sl_step
    iapply Hk
    isplitl [H0]; · iexact H0
    isplitl [H1 H2 H3 H4 H5 H6 H7]
    · iexists _, _, _, _, _, _, _
      isplitr; swap
      isplitl [H1]; · iexact H1
      isplitl [H2]; · iexact H2
      isplitl [H3]; · iexact H3
      isplitl [H4]; · iexact H4
      isplitl [H5]; · iexact H5
      isplitl [H6]; · iexact H6
      · iexact H7
      · ipureintro; exact trivial
    isplitl [H8]; · iexists _; iexact H8
    isplitl [H9]; · iexists _; iexact H9
    iexists _; iexact H10

/-- From the input's buffer held at `x` and every other buffer held at something, the body runs to the continuation that takes the
    input at `x` and the others at something. -/
theorem kernelRun (c : Dev nD) (arg0 : Memref sig .tc .vmem S17x3x640 .bf16) (harg0 : arg0.IsWhole) (arg1 : Memref sig .tc .vmem S3x640 .i32) (harg1 : arg1.IsWhole) (arg2 : Memref sig .tc .vmem S3x640 .i32) (harg2 : arg2.IsWhole) (arg3 : Memref sig .tc .vmem S3x640 .f32) (harg3 : arg3.IsWhole) (arg4 : Memref sig .tc .vmem S3x640 .f32) (harg4 : arg4.IsWhole) (arg5 : Memref sig .tc .vmem S2x128 .f32) (harg5 : arg5.IsWhole) (arg6 : Memref sig .tc .vmem S4x128 .f32) (harg6 : arg6.IsWhole) (arg7 : Memref sig .tc .vmem S1x1 .f32) (harg7 : arg7.IsWhole) (arg8 : Memref sig .tc .vmem S17x16x128 .f32) (harg8 : arg8.IsWhole) (arg9 : Memref sig .tc .vmem S1344x128 .f32) (harg9 : arg9.IsWhole) (arg10 : Memref sig .tc .vmem S2x17x16x128 .f32) (harg10 : arg10.IsWhole)
    (x : Vec F S17x3x640 .bf16) (K : PUnit → sProp 𝕄) :
    iprop(owns (c : Thread nD τ) arg0 fullShare x ∗ (∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
      ∗ (iprop(owns (c : Thread nD τ) arg0 fullShare x ∗ (∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
    ⊢ wp frame (wpE (defs₀ (F := F)) 𝒱₀ (c : Thread nD τ) none) Set.univ
        (cc0__body (F := F) arg0 harg0 arg1 harg1 arg2 harg2 arg3 harg3 arg4 harg4 arg5 harg5 arg6 harg6 arg7 harg7 arg8 harg8 arg9 harg9 arg10 harg10) K := by
  unfold owns
  iintro ⟨⟨%f0, %hf0, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
  iapply (bodyRun (F := F) c arg0 harg0 arg1 harg1 arg2 harg2 arg3 harg3 arg4 harg4 arg5 harg5 arg6 harg6 arg7 harg7 arg8 harg8 arg9 harg9 arg10 harg10 f0 f1 f2 f3 f4 f5 f6 f7 f8 f9 f10 K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, ⟨%g1, %g2, %g3, %g4, %g5, %g6, %g7, -, H1, H2, H3, H4, H5, H6, H7⟩, ⟨%g8, H8⟩, ⟨%g9, H9⟩, ⟨%g10, H10⟩⟩
  iapply Hk
  isplitl [H0]
  · iexists _; isplitr; · ipureintro; exact hf0
    iexact H0
  isplitl [H1]
  · iexists (arg1.view.read (Elt F) g1), g1; isplitr; · ipureintro; rfl
    iexact H1
  isplitl [H2]
  · iexists (arg2.view.read (Elt F) g2), g2; isplitr; · ipureintro; rfl
    iexact H2
  isplitl [H3]
  · iexists (arg3.view.read (Elt F) g3), g3; isplitr; · ipureintro; rfl
    iexact H3
  isplitl [H4]
  · iexists (arg4.view.read (Elt F) g4), g4; isplitr; · ipureintro; rfl
    iexact H4
  isplitl [H5]
  · iexists (arg5.view.read (Elt F) g5), g5; isplitr; · ipureintro; rfl
    iexact H5
  isplitl [H6]
  · iexists (arg6.view.read (Elt F) g6), g6; isplitr; · ipureintro; rfl
    iexact H6
  isplitl [H7]
  · iexists (arg7.view.read (Elt F) g7), g7; isplitr; · ipureintro; rfl
    iexact H7
  isplitl [H8]
  · iexists (arg8.view.read (Elt F) g8), g8; isplitr; · ipureintro; rfl
    iexact H8
  isplitl [H9]
  · iexists (arg9.view.read (Elt F) g9), g9; isplitr; · ipureintro; rfl
    iexact H9
  iexists (arg10.view.read (Elt F) g10), g10; isplitr; · ipureintro; rfl
  iexact H10

/-! ## The pipeline's proof data -/

variable (m : (ℓ : Loc nD τ sig) → Buf (Elt F) ℓ) (ρ : Dev nD → PrngReg)

/-- The windows of the seven results, of whose contents nothing is said. -/
abbrev fgt : Fin cfg0.W → Bool := fun w => match w with
  | ⟨0, _⟩ => false
  | _ => true

/-- The arrays as the region finds them; after the body the input's buffer at its block; the invariant the frame kit's; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | _ => fun _ => default
  Φ _ := Pipeline.ΦA spec0 c
  q _ := fullShare
  owed _ := 0

/-- The input's block is what the body finds. -/
theorem before0_0 (c : Dev nD) (t : Fin cfg0.N) (d) : (dats m 0 c).before 0 t d = iblk m c 0 t :=
  before0_0_of m (dats m 0 c) rfl (fun t => by dsimp only [dats]; rfl) t d

/-- The library's body obligation: the invariant's three scratch buffers and the eight staging buffers are what the body's run asks for. -/
theorem body_obligation (c : Dev nD) : BodyObligationLoose (dats (F := F) m 0 c) (defs₀ (F := F)) 𝒱₀ () Set.univ fgt := fun t => by
  rw [bigSep_W0, bigSep_W0]
  sl_whnfR [defs₀, Defs.onTc]
  simp only [before0_0]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl]
  unfold Pipeline.ΦA
  rw [scopedRest0_eq]
  simp only [show fgt 0 = false from rfl, show fgt 1 = true from rfl, show fgt 2 = true from rfl, show fgt 3 = true from rfl,
    show fgt 4 = true from rfl, show fgt 5 = true from rfl, show fgt 6 = true from rfl, show fgt 7 = true from rfl]
  rw [show (dats m 0 c).after 0 t = iblk m c 0 t from by dsimp only [dats]; rfl]
  simp only [← owns_whole]
  iintro ⟨⟨⟨H8, H9, H10⟩, Hr⟩, Ho, ⟨%d0, H0⟩, H1, H2, H3, H4, H5, H6, H7⟩
  iapply (kernelRun c _ _ _ _ _ _ _ _ _ _ _ _ _ _ _ _ _ _ _ _ _ _ (iblk m c 0 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  isplitl [H8 H9 H10 Hr]
  · isplitr [Hr]
    · isplitl [H8]; · iexact H8
      isplitl [H9]; · iexact H9
      iexact H10
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

-- `θ_run_frame_forget`'s implicit arguments are found by unifying its conclusion with this one
set_option backward.isDefEq.respectTransparency.types false in
/-- From any memory with zero counters every weakly fair execution of @main terminates, with every argument array as launched and every
    counter at zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ 𝒱₀ fgt m ρ main
    (hbody := fun c => body_obligation m c) (hshare := fun c => (dats m 0 c).share_full fun _ => rfl)
    (howed := fun _ _ => rfl) (V := V m) (hmain := hmain m 𝒱₀) (hA := fun _ _ => rfl) (hΦ := fun _ _ => rfl)

/-- The frame claim's conclusion, from every initial memory. -/
theorem frame (m : (ℓ : Loc nD τ sig) → Buf (Elt Bits) ℓ) (ρ : Dev nD → PrngReg) :
    θ_run defs (onTc (τ := τ) (main (F := Bits))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => ((h.1 c).2 main_arg0 (Pipeline.mem_restRefs_of main_arg0 (by decide) (by decide))).trans (V_main_arg0 m c), h.2⟩)
    (run_main (F := Bits) m ρ)

end Cert.Proof.Kernel

end
-- ==== Proof.IdealLoops.lean ====
/-
  The two code loops of `KernelIdeal`'s fallback branch, as invariants over the state they carry.

  For each code the loop sums the code's log-probabilities over the channels (an inner loop), reduces over all the tokens and
  stores one lane of one row of the result, which it loads, changes in that lane and stores back. So the state before a trip is the
  result's contents and the carried divergence, by a recursion on the trip number.
-/
module

public import proofs.«01_k».proof.Proof.Gen.KernelIdeal.Loops

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The loops carry no variants. -/
abbrev 𝒱₀ : Variants := Variants.none

variable (c : Dev nD) (arg0 : Memref sig .tc .vmem S17x3x640 .bf16) (harg0 : arg0.IsWhole) (arg1 : Memref sig .tc .vmem S3x640 .i32) (harg1 : arg1.IsWhole) (arg2 : Memref sig .tc .vmem S3x640 .i32) (harg2 : arg2.IsWhole) (arg3 : Memref sig .tc .vmem S3x640 .f32) (harg3 : arg3.IsWhole) (arg4 : Memref sig .tc .vmem S3x640 .f32) (harg4 : arg4.IsWhole) (arg5 : Memref sig .tc .vmem S2x128 .f32) (harg5 : arg5.IsWhole) (arg6 : Memref sig .tc .vmem S4x128 .f32) (harg6 : arg6.IsWhole) (arg7 : Memref sig .tc .vmem S1x1 .f32) (harg7 : arg7.IsWhole) (arg8 : Memref sig .tc .vmem S17x16x128 .f32) (harg8 : arg8.IsWhole) (arg9 : Memref sig .tc .vmem S1344x128 .f32) (harg9 : arg9.IsWhole) (arg10 : Memref sig .tc .vmem S2x17x16x128 .f32) (harg10 : arg10.IsWhole)

/-- One trip's resources: the log-sigmoids, which it reads, and the result row buffer, which it reads and writes. -/
abbrev Trip_t2 (X : BufTy.Contents (Elt F) arg10.view.ty) (f : BufTy.Contents (Elt F) arg5.view.ty) : sProp 𝕄 :=
  iprop((arg10.view.loc (c : Thread nD τ) ↦[arg10.view.set]{fullShare} X) ∗ (arg5.view.loc (c : Thread nD τ) ↦[arg5.view.set]{fullShare} f))

/-- One trip at a symbolic code: the pieces it stores, as a function of the row buffer it finds, and what it adds to the carried value. -/
@[irreducible] def trip_t2 (X : BufTy.Contents (Elt F) arg10.view.ty) (k : Fin k0_t2_loop.trips) :
    { LR : (BufTy.Contents (Elt F) arg5.view.ty → List (View.Piece (Elt F) S2x128 .f32)) × (FVec F S1x1 .f32 → FVec F S1x1 .f32) //
      ∀ (f : BufTy.Contents (Elt F) arg5.view.ty) (acc : FVec F S1x1 .f32),
      Trip_t2 (F := F) c arg5 arg10 X f
      ⊢ wp frame (wpE (defs₀ (F := F)) 𝒱₀ (c : Thread nD τ) none) Set.univ (k0_t2_body (F := F) arg0 harg0 arg1 harg1 arg2 harg2 arg3 harg3 arg4 harg4 arg5 harg5 arg6 harg6 arg7 harg7 arg8 harg8 arg9 harg9 arg10 harg10 k acc)
          (fun yld => iprop(⌜yld = LR.2 acc⌝ ∗ Trip_t2 (F := F) c arg5 arg10 X (arg5.view.writes (Elt F) f (LR.1 f)))) } := by
  refine ⟨⟨?L, ?R⟩, fun f acc => ?run⟩
  case run =>
    unfold k0_t2_body
    dsimp only
    iintro ⟨H10, Hu⟩
    sl_exec
    sl_step
    sl_close

/-- The row buffer before trip `k`, from the one at the loop's entry. -/
def row_t2 (X : BufTy.Contents (Elt F) arg10.view.ty) (G : BufTy.Contents (Elt F) arg5.view.ty) : ℕ → BufTy.Contents (Elt F) arg5.view.ty
  | 0 => G
  | k + 1 => if h : k < k0_t2_loop.trips then
      arg5.view.writes (Elt F) (row_t2 X G k) ((trip_t2 (F := F) c arg0 harg0 arg1 harg1 arg2 harg2 arg3 harg3 arg4 harg4 arg5 harg5 arg6 harg6 arg7 harg7 arg8 harg8 arg9 harg9 arg10 harg10 X ⟨k, h⟩).1.1 (row_t2 X G k))
    else row_t2 X G k

/-- The carried value before trip `k`. -/
def kl_t2 (X : BufTy.Contents (Elt F) arg10.view.ty) (init : FVec F S1x1 .f32) : ℕ → FVec F S1x1 .f32
  | 0 => init
  | k + 1 => if h : k < k0_t2_loop.trips then (trip_t2 (F := F) c arg0 harg0 arg1 harg1 arg2 harg2 arg3 harg3 arg4 harg4 arg5 harg5 arg6 harg6 arg7 harg7 arg8 harg8 arg9 harg9 arg10 harg10 X ⟨k, h⟩).1.2 (kl_t2 X init k) else kl_t2 X init k

/-- One more trip of the first loop over codes, in the stored rows. -/
theorem row_t2_succ (X : BufTy.Contents (Elt F) arg10.view.ty) (G : BufTy.Contents (Elt F) arg5.view.ty) (k : Fin k0_t2_loop.trips) :
    row_t2 (F := F) c arg0 harg0 arg1 harg1 arg2 harg2 arg3 harg3 arg4 harg4 arg5 harg5 arg6 harg6 arg7 harg7 arg8 harg8 arg9 harg9 arg10 harg10 X G (k.val + 1)
      = arg5.view.writes (Elt F) (row_t2 (F := F) c arg0 harg0 arg1 harg1 arg2 harg2 arg3 harg3 arg4 harg4 arg5 harg5 arg6 harg6 arg7 harg7 arg8 harg8 arg9 harg9 arg10 harg10 X G k.val) ((trip_t2 (F := F) c arg0 harg0 arg1 harg1 arg2 harg2 arg3 harg3 arg4 harg4 arg5 harg5 arg6 harg6 arg7 harg7 arg8 harg8 arg9 harg9 arg10 harg10 X k).1.1 (row_t2 (F := F) c arg0 harg0 arg1 harg1 arg2 harg2 arg3 harg3 arg4 harg4 arg5 harg5 arg6 harg6 arg7 harg7 arg8 harg8 arg9 harg9 arg10 harg10 X G k.val)) := by
  rw [row_t2.eq_2]; exact dif_pos k.isLt

/-- One more trip of the first loop over codes, in the carried divergence. -/
theorem kl_t2_succ (X : BufTy.Contents (Elt F) arg10.view.ty) (init : FVec F S1x1 .f32) (k : Fin k0_t2_loop.trips) :
    kl_t2 (F := F) c arg0 harg0 arg1 harg1 arg2 harg2 arg3 harg3 arg4 harg4 arg5 harg5 arg6 harg6 arg7 harg7 arg8 harg8 arg9 harg9 arg10 harg10 X init (k.val + 1) = (trip_t2 (F := F) c arg0 harg0 arg1 harg1 arg2 harg2 arg3 harg3 arg4 harg4 arg5 harg5 arg6 harg6 arg7 harg7 arg8 harg8 arg9 harg9 arg10 harg10 X k).1.2 (kl_t2 (F := F) c arg0 harg0 arg1 harg1 arg2 harg2 arg3 harg3 arg4 harg4 arg5 harg5 arg6 harg6 arg7 harg7 arg8 harg8 arg9 harg9 arg10 harg10 X init k.val) := by
  rw [kl_t2.eq_2]; exact dif_pos k.isLt

/-- The invariant before trip `k`: the buffers and the carried value at the state's, the row buffer's from some contents at the loop's
    entry (the loop stores over all of them). -/
abbrev inv_t2 (X : BufTy.Contents (Elt F) arg10.view.ty) (init : FVec F S1x1 .f32) (k : ℕ) (acc : FVec F S1x1 .f32) : sProp 𝕄 :=
  iprop((arg10.view.loc (c : Thread nD τ) ↦[arg10.view.set]{fullShare} X)
    ∗ (∃ f, (arg5.view.loc (c : Thread nD τ) ↦[arg5.view.set]{fullShare} f) ∗ ⌜k = 0 ∨ ∃ G, f = row_t2 (F := F) c arg0 harg0 arg1 harg1 arg2 harg2 arg3 harg3 arg4 harg4 arg5 harg5 arg6 harg6 arg7 harg7 arg8 harg8 arg9 harg9 arg10 harg10 X G k⌝)
    ∗ ⌜acc = kl_t2 (F := F) c arg0 harg0 arg1 harg1 arg2 harg2 arg3 harg3 arg4 harg4 arg5 harg5 arg6 harg6 arg7 harg7 arg8 harg8 arg9 harg9 arg10 harg10 X init k⌝)

set_option warn.classDefReducibility false in
/-- The loop by its invariant. -/
@[sl_loop] def loopInv_k0_t2 (X : BufTy.Contents (Elt F) arg10.view.ty) (init : FVec F S1x1 .f32) :
    LoopInvTy_k0_t2 (F := F) Unit ℕ (UR sig nD τ) ℕ 𝒱₀ c none Set.univ arg0 harg0 arg1 harg1 arg2 harg2 arg3 harg3 arg4 harg4 arg5 harg5 arg6 harg6 arg7 harg7 arg8 harg8 arg9 harg9 arg10 harg10 init where
  inv := inv_t2 (F := F) c arg0 harg0 arg1 harg1 arg2 harg2 arg3 harg3 arg4 harg4 arg5 harg5 arg6 harg6 arg7 harg7 arg8 harg8 arg9 harg9 arg10 harg10 X init
  step k acc := by
    iintro ⟨H10, ⟨%f, Hu, %hf⟩, %hacc⟩
    obtain ⟨G, rfl⟩ : ∃ G, f = row_t2 (F := F) c arg0 harg0 arg1 harg1 arg2 harg2 arg3 harg3 arg4 harg4 arg5 harg5 arg6 harg6 arg7 harg7 arg8 harg8 arg9 harg9 arg10 harg10 X G k.val := hf.elim (fun h => ⟨f, by rw [h]; rfl⟩) id
    subst hacc
    iapply (wp_wand_r Idealize.ShloMosaic.frame (wpE (defs₀ (F := F)) 𝒱₀ (c : Thread nD τ) none) Set.univ)
    isplitl [H10 Hu]
    · iapply ((trip_t2 (F := F) c arg0 harg0 arg1 harg1 arg2 harg2 arg3 harg3 arg4 harg4 arg5 harg5 arg6 harg6 arg7 harg7 arg8 harg8 arg9 harg9 arg10 harg10 X k).2 _ _)
      isplitl [H10]; · iexact H10
      iexact Hu
    · iintro %yld ⟨%h_res, H10, Hu⟩
      isplitl [H10]; · iexact H10
      rw [kl_t2_succ]
      isplitl [Hu]
      · iexists _; isplitl [Hu]; · iexact Hu
        ipureintro; exact .inr ⟨G, (row_t2_succ (F := F) c arg0 harg0 arg1 harg1 arg2 harg2 arg3 harg3 arg4 harg4 arg5 harg5 arg6 harg6 arg7 harg7 arg8 harg8 arg9 harg9 arg10 harg10 X G k).symm⟩
      ipureintro; exact h_res

/-- One trip's resources: the log-sigmoids, which it reads, and the result row buffer, which it reads and writes. -/
abbrev Trip_t4 (X : BufTy.Contents (Elt F) arg10.view.ty) (f : BufTy.Contents (Elt F) arg6.view.ty) : sProp 𝕄 :=
  iprop((arg10.view.loc (c : Thread nD τ) ↦[arg10.view.set]{fullShare} X) ∗ (arg6.view.loc (c : Thread nD τ) ↦[arg6.view.set]{fullShare} f))

/-- One trip at a symbolic code: the pieces it stores, as a function of the row buffer it finds, and what it adds to the carried value. -/
@[irreducible] def trip_t4 (X : BufTy.Contents (Elt F) arg10.view.ty) (k : Fin k0_t4_loop.trips) :
    { LR : (BufTy.Contents (Elt F) arg6.view.ty → List (View.Piece (Elt F) S4x128 .f32)) × (FVec F S1x1 .f32 → FVec F S1x1 .f32) //
      ∀ (f : BufTy.Contents (Elt F) arg6.view.ty) (acc : FVec F S1x1 .f32),
      Trip_t4 (F := F) c arg6 arg10 X f
      ⊢ wp frame (wpE (defs₀ (F := F)) 𝒱₀ (c : Thread nD τ) none) Set.univ (k0_t4_body (F := F) arg0 harg0 arg1 harg1 arg2 harg2 arg3 harg3 arg4 harg4 arg5 harg5 arg6 harg6 arg7 harg7 arg8 harg8 arg9 harg9 arg10 harg10 k acc)
          (fun yld => iprop(⌜yld = LR.2 acc⌝ ∗ Trip_t4 (F := F) c arg6 arg10 X (arg6.view.writes (Elt F) f (LR.1 f)))) } := by
  refine ⟨⟨?L, ?R⟩, fun f acc => ?run⟩
  case run =>
    unfold k0_t4_body
    dsimp only
    iintro ⟨H10, Hu⟩
    sl_exec
    sl_step
    sl_close

/-- The row buffer before trip `k`, from the one at the loop's entry. -/
def row_t4 (X : BufTy.Contents (Elt F) arg10.view.ty) (G : BufTy.Contents (Elt F) arg6.view.ty) : ℕ → BufTy.Contents (Elt F) arg6.view.ty
  | 0 => G
  | k + 1 => if h : k < k0_t4_loop.trips then
      arg6.view.writes (Elt F) (row_t4 X G k) ((trip_t4 (F := F) c arg0 harg0 arg1 harg1 arg2 harg2 arg3 harg3 arg4 harg4 arg5 harg5 arg6 harg6 arg7 harg7 arg8 harg8 arg9 harg9 arg10 harg10 X ⟨k, h⟩).1.1 (row_t4 X G k))
    else row_t4 X G k

/-- The carried value before trip `k`. -/
def kl_t4 (X : BufTy.Contents (Elt F) arg10.view.ty) (init : FVec F S1x1 .f32) : ℕ → FVec F S1x1 .f32
  | 0 => init
  | k + 1 => if h : k < k0_t4_loop.trips then (trip_t4 (F := F) c arg0 harg0 arg1 harg1 arg2 harg2 arg3 harg3 arg4 harg4 arg5 harg5 arg6 harg6 arg7 harg7 arg8 harg8 arg9 harg9 arg10 harg10 X ⟨k, h⟩).1.2 (kl_t4 X init k) else kl_t4 X init k

/-- One more trip of the second loop over codes, in the stored rows. -/
theorem row_t4_succ (X : BufTy.Contents (Elt F) arg10.view.ty) (G : BufTy.Contents (Elt F) arg6.view.ty) (k : Fin k0_t4_loop.trips) :
    row_t4 (F := F) c arg0 harg0 arg1 harg1 arg2 harg2 arg3 harg3 arg4 harg4 arg5 harg5 arg6 harg6 arg7 harg7 arg8 harg8 arg9 harg9 arg10 harg10 X G (k.val + 1)
      = arg6.view.writes (Elt F) (row_t4 (F := F) c arg0 harg0 arg1 harg1 arg2 harg2 arg3 harg3 arg4 harg4 arg5 harg5 arg6 harg6 arg7 harg7 arg8 harg8 arg9 harg9 arg10 harg10 X G k.val) ((trip_t4 (F := F) c arg0 harg0 arg1 harg1 arg2 harg2 arg3 harg3 arg4 harg4 arg5 harg5 arg6 harg6 arg7 harg7 arg8 harg8 arg9 harg9 arg10 harg10 X k).1.1 (row_t4 (F := F) c arg0 harg0 arg1 harg1 arg2 harg2 arg3 harg3 arg4 harg4 arg5 harg5 arg6 harg6 arg7 harg7 arg8 harg8 arg9 harg9 arg10 harg10 X G k.val)) := by
  rw [row_t4.eq_2]; exact dif_pos k.isLt

/-- One more trip of the second loop over codes, in the carried divergence. -/
theorem kl_t4_succ (X : BufTy.Contents (Elt F) arg10.view.ty) (init : FVec F S1x1 .f32) (k : Fin k0_t4_loop.trips) :
    kl_t4 (F := F) c arg0 harg0 arg1 harg1 arg2 harg2 arg3 harg3 arg4 harg4 arg5 harg5 arg6 harg6 arg7 harg7 arg8 harg8 arg9 harg9 arg10 harg10 X init (k.val + 1) = (trip_t4 (F := F) c arg0 harg0 arg1 harg1 arg2 harg2 arg3 harg3 arg4 harg4 arg5 harg5 arg6 harg6 arg7 harg7 arg8 harg8 arg9 harg9 arg10 harg10 X k).1.2 (kl_t4 (F := F) c arg0 harg0 arg1 harg1 arg2 harg2 arg3 harg3 arg4 harg4 arg5 harg5 arg6 harg6 arg7 harg7 arg8 harg8 arg9 harg9 arg10 harg10 X init k.val) := by
  rw [kl_t4.eq_2]; exact dif_pos k.isLt

/-- The invariant before trip `k`: the buffers and the carried value at the state's, the row buffer's from some contents at the loop's
    entry (the loop stores over all of them). -/
abbrev inv_t4 (X : BufTy.Contents (Elt F) arg10.view.ty) (init : FVec F S1x1 .f32) (k : ℕ) (acc : FVec F S1x1 .f32) : sProp 𝕄 :=
  iprop((arg10.view.loc (c : Thread nD τ) ↦[arg10.view.set]{fullShare} X)
    ∗ (∃ f, (arg6.view.loc (c : Thread nD τ) ↦[arg6.view.set]{fullShare} f) ∗ ⌜k = 0 ∨ ∃ G, f = row_t4 (F := F) c arg0 harg0 arg1 harg1 arg2 harg2 arg3 harg3 arg4 harg4 arg5 harg5 arg6 harg6 arg7 harg7 arg8 harg8 arg9 harg9 arg10 harg10 X G k⌝)
    ∗ ⌜acc = kl_t4 (F := F) c arg0 harg0 arg1 harg1 arg2 harg2 arg3 harg3 arg4 harg4 arg5 harg5 arg6 harg6 arg7 harg7 arg8 harg8 arg9 harg9 arg10 harg10 X init k⌝)

set_option warn.classDefReducibility false in
/-- The loop by its invariant. -/
@[sl_loop] def loopInv_k0_t4 (X : BufTy.Contents (Elt F) arg10.view.ty) (init : FVec F S1x1 .f32) :
    LoopInvTy_k0_t4 (F := F) Unit ℕ (UR sig nD τ) ℕ 𝒱₀ c none Set.univ arg0 harg0 arg1 harg1 arg2 harg2 arg3 harg3 arg4 harg4 arg5 harg5 arg6 harg6 arg7 harg7 arg8 harg8 arg9 harg9 arg10 harg10 init where
  inv := inv_t4 (F := F) c arg0 harg0 arg1 harg1 arg2 harg2 arg3 harg3 arg4 harg4 arg5 harg5 arg6 harg6 arg7 harg7 arg8 harg8 arg9 harg9 arg10 harg10 X init
  step k acc := by
    iintro ⟨H10, ⟨%f, Hu, %hf⟩, %hacc⟩
    obtain ⟨G, rfl⟩ : ∃ G, f = row_t4 (F := F) c arg0 harg0 arg1 harg1 arg2 harg2 arg3 harg3 arg4 harg4 arg5 harg5 arg6 harg6 arg7 harg7 arg8 harg8 arg9 harg9 arg10 harg10 X G k.val := hf.elim (fun h => ⟨f, by rw [h]; rfl⟩) id
    subst hacc
    iapply (wp_wand_r Idealize.ShloMosaic.frame (wpE (defs₀ (F := F)) 𝒱₀ (c : Thread nD τ) none) Set.univ)
    isplitl [H10 Hu]
    · iapply ((trip_t4 (F := F) c arg0 harg0 arg1 harg1 arg2 harg2 arg3 harg3 arg4 harg4 arg5 harg5 arg6 harg6 arg7 harg7 arg8 harg8 arg9 harg9 arg10 harg10 X k).2 _ _)
      isplitl [H10]; · iexact H10
      iexact Hu
    · iintro %yld ⟨%h_res, H10, Hu⟩
      isplitl [H10]; · iexact H10
      rw [kl_t4_succ]
      isplitl [Hu]
      · iexists _; isplitl [Hu]; · iexact Hu
        ipureintro; exact .inr ⟨G, (row_t4_succ (F := F) c arg0 harg0 arg1 harg1 arg2 harg2 arg3 harg3 arg4 harg4 arg5 harg5 arg6 harg6 arg7 harg7 arg8 harg8 arg9 harg9 arg10 harg10 X G k).symm⟩
      ipureintro; exact h_res

end Cert.Proof.KernelIdeal

end
-- ==== Proof.IdealStretch.lean ====
/-
  The run of `KernelIdeal`'s body up to its fallback branch, for any buffers.

  Each memory operation is one step of the separation logic; the contents that the run leaves in each buffer are named as it goes,
  as lists of the pieces stored. The run stops at the branch on the logits' size: what remains to be shown there is the first
  component of `stretch`.
-/
module

public import proofs.«01_k».proof.Proof.IdealLoops

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (arg0 : Memref sig .tc .vmem S17x3x640 .bf16) (harg0 : arg0.IsWhole) (arg1 : Memref sig .tc .vmem S3x640 .i32) (harg1 : arg1.IsWhole) (arg2 : Memref sig .tc .vmem S3x640 .i32) (harg2 : arg2.IsWhole) (arg3 : Memref sig .tc .vmem S3x640 .f32) (harg3 : arg3.IsWhole) (arg4 : Memref sig .tc .vmem S3x640 .f32) (harg4 : arg4.IsWhole) (arg5 : Memref sig .tc .vmem S2x128 .f32) (harg5 : arg5.IsWhole) (arg6 : Memref sig .tc .vmem S4x128 .f32) (harg6 : arg6.IsWhole) (arg7 : Memref sig .tc .vmem S1x1 .f32) (harg7 : arg7.IsWhole) (arg8 : Memref sig .tc .vmem S17x16x128 .f32) (harg8 : arg8.IsWhole) (arg9 : Memref sig .tc .vmem S1344x128 .f32) (harg9 : arg9.IsWhole) (arg10 : Memref sig .tc .vmem S2x17x16x128 .f32) (harg10 : arg10.IsWhole)
  (f0 : BufTy.Contents (Elt F) arg0.view.ty) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty)
  (Post : BufTy.Contents (Elt F) arg1.view.ty → BufTy.Contents (Elt F) arg2.view.ty → BufTy.Contents (Elt F) arg3.view.ty → BufTy.Contents (Elt F) arg4.view.ty → BufTy.Contents (Elt F) arg5.view.ty → BufTy.Contents (Elt F) arg6.view.ty → BufTy.Contents (Elt F) arg7.view.ty → Prop)

/-- From the eleven buffers held at their contents, the body runs to the continuation that takes the input as it was, the seven results at
    contents of which `Post` holds, and the three scratch buffers at something. -/
abbrev Runs : Prop :=
  ∀ (Q : PUnit → sProp 𝕄),
    iprop((arg0.view.loc (c : Thread nD τ) ↦[arg0.view.set]{fullShare} f0) ∗ (arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (iprop((arg0.view.loc (c : Thread nD τ) ↦[arg0.view.set]{fullShare} f0) ∗ (∃ g1 g2 g3 g4 g5 g6 g7, ⌜Post g1 g2 g3 g4 g5 g6 g7⌝ ∗ (arg1.view.loc (c : Thread nD τ) ↦[arg1.view.set]{fullShare} g1) ∗ (arg2.view.loc (c : Thread nD τ) ↦[arg2.view.set]{fullShare} g2) ∗ (arg3.view.loc (c : Thread nD τ) ↦[arg3.view.set]{fullShare} g3) ∗ (arg4.view.loc (c : Thread nD τ) ↦[arg4.view.set]{fullShare} g4) ∗ (arg5.view.loc (c : Thread nD τ) ↦[arg5.view.set]{fullShare} g5) ∗ (arg6.view.loc (c : Thread nD τ) ↦[arg6.view.set]{fullShare} g6) ∗ (arg7.view.loc (c : Thread nD τ) ↦[arg7.view.set]{fullShare} g7)) ∗ (∃ g8, (arg8.view.loc (c : Thread nD τ) ↦[arg8.view.set]{fullShare} g8)) ∗ (∃ g9, (arg9.view.loc (c : Thread nD τ) ↦[arg9.view.set]{fullShare} g9)) ∗ (∃ g10, (arg10.view.loc (c : Thread nD τ) ↦[arg10.view.set]{fullShare} g10))) -∗ Q ⟨⟩))
    ⊢ wp frame (wpE (defs₀ (F := F)) 𝒱₀ (c : Thread nD τ) none) Set.univ
        (cc0__body (F := F) arg0 harg0 arg1 harg1 arg2 harg2 arg3 harg3 arg4 harg4 arg5 harg5 arg6 harg6 arg7 harg7 arg8 harg8 arg9 harg9 arg10 harg10) Q

/-- The body's run up to the branch. -/
def stretch : Σ' (G : Prop), G → Runs (F := F) c arg0 harg0 arg1 harg1 arg2 harg2 arg3 harg3 arg4 harg4 arg5 harg5 arg6 harg6 arg7 harg7 arg8 harg8 arg9 harg9 arg10 harg10 f0 f1 f2 f3 f4 f5 f6 f7 f8 f9 f10 Post := by
  sl_stretch
  intro Q
  iintro ⟨H0, H1, H2, H3, H4, H5, H6, H7, H8, H9, H10, Hk⟩
  sl_unfold [cc0__body]
  sl_exec_parts
  sl_seam

end Cert.Proof.KernelIdeal

end
-- ==== Proof.IdealRun.lean ====
/-
  The whole run of `KernelIdeal`'s body, the branch taken and not taken.

  What the run asks of the results' contents it asks at the two ends: without the fallback each buffer holds the pieces the run stored,
  with it the two usage rows hold what the fallback's loops leave and the divergence what they carry.
-/
module

public import proofs.«01_k».proof.Proof.IdealStretch

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (arg0 : Memref sig .tc .vmem S17x3x640 .bf16) (harg0 : arg0.IsWhole) (arg1 : Memref sig .tc .vmem S3x640 .i32) (harg1 : arg1.IsWhole) (arg2 : Memref sig .tc .vmem S3x640 .i32) (harg2 : arg2.IsWhole) (arg3 : Memref sig .tc .vmem S3x640 .f32) (harg3 : arg3.IsWhole) (arg4 : Memref sig .tc .vmem S3x640 .f32) (harg4 : arg4.IsWhole) (arg5 : Memref sig .tc .vmem S2x128 .f32) (harg5 : arg5.IsWhole) (arg6 : Memref sig .tc .vmem S4x128 .f32) (harg6 : arg6.IsWhole) (arg7 : Memref sig .tc .vmem S1x1 .f32) (harg7 : arg7.IsWhole) (arg8 : Memref sig .tc .vmem S17x16x128 .f32) (harg8 : arg8.IsWhole) (arg9 : Memref sig .tc .vmem S1344x128 .f32) (harg9 : arg9.IsWhole) (arg10 : Memref sig .tc .vmem S2x17x16x128 .f32) (harg10 : arg10.IsWhole)

/-- The log-sigmoids that the fallback's first loop leaves in its scratch. -/
abbrev logits (f0 : BufTy.Contents (Elt F) arg0.view.ty) (f10 : BufTy.Contents (Elt F) arg10.view.ty) : BufTy.Contents (Elt F) arg10.view.ty :=
  arg10.view.writes (Elt F) f10 (pb_k0_t1 (F := F) 𝒱₀ c none arg0 harg0 arg1 harg1 arg2 harg2 arg3 harg3 arg4 harg4 arg5 harg5 arg6 harg6 arg7 harg7 arg8 harg8 arg9 harg9 arg10 harg10 (arg8.view.writes (Elt F) arg8.view.junk (stretch.sl.H8_102 (F := F) arg0 f0))
    (Scf.trips k0_t1_loop.lb k0_t1_loop.ub k0_t1_loop.st))

/-- The body runs to its end, `Post` holding of the results' contents if it holds at both ends. -/
theorem bodyRun (f0 : BufTy.Contents (Elt F) arg0.view.ty) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty)
    (Post : BufTy.Contents (Elt F) arg1.view.ty → BufTy.Contents (Elt F) arg2.view.ty → BufTy.Contents (Elt F) arg3.view.ty → BufTy.Contents (Elt F) arg4.view.ty → BufTy.Contents (Elt F) arg5.view.ty → BufTy.Contents (Elt F) arg6.view.ty → BufTy.Contents (Elt F) arg7.view.ty → Prop)
    (hs : ¬ stretch.sl.v3883 (F := F) arg0 arg8 f0 = 1#1 →
      Post (arg1.view.writes (Elt F) f1 (stretch.sl.H1_6 (F := F) arg0 arg8 f0))
      (arg2.view.writes (Elt F) f2 (stretch.sl.H2_6 (F := F) arg0 arg8 f0))
      (arg3.view.writes (Elt F) f3 (stretch.sl.H3_6 (F := F) arg0 arg8 f0))
      (arg4.view.writes (Elt F) f4 (stretch.sl.H4_6 (F := F) arg0 arg8 f0))
      (arg5.view.writes (Elt F) f5 (stretch.sl.H5_2 (F := F) arg0 arg8 arg9 f0 f9))
      (arg6.view.writes (Elt F) f6 (⟨Rect.unit ![3, 0] S1x128.size inb_S4x128_S1x128_3_0, k0_pay1 (stretch.sl.r_267 (F := F) arg0 arg8 arg9 f0 f9)⟩ :: stretch.sl.H6_3 (F := F) arg0 arg8 arg9 f0 f9))
      (arg7.view.writes (Elt F) f7 [⟨Rect.unit ![0, 0] S1x1.size inb_S1x1_S1x1_0_0, k0_pay2 (stretch.sl.v3785 (F := F) arg0 arg8 arg9 f0 f9) (stretch.sl.r_266 (F := F) arg0 arg8 arg9 f0 f9) (stretch.sl.r_267 (F := F) arg0 arg8 arg9 f0 f9)⟩]))
    (hu : stretch.sl.v3883 (F := F) arg0 arg8 f0 = 1#1 → ∀ r5 r6, (Scf.trips k0_t2_loop.lb k0_t2_loop.ub k0_t2_loop.st = 0 ∨ ∃ G, r5 = row_t2 (F := F) c arg0 harg0 arg1 harg1 arg2 harg2 arg3 harg3 arg4 harg4 arg5 harg5 arg6 harg6 arg7 harg7 arg8 harg8 arg9 harg9 arg10 harg10 (logits (F := F) c arg0 harg0 arg1 harg1 arg2 harg2 arg3 harg3 arg4 harg4 arg5 harg5 arg6 harg6 arg7 harg7 arg8 harg8 arg9 harg9 arg10 harg10 f0 f10) G (Scf.trips k0_t2_loop.lb k0_t2_loop.ub k0_t2_loop.st)) → (Scf.trips k0_t4_loop.lb k0_t4_loop.ub k0_t4_loop.st = 0 ∨ ∃ G, r6 = row_t4 (F := F) c arg0 harg0 arg1 harg1 arg2 harg2 arg3 harg3 arg4 harg4 arg5 harg5 arg6 harg6 arg7 harg7 arg8 harg8 arg9 harg9 arg10 harg10 (logits (F := F) c arg0 harg0 arg1 harg1 arg2 harg2 arg3 harg3 arg4 harg4 arg5 harg5 arg6 harg6 arg7 harg7 arg8 harg8 arg9 harg9 arg10 harg10 f0 f10) G (Scf.trips k0_t4_loop.lb k0_t4_loop.ub k0_t4_loop.st)) →
      Post (arg1.view.writes (Elt F) arg1.view.junk (stretch.sl.H1_6 (F := F) arg0 arg8 f0))
      (arg2.view.writes (Elt F) arg2.view.junk (stretch.sl.H2_6 (F := F) arg0 arg8 f0))
      (arg3.view.writes (Elt F) arg3.view.junk (stretch.sl.H3_6 (F := F) arg0 arg8 f0))
      (arg4.view.writes (Elt F) arg4.view.junk (stretch.sl.H4_6 (F := F) arg0 arg8 f0))
      r5
      r6
      (arg7.view.writes (Elt F) arg7.view.junk [⟨Rect.unit ![0, 0] S1x1.size inb_S1x1_S1x1_0_0, k0_pay11 (kl_t2 (F := F) c arg0 harg0 arg1 harg1 arg2 harg2 arg3 harg3 arg4 harg4 arg5 harg5 arg6 harg6 arg7 harg7 arg8 harg8 arg9 harg9 arg10 harg10 (logits (F := F) c arg0 harg0 arg1 harg1 arg2 harg2 arg3 harg3 arg4 harg4 arg5 harg5 arg6 harg6 arg7 harg7 arg8 harg8 arg9 harg9 arg10 harg10 f0 f10) k0_pay5 (Scf.trips k0_t2_loop.lb k0_t2_loop.ub k0_t2_loop.st)) (kl_t4 (F := F) c arg0 harg0 arg1 harg1 arg2 harg2 arg3 harg3 arg4 harg4 arg5 harg5 arg6 harg6 arg7 harg7 arg8 harg8 arg9 harg9 arg10 harg10 (logits (F := F) c arg0 harg0 arg1 harg1 arg2 harg2 arg3 harg3 arg4 harg4 arg5 harg5 arg6 harg6 arg7 harg7 arg8 harg8 arg9 harg9 arg10 harg10 f0 f10) k0_pay8 (Scf.trips k0_t4_loop.lb k0_t4_loop.ub k0_t4_loop.st))⟩, ⟨Rect.unit ![0, 0] S1x1.size inb_S1x1_S1x1_0_0, k0_pay2 (stretch.sl.v3785 (F := F) arg0 arg8 arg9 f0 f9) (stretch.sl.r_266 (F := F) arg0 arg8 arg9 f0 f9) (stretch.sl.r_267 (F := F) arg0 arg8 arg9 f0 f9)⟩])) :
    Runs (F := F) c arg0 harg0 arg1 harg1 arg2 harg2 arg3 harg3 arg4 harg4 arg5 harg5 arg6 harg6 arg7 harg7 arg8 harg8 arg9 harg9 arg10 harg10 f0 f1 f2 f3 f4 f5 f6 f7 f8 f9 f10 Post := by
  refine (stretch (F := F) c arg0 harg0 arg1 harg1 arg2 harg2 arg3 harg3 arg4 harg4 arg5 harg5 arg6 harg6 arg7 harg7 arg8 harg8 arg9 harg9 arg10 harg10 f0 f1 f2 f3 f4 f5 f6 f7 f8 f9 f10 Post).2 ?_
  sl_resume
  by_cases hc : stretch.sl.v3883 (F := F) arg0 arg8 f0 = 1#1
  · rw [if_pos hc]
    sl_exec
    sl_step
    iapply Hk
    isplitl [H0]; · iexact H0
    isplitl [H1 H2 H3 H4 H5 H6 H7]
    · iexists _, _, _, _, _, _, _
      isplitr
      · ipureintro; exact hu hc _ _ hL5 hL9
      isplitl [H1]; · iexact H1
      isplitl [H2]; · iexact H2
      isplitl [H3]; · iexact H3
      isplitl [H4]; · iexact H4
      isplitl [H5]; · iexact H5
      isplitl [H6]; · iexact H6
      iexact H7
    isplitl [H8]; · iexists _; iexact H8
    isplitl [H9]; · iexists _; iexact H9
    iexists _; iexact H10

  · rw [if_neg hc]
    sl_step
    iapply Hk
    isplitl [H0]; · iexact H0
    isplitl [H1 H2 H3 H4 H5 H6 H7]
    · iexists _, _, _, _, _, _, _
      isplitr
      · ipureintro; exact hs hc
      isplitl [H1]; · iexact H1
      isplitl [H2]; · iexact H2
      isplitl [H3]; · iexact H3
      isplitl [H4]; · iexact H4
      isplitl [H5]; · iexact H5
      isplitl [H6]; · iexact H6
      iexact H7
    isplitl [H8]; · iexists _; iexact H8
    isplitl [H9]; · iexists _; iexact H9
    iexists _; iexact H10

end Cert.Proof.KernelIdeal

end
-- ==== Proof.IdealFrame.lean ====
/-
  The frame of `KernelIdeal`: the body runs to its end from any buffers, leaving its input as it found it.

  Nothing is said here of the contents of the results: the run's two ends, at the branch taken and not taken, each give every buffer
  back at some contents. The pipeline around the body is the library's, with the seven results' windows forgotten.
-/
module

public import proofs.«01_k».proof.Proof.IdealRun
public import proofs.«01_k».proof.Proof.Gen.KernelIdeal.Frame
public import Idealize.ShloMosaic.PureOps.Ideal

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

variable {F : FTy → Type} [FloatOps F] [Named F]

local notation "𝕄" => MT nD τ sig Unit (Elt F) ℕ (UR sig nD τ) ℕ

/-- From the input's buffer held at `x` and every other buffer held at something, the body runs to the continuation that takes the
    input at `x` and the others at something. -/
theorem kernelRun (c : Dev nD) (arg0 : Memref sig .tc .vmem S17x3x640 .bf16) (harg0 : arg0.IsWhole) (arg1 : Memref sig .tc .vmem S3x640 .i32) (harg1 : arg1.IsWhole) (arg2 : Memref sig .tc .vmem S3x640 .i32) (harg2 : arg2.IsWhole) (arg3 : Memref sig .tc .vmem S3x640 .f32) (harg3 : arg3.IsWhole) (arg4 : Memref sig .tc .vmem S3x640 .f32) (harg4 : arg4.IsWhole) (arg5 : Memref sig .tc .vmem S2x128 .f32) (harg5 : arg5.IsWhole) (arg6 : Memref sig .tc .vmem S4x128 .f32) (harg6 : arg6.IsWhole) (arg7 : Memref sig .tc .vmem S1x1 .f32) (harg7 : arg7.IsWhole) (arg8 : Memref sig .tc .vmem S17x16x128 .f32) (harg8 : arg8.IsWhole) (arg9 : Memref sig .tc .vmem S1344x128 .f32) (harg9 : arg9.IsWhole) (arg10 : Memref sig .tc .vmem S2x17x16x128 .f32) (harg10 : arg10.IsWhole)
    (x : Vec F S17x3x640 .bf16) (K : PUnit → sProp 𝕄) :
    iprop(owns (c : Thread nD τ) arg0 fullShare x ∗ (∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
      ∗ (iprop(owns (c : Thread nD τ) arg0 fullShare x ∗ (∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
    ⊢ wp frame (wpE (defs₀ (F := F)) 𝒱₀ (c : Thread nD τ) none) Set.univ
        (cc0__body (F := F) arg0 harg0 arg1 harg1 arg2 harg2 arg3 harg3 arg4 harg4 arg5 harg5 arg6 harg6 arg7 harg7 arg8 harg8 arg9 harg9 arg10 harg10) K := by
  unfold owns
  iintro ⟨⟨%f0, %hf0, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
  iapply (bodyRun (F := F) c arg0 harg0 arg1 harg1 arg2 harg2 arg3 harg3 arg4 harg4 arg5 harg5 arg6 harg6 arg7 harg7 arg8 harg8 arg9 harg9 arg10 harg10 f0 f1 f2 f3 f4 f5 f6 f7 f8 f9 f10 (fun _ _ _ _ _ _ _ => True) (fun _ => trivial) (fun _ _ _ _ _ => trivial) K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, ⟨%g1, %g2, %g3, %g4, %g5, %g6, %g7, -, H1, H2, H3, H4, H5, H6, H7⟩, ⟨%g8, H8⟩, ⟨%g9, H9⟩, ⟨%g10, H10⟩⟩
  iapply Hk
  isplitl [H0]
  · iexists _; isplitr; · ipureintro; exact hf0
    iexact H0
  isplitl [H1]
  · iexists (arg1.view.read (Elt F) g1), g1; isplitr; · ipureintro; rfl
    iexact H1
  isplitl [H2]
  · iexists (arg2.view.read (Elt F) g2), g2; isplitr; · ipureintro; rfl
    iexact H2
  isplitl [H3]
  · iexists (arg3.view.read (Elt F) g3), g3; isplitr; · ipureintro; rfl
    iexact H3
  isplitl [H4]
  · iexists (arg4.view.read (Elt F) g4), g4; isplitr; · ipureintro; rfl
    iexact H4
  isplitl [H5]
  · iexists (arg5.view.read (Elt F) g5), g5; isplitr; · ipureintro; rfl
    iexact H5
  isplitl [H6]
  · iexists (arg6.view.read (Elt F) g6), g6; isplitr; · ipureintro; rfl
    iexact H6
  isplitl [H7]
  · iexists (arg7.view.read (Elt F) g7), g7; isplitr; · ipureintro; rfl
    iexact H7
  isplitl [H8]
  · iexists (arg8.view.read (Elt F) g8), g8; isplitr; · ipureintro; rfl
    iexact H8
  isplitl [H9]
  · iexists (arg9.view.read (Elt F) g9), g9; isplitr; · ipureintro; rfl
    iexact H9
  iexists (arg10.view.read (Elt F) g10), g10; isplitr; · ipureintro; rfl
  iexact H10

/-! ## The pipeline's proof data -/

variable (m : (ℓ : Loc nD τ sig) → Buf (Elt F) ℓ) (ρ : Dev nD → PrngReg)

/-- The windows of the seven results, of whose contents nothing is said. -/
abbrev fgt : Fin cfg0.W → Bool := fun w => match w with
  | ⟨0, _⟩ => false
  | _ => true

/-- The arrays as the region finds them; after the body the input's buffer at its block; the invariant the frame kit's; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | _ => fun _ => default
  Φ _ := Pipeline.ΦA spec0 c
  q _ := fullShare
  owed _ := 0

/-- The input's block is what the body finds. -/
theorem before0_0 (c : Dev nD) (t : Fin cfg0.N) (d) : (dats m 0 c).before 0 t d = iblk m c 0 t :=
  before0_0_of m (dats m 0 c) rfl (fun t => by dsimp only [dats]; rfl) t d

/-- The library's body obligation: the invariant's three scratch buffers and the eight staging buffers are what the body's run asks for. -/
theorem body_obligation (c : Dev nD) : BodyObligationLoose (dats (F := F) m 0 c) (defs₀ (F := F)) 𝒱₀ () Set.univ fgt := fun t => by
  rw [bigSep_W0, bigSep_W0]
  sl_whnfR [defs₀, Defs.onTc]
  simp only [before0_0]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl]
  unfold Pipeline.ΦA
  rw [scopedRest0_eq]
  simp only [show fgt 0 = false from rfl, show fgt 1 = true from rfl, show fgt 2 = true from rfl, show fgt 3 = true from rfl,
    show fgt 4 = true from rfl, show fgt 5 = true from rfl, show fgt 6 = true from rfl, show fgt 7 = true from rfl]
  rw [show (dats m 0 c).after 0 t = iblk m c 0 t from by dsimp only [dats]; rfl]
  simp only [← owns_whole]
  iintro ⟨⟨⟨H8, H9, H10⟩, Hr⟩, Ho, ⟨%d0, H0⟩, H1, H2, H3, H4, H5, H6, H7⟩
  iapply (kernelRun c _ _ _ _ _ _ _ _ _ _ _ _ _ _ _ _ _ _ _ _ _ _ (iblk m c 0 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  isplitl [H8 H9 H10 Hr]
  · isplitr [Hr]
    · isplitl [H8]; · iexact H8
      isplitl [H9]; · iexact H9
      iexact H10
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

-- `θ_run_frame_forget`'s implicit arguments are found by unifying its conclusion with this one
set_option backward.isDefEq.respectTransparency.types false in
/-- From any memory with zero counters every weakly fair execution of @main terminates, with every argument array as launched and every
    counter at zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ 𝒱₀ fgt m ρ main
    (hbody := fun c => body_obligation m c) (hshare := fun c => (dats m 0 c).share_full fun _ => rfl)
    (howed := fun _ _ => rfl) (V := V m) (hmain := hmain m 𝒱₀) (hA := fun _ _ => rfl) (hΦ := fun _ _ => rfl)

/-- The frame claim's conclusion, from every initial memory. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => ((h.1 c).2 main_arg0 (Pipeline.mem_restRefs_of main_arg0 (by decide) (by decide))).trans (V_main_arg0 m c), h.2⟩)
    (run_main (F := Ideal) m ρ)

end Cert.Proof.KernelIdeal

end
-- ==== Proof.Frames.lean ====
/-
  The three frame claims and the ledger of the idealization.
-/
module

public import proofs.«01_k».proof.Defs
public import proofs.«01_k».proof.Proof.KernelFrame
public import proofs.«01_k».proof.Proof.IdealFrame
public import proofs.«01_k».proof.Proof.Gen.ReferenceIdeal.Run
public import Idealize.ShloMosaic.PureOps.IdealRules
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts

/-- The kernel's frame, over bit patterns. -/
theorem frame_p : Cert.quiescent_Kernel := fun m ρ _ => Cert.Proof.Kernel.frame m ρ

/-- The idealized kernel's frame. -/
theorem frame_pi : Cert.quiescent_KernelIdeal := fun m ρ _ => Cert.Proof.KernelIdeal.frame m ρ

/-- The idealized reference's frame: a straight line of host operations, in a signature without semaphores. -/
theorem frame_ri : Cert.quiescent_ReferenceIdeal := fun m ρ _ =>
  (θ_run Cert.ReferenceIdeal.defs _ _).mono (fun r h => ⟨fun c => (h c).2.2.2.2.2.2.2,
      Idealize.ShloMosaic.sem_eq_zero_of_no_sems (by decide) r.2⟩)
    (Cert.ReferenceIdeal.Value.run (F := Ideal) m ρ)

/-- The ledger: the named constants and the two shapes at which a word's upper half is read as a rounding to bf16. -/
theorem preserves : Cert.preserves_Kernel_KernelIdeal :=
  ⟨IdealRules.named_const.statement Cert.KernelIdeal.κ "minus_2_over_ln_2" .f32 0xC038AA3B#32 _ rfl,
   IdealRules.named_const.statement Cert.KernelIdeal.κ "inv_17" .f32 0x3D70F0F1#32 _ rfl,
   IdealRules.bf16_pack.statement _, IdealRules.bf16_pack.statement _,
   IdealRules.named_const.statement Cert.KernelIdeal.κ "inv_n" .f32 0x3A088889#32 _ rfl,
   IdealRules.named_const.statement Cert.KernelIdeal.κ "ln_256" .f32 0x40B17218#32 _ rfl,
   IdealRules.named_const.statement Cert.KernelIdeal.κ "ln_512" .f32 0x40C7A05B#32 _ rfl,
   IdealRules.named_const.statement Cert.KernelIdeal.κ "ln_256_over_n" .f32 0xC000F42C#32 _ rfl,
   IdealRules.named_const.statement Cert.KernelIdeal.κ "ln_512_over_n" .f32 0xBFA92F4C#32 _ rfl⟩

end Cert.Proof

end
-- ==== Proof.Packed.lean ====
/-
  The packed input: what the scratch of widened channels holds, and what a load of it reads.
-/
module

public import proofs.«01_k».proof.Proof.IdealRun
public import Idealize.ShloMosaic.Lib.ValueLayout
public import Idealize.ShloMosaic.Lib.Pipeline.Value
public import Idealize.ShloMosaic.Lib.Ring

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.ValueIdx Idealize.ShloMosaic.View

variable {F : FTy → Type} [FloatOps F]

/-- The widened channel `c` of token `(b, n)` of an input `X`, at natural coordinates. -/
def tok (X : S17x3x640.Idx → F .bf16) (b n c : ℕ) : F .f32 :=
  if h : c < 17 ∧ b < 3 ∧ n < 640 then
    FloatOps.extf .f32 bitsLt_bf16_f32 (X (ix3 (⟨c, h.1⟩ : Fin 17) (⟨b, h.2.1⟩ : Fin 3) (⟨n, h.2.2⟩ : Fin 640)))
  else FloatOps.ofBits .f32 0x461C4000#32

/-- What the packed input holds at channel `c`, row `r`, lane `l`: row `r = 3 t + b` is tile `t` of batch row `b`, row 15 padding. -/
def packed (X : S17x3x640.Idx → F .bf16) (r l c : ℕ) : F .f32 :=
  if r < 15 then tok X (r % 3) (r / 3 * 128 + l) c else FloatOps.ofBits .f32 0x461C4000#32

/-- The packed input as an array. -/
def packedArr (X : S17x3x640.Idx → F .bf16) : S17x16x128.Idx → F .f32 := fun j => packed X (j 1).val (j 2).val (j 0).val

variable (arg0 : Memref sig .tc .vmem S17x3x640 .bf16) (arg8 : Memref sig .tc .vmem S17x16x128 .f32)
variable (f0 : arg0.view.ty.Contents (Elt F))

/-- The input as the body finds it. -/
abbrev inp : S17x3x640.Idx → F .bf16 := arg0.view.read (Elt F) f0

/-- One block of three rows of one channel, widened and stored, agrees with the packed input. -/
theorem packed_piece (c t o q : ℕ) (ho : o = 3 * t) (hq : q = t * 128) (hc : c < 17) (ht : t < 5)
    (inb : ∀ a, (![c, o, 0] : Fin 3 → ℕ) a + S1x3x128.size a ≤ S17x16x128.size a)
    (inb' : ∀ a, (![c, 0, q] : Fin 3 → ℕ) a + S1x3x128.size a ≤ S17x3x640.size a) (h h') (hb)
    (x : S1x3x128.Idx) :
    shapeCast S1x3x128 (extf .f32 (shapeCast S3x128 (View.readAt (Elt F) arg0.view
      (Rect.unit (s := S17x3x640) ![c, 0, q] S1x3x128.size inb').toLoadRect f0) h) hb) h' x
      = packedArr (inp arg0 f0) ((Rect.unit (s := S17x16x128) ![c, o, 0] S1x3x128.size inb).emb x) := by
  subst ho hq
  have h0 : (x 0).val < 1 := (x 0).isLt
  have h1 : (x 1).val < 3 := (x 1).isLt
  have h2 : (x 2).val < 128 := (x 2).isLt
  have e0 : ((Rect.unit (s := S17x16x128) ![c, 3 * t, 0] S1x3x128.size inb).emb x 0).val = c := by
    show c + 1 * (x 0).val = c; omega
  have e1 : ((Rect.unit (s := S17x16x128) ![c, 3 * t, 0] S1x3x128.size inb).emb x 1).val = 3 * t + (x 1).val := by
    show 3 * t + 1 * (x 1).val = _; omega
  have e2 : ((Rect.unit (s := S17x16x128) ![c, 3 * t, 0] S1x3x128.size inb).emb x 2).val = (x 2).val := by
    show 0 + 1 * (x 2).val = _; omega
  unfold packedArr packed
  rw [e0, e1, e2, if_pos (by omega), show (3 * t + (x 1).val) % 3 = (x 1).val by omega, show (3 * t + (x 1).val) / 3 = t by omega]
  unfold tok
  rw [dif_pos ⟨hc, h1, by omega⟩]
  refine (congrArg (shapeCast S1x3x128 _ h') (eq_ix3 x)).trans ((shapeCast_ab_1ab_apply (a := 3) (b := 128) _ h' (x 0) (x 1) (x 2)).trans ?_)
  show FloatOps.extf .f32 hb (shapeCast S3x128 _ h (ix2 (x 1) (x 2))) = _
  refine congrArg _ ((shapeCast_1ab_ab_apply (a := 3) (b := 128) _ h (x 1) (x 2)).trans ?_)
  rw [readAt_apply]
  refine congrArg _ (funext fun a => Fin.ext ?_)
  match a with
  | ⟨0, _⟩ => show c + 1 * 0 = c; omega
  | ⟨1, _⟩ => show 0 + 1 * (x 1).val = (x 1).val; omega
  | ⟨2, _⟩ => show t * 128 + 1 * (x 2).val = t * 128 + (x 2).val; omega

/-- The padding row of one channel. -/
theorem packed_pad (c : ℕ) (X : S17x3x640.Idx → F .bf16)
    (inb : ∀ a, (![c, 15, 0] : Fin 3 → ℕ) a + S1x1x128.size a ≤ S17x16x128.size a) (h)
    (x : S1x1x128.Idx) :
    shapeCast S1x1x128 (broadcast S1x128 (FloatOps.ofBits (F := F) .f32 0x461C4000#32)) h x
      = packedArr X ((Rect.unit (s := S17x16x128) ![c, 15, 0] S1x1x128.size inb).emb x) := by
  unfold packedArr packed
  rw [if_neg]
  · rfl
  · show ¬ (15 + 1 * (x 1).val < 15); omega

/-- Every store of the packing agrees with the packed input. -/
theorem packed_pieces : ∀ p ∈ stretch.sl.H8_102 arg0 f0, ∀ x : p.1.shape.Idx, p.2 x = packedArr (inp arg0 f0) (p.1.emb x) := by
  simp only [stretch.sl.H8_102, stretch.sl.H8_97, stretch.sl.H8_92, stretch.sl.H8_87, stretch.sl.H8_82, stretch.sl.H8_77, stretch.sl.H8_73, stretch.sl.H8_68, stretch.sl.H8_63, stretch.sl.H8_58, stretch.sl.H8_53, stretch.sl.H8_48, stretch.sl.H8_44, stretch.sl.H8_39, stretch.sl.H8_34, stretch.sl.H8_29, stretch.sl.H8_24, stretch.sl.H8_19, stretch.sl.H8_14, stretch.sl.H8_9, stretch.sl.H8_4, List.forall_mem_cons]
  refine ⟨packed_piece _ _ 16 4 12 512 rfl rfl (by decide) (by decide) _ _ _ _ _, packed_piece _ _ 16 3 9 384 rfl rfl (by decide) (by decide) _ _ _ _ _, packed_piece _ _ 16 2 6 256 rfl rfl (by decide) (by decide) _ _ _ _ _, packed_piece _ _ 16 1 3 128 rfl rfl (by decide) (by decide) _ _ _ _ _, packed_piece _ _ 16 0 0 0 rfl rfl (by decide) (by decide) _ _ _ _ _, packed_pad 16 _ _ _, packed_piece _ _ 15 4 12 512 rfl rfl (by decide) (by decide) _ _ _ _ _, packed_piece _ _ 15 3 9 384 rfl rfl (by decide) (by decide) _ _ _ _ _, packed_piece _ _ 15 2 6 256 rfl rfl (by decide) (by decide) _ _ _ _ _, packed_piece _ _ 15 1 3 128 rfl rfl (by decide) (by decide) _ _ _ _ _, packed_piece _ _ 15 0 0 0 rfl rfl (by decide) (by decide) _ _ _ _ _, packed_pad 15 _ _ _, packed_piece _ _ 14 4 12 512 rfl rfl (by decide) (by decide) _ _ _ _ _, packed_piece _ _ 14 3 9 384 rfl rfl (by decide) (by decide) _ _ _ _ _, packed_piece _ _ 14 2 6 256 rfl rfl (by decide) (by decide) _ _ _ _ _, packed_piece _ _ 14 1 3 128 rfl rfl (by decide) (by decide) _ _ _ _ _, packed_piece _ _ 14 0 0 0 rfl rfl (by decide) (by decide) _ _ _ _ _, packed_pad 14 _ _ _, packed_piece _ _ 13 4 12 512 rfl rfl (by decide) (by decide) _ _ _ _ _, packed_piece _ _ 13 3 9 384 rfl rfl (by decide) (by decide) _ _ _ _ _, packed_piece _ _ 13 2 6 256 rfl rfl (by decide) (by decide) _ _ _ _ _, packed_piece _ _ 13 1 3 128 rfl rfl (by decide) (by decide) _ _ _ _ _, packed_piece _ _ 13 0 0 0 rfl rfl (by decide) (by decide) _ _ _ _ _, packed_pad 13 _ _ _, packed_piece _ _ 12 4 12 512 rfl rfl (by decide) (by decide) _ _ _ _ _, packed_piece _ _ 12 3 9 384 rfl rfl (by decide) (by decide) _ _ _ _ _, packed_piece _ _ 12 2 6 256 rfl rfl (by decide) (by decide) _ _ _ _ _, packed_piece _ _ 12 1 3 128 rfl rfl (by decide) (by decide) _ _ _ _ _, packed_piece _ _ 12 0 0 0 rfl rfl (by decide) (by decide) _ _ _ _ _, packed_pad 12 _ _ _, packed_piece _ _ 11 4 12 512 rfl rfl (by decide) (by decide) _ _ _ _ _, packed_piece _ _ 11 3 9 384 rfl rfl (by decide) (by decide) _ _ _ _ _, packed_piece _ _ 11 2 6 256 rfl rfl (by decide) (by decide) _ _ _ _ _, packed_piece _ _ 11 1 3 128 rfl rfl (by decide) (by decide) _ _ _ _ _, packed_piece _ _ 11 0 0 0 rfl rfl (by decide) (by decide) _ _ _ _ _, packed_pad 11 _ _ _, packed_piece _ _ 10 4 12 512 rfl rfl (by decide) (by decide) _ _ _ _ _, packed_piece _ _ 10 3 9 384 rfl rfl (by decide) (by decide) _ _ _ _ _, packed_piece _ _ 10 2 6 256 rfl rfl (by decide) (by decide) _ _ _ _ _, packed_piece _ _ 10 1 3 128 rfl rfl (by decide) (by decide) _ _ _ _ _, packed_piece _ _ 10 0 0 0 rfl rfl (by decide) (by decide) _ _ _ _ _, packed_pad 10 _ _ _, packed_piece _ _ 9 4 12 512 rfl rfl (by decide) (by decide) _ _ _ _ _, packed_piece _ _ 9 3 9 384 rfl rfl (by decide) (by decide) _ _ _ _ _, packed_piece _ _ 9 2 6 256 rfl rfl (by decide) (by decide) _ _ _ _ _, packed_piece _ _ 9 1 3 128 rfl rfl (by decide) (by decide) _ _ _ _ _, packed_piece _ _ 9 0 0 0 rfl rfl (by decide) (by decide) _ _ _ _ _, packed_pad 9 _ _ _, packed_piece _ _ 8 4 12 512 rfl rfl (by decide) (by decide) _ _ _ _ _, packed_piece _ _ 8 3 9 384 rfl rfl (by decide) (by decide) _ _ _ _ _, packed_piece _ _ 8 2 6 256 rfl rfl (by decide) (by decide) _ _ _ _ _, packed_piece _ _ 8 1 3 128 rfl rfl (by decide) (by decide) _ _ _ _ _, packed_piece _ _ 8 0 0 0 rfl rfl (by decide) (by decide) _ _ _ _ _, packed_pad 8 _ _ _, packed_piece _ _ 7 4 12 512 rfl rfl (by decide) (by decide) _ _ _ _ _, packed_piece _ _ 7 3 9 384 rfl rfl (by decide) (by decide) _ _ _ _ _, packed_piece _ _ 7 2 6 256 rfl rfl (by decide) (by decide) _ _ _ _ _, packed_piece _ _ 7 1 3 128 rfl rfl (by decide) (by decide) _ _ _ _ _, packed_piece _ _ 7 0 0 0 rfl rfl (by decide) (by decide) _ _ _ _ _, packed_pad 7 _ _ _, packed_piece _ _ 6 4 12 512 rfl rfl (by decide) (by decide) _ _ _ _ _, packed_piece _ _ 6 3 9 384 rfl rfl (by decide) (by decide) _ _ _ _ _, packed_piece _ _ 6 2 6 256 rfl rfl (by decide) (by decide) _ _ _ _ _, packed_piece _ _ 6 1 3 128 rfl rfl (by decide) (by decide) _ _ _ _ _, packed_piece _ _ 6 0 0 0 rfl rfl (by decide) (by decide) _ _ _ _ _, packed_pad 6 _ _ _, packed_piece _ _ 5 4 12 512 rfl rfl (by decide) (by decide) _ _ _ _ _, packed_piece _ _ 5 3 9 384 rfl rfl (by decide) (by decide) _ _ _ _ _, packed_piece _ _ 5 2 6 256 rfl rfl (by decide) (by decide) _ _ _ _ _, packed_piece _ _ 5 1 3 128 rfl rfl (by decide) (by decide) _ _ _ _ _, packed_piece _ _ 5 0 0 0 rfl rfl (by decide) (by decide) _ _ _ _ _, packed_pad 5 _ _ _, packed_piece _ _ 4 4 12 512 rfl rfl (by decide) (by decide) _ _ _ _ _, packed_piece _ _ 4 3 9 384 rfl rfl (by decide) (by decide) _ _ _ _ _, packed_piece _ _ 4 2 6 256 rfl rfl (by decide) (by decide) _ _ _ _ _, packed_piece _ _ 4 1 3 128 rfl rfl (by decide) (by decide) _ _ _ _ _, packed_piece _ _ 4 0 0 0 rfl rfl (by decide) (by decide) _ _ _ _ _, packed_pad 4 _ _ _, packed_piece _ _ 3 4 12 512 rfl rfl (by decide) (by decide) _ _ _ _ _, packed_piece _ _ 3 3 9 384 rfl rfl (by decide) (by decide) _ _ _ _ _, packed_piece _ _ 3 2 6 256 rfl rfl (by decide) (by decide) _ _ _ _ _, packed_piece _ _ 3 1 3 128 rfl rfl (by decide) (by decide) _ _ _ _ _, packed_piece _ _ 3 0 0 0 rfl rfl (by decide) (by decide) _ _ _ _ _, packed_pad 3 _ _ _, packed_piece _ _ 2 4 12 512 rfl rfl (by decide) (by decide) _ _ _ _ _, packed_piece _ _ 2 3 9 384 rfl rfl (by decide) (by decide) _ _ _ _ _, packed_piece _ _ 2 2 6 256 rfl rfl (by decide) (by decide) _ _ _ _ _, packed_piece _ _ 2 1 3 128 rfl rfl (by decide) (by decide) _ _ _ _ _, packed_piece _ _ 2 0 0 0 rfl rfl (by decide) (by decide) _ _ _ _ _, packed_pad 2 _ _ _, packed_piece _ _ 1 4 12 512 rfl rfl (by decide) (by decide) _ _ _ _ _, packed_piece _ _ 1 3 9 384 rfl rfl (by decide) (by decide) _ _ _ _ _, packed_piece _ _ 1 2 6 256 rfl rfl (by decide) (by decide) _ _ _ _ _, packed_piece _ _ 1 1 3 128 rfl rfl (by decide) (by decide) _ _ _ _ _, packed_piece _ _ 1 0 0 0 rfl rfl (by decide) (by decide) _ _ _ _ _, packed_pad 1 _ _ _, packed_piece _ _ 0 4 12 512 rfl rfl (by decide) (by decide) _ _ _ _ _, packed_piece _ _ 0 3 9 384 rfl rfl (by decide) (by decide) _ _ _ _ _, packed_piece _ _ 0 2 6 256 rfl rfl (by decide) (by decide) _ _ _ _ _, packed_piece _ _ 0 1 3 128 rfl rfl (by decide) (by decide) _ _ _ _ _, packed_piece _ _ 0 0 0 0 rfl rfl (by decide) (by decide) _ _ _ _ _, packed_pad 0 _ _ _, fun _ h => absurd h List.not_mem_nil⟩

/-- The stores of the packing cover it. -/
theorem packed_cover : ∀ y : S17x16x128.Idx, ∃ p ∈ stretch.sl.H8_102 arg0 f0, y ∈ p.1.set :=
  cover_of_tiledBy _ ![1, 1, 128] (by sl_kernel_rfl)

/-- The canonical contents of the packing. -/
theorem packed_canon : canon (stretch.sl.H8_102 arg0 f0) = packedArr (inp arg0 f0) :=
  funext fun y => canon_apply_of_pieces _ _ (packed_pieces arg0 f0) y (packed_cover arg0 f0 y)

/-- A load of the packed input. -/
theorem packed_load (B : LoadRect S17x16x128) :
    arg8.view.readCov (stretch.sl.H8_102 arg0 f0) B = fun j => packedArr (inp arg0 f0) (B.idx j) := by
  rw [readCov_eq_canon', packed_canon]

end Cert.Proof.KernelIdeal

end
-- ==== Proof.Planes.lean ====
/-
  The two planes of eight packed rows, and what the body computes of each token from its channels: one scalar formula per result.
-/
module

public import proofs.«01_k».proof.Proof.Packed

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.ValueIdx Idealize.ShloMosaic.View

variable {F : FTy → Type} [FloatOps F] [Named F]

/-! ## The scalar formulas, in the channels `z` of one token -/

/-- Whether a channel is positive. -/
def mPos (x : F .f32) : BitVec 1 := FloatOps.cmpf .ogt x (Scalar.ofBits .f32 0x00000000#32)
/-- A channel's bit, with its weight. -/
def mBit (x : F .f32) (w : BitVec 32) : BitVec 32 := Scalar.select (mPos x) w 0#32
/-- The code of the channels `first, …, first + n`, of a book of `bits` bits. -/
def mCode (z : ℕ → F .f32) (first bits : ℕ) : ℕ → BitVec 32
  | 0 => mBit (z first) (BitVec.ofNat 32 (2 ^ (bits - 1)))
  | n + 1 => IntOp.addi (mCode z first bits n) (mBit (z (first + (n + 1))) (BitVec.ofNat 32 (2 ^ (bits - 1 - (n + 1)))))
/-- The code in the first book. -/
def mIa (z : ℕ → F .f32) : BitVec 32 := mCode z 0 8 7
/-- The code in the second book. -/
def mIb (z : ℕ → F .f32) : BitVec 32 := mCode z 8 9 8
/-- A sum over the channels `0, …, n`, from the left. -/
def mSum (f : ℕ → F .f32) : ℕ → F .f32
  | 0 => f 0
  | n + 1 => FloatOps.addf (mSum f n) (f (n + 1))
/-- A channel's distance to its sign. -/
def mErr (x : F .f32) : F .f32 := FloatOps.subf x (Scalar.select (mPos x) (Scalar.ofBits .f32 0x3F800000#32) (Scalar.ofBits .f32 0xBF800000#32))
/-- The commitment term of a token. -/
def mCom (z : ℕ → F .f32) : F .f32 := FloatOps.mulf (mSum (fun c => FloatOps.mulf (mErr (z c)) (mErr (z c))) 16) (Named.named κ "inv_17" 0x3D70F0F1#32)
/-- The exponential of a channel's magnitude. -/
def mE (x : F .f32) : F .f32 := FloatOps.exp2 (FloatOps.mulf (FloatOps.absf x) (Named.named κ "minus_2_over_ln_2" 0xC038AA3B#32))
/-- One more than it. -/
def mU (x : F .f32) : F .f32 := FloatOps.addf (Scalar.ofBits .f32 0x3F800000#32) (mE x)
/-- The probability of a channel's own sign. -/
def mNear (x : F .f32) : F .f32 := FloatOps.divf (Scalar.ofBits .f32 0x3F800000#32) (mU x)
/-- The probability of the other sign. -/
def mFar (x : F .f32) : F .f32 := FloatOps.mulf (mE x) (mNear x)
/-- The product of the `1 + e` of channels `0, …, n`, less one. -/
def mBig (z : ℕ → F .f32) : ℕ → F .f32
  | 0 => mE (z 0)
  | n + 1 => FloatOps.addf (FloatOps.mulf (mBig z n) (mU (z (n + 1)))) (mE (z (n + 1)))
/-- The entropy of a token. -/
def mEnt (z : ℕ → F .f32) : F .f32 := FloatOps.addf (FloatOps.log1p (mBig z 16))
  (FloatOps.mulf (Scalar.ofBits .f32 0x40000000#32) (mSum (fun c => FloatOps.mulf (FloatOps.absf (z c)) (mFar (z c))) 16))
/-- The sum of a token's magnitudes. -/
def mMag (z : ℕ → F .f32) : F .f32 := mSum (fun c => FloatOps.absf (z c)) 16
/-- The probability of a positive sign. -/
def mP (x : F .f32) : F .f32 := Scalar.select (mPos x) (mNear x) (mFar x)
/-- The probability of a negative sign. -/
def mQ (x : F .f32) : F .f32 := Scalar.select (mPos x) (mFar x) (mNear x)

/-! ## The planes -/

variable (arg0 : Memref sig .tc .vmem S17x3x640 .bf16) (arg8 : Memref sig .tc .vmem S17x16x128 .f32)
variable (f0 : arg0.view.ty.Contents (Elt F))

omit [Named F] in
/-- A channel's plane as loaded: eight rows of the packed input from row `o`. -/
theorem plane_load (c o : ℕ) (inb : ∀ a, (![c, o, 0] : Fin 3 → ℕ) a + S1x8x128.size a ≤ S17x16x128.size a) (h) (i : S8x128.Idx) :
    shapeCast S8x128 (arg8.view.readCov (stretch.sl.H8_102 arg0 f0) (Rect.unit (s := S17x16x128) ![c, o, 0] S1x8x128.size inb).toLoadRect) h i
      = packed (inp arg0 f0) (o + (i 0).val) (i 1).val c := by
  rw [packed_load]
  refine (congrArg (shapeCast S8x128 _ h) (eq_ix2 i)).trans ((shapeCast_1ab_ab_apply (a := 8) (b := 128) _ h (i 0) (i 1)).trans ?_)
  unfold packedArr
  refine congr (congr (congrArg (packed (inp arg0 f0)) ?_) ?_) ?_
  · show o + 1 * (i 0).val = _; omega
  · show 0 + 1 * (i 1).val = _; omega
  · show c + 1 * 0 = c; omega

/-- The channels of plane 0, as loaded. -/
def plane0 : ℕ → FVec F S8x128 .f32
  | 0 => shapeCast S8x128 (arg8.view.readCov (stretch.sl.H8_102 arg0 f0) (Rect.unit (s := S17x16x128) ![0, 0, 0] S1x8x128.size inb_S17x16x128_S1x8x128_0_0_0).toLoadRect) shapeCasts_S1x8x128_S8x128
  | 1 => shapeCast S8x128 (arg8.view.readCov (stretch.sl.H8_102 arg0 f0) (Rect.unit (s := S17x16x128) ![1, 0, 0] S1x8x128.size inb_S17x16x128_S1x8x128_1_0_0).toLoadRect) shapeCasts_S1x8x128_S8x128
  | 2 => shapeCast S8x128 (arg8.view.readCov (stretch.sl.H8_102 arg0 f0) (Rect.unit (s := S17x16x128) ![2, 0, 0] S1x8x128.size inb_S17x16x128_S1x8x128_2_0_0).toLoadRect) shapeCasts_S1x8x128_S8x128
  | 3 => shapeCast S8x128 (arg8.view.readCov (stretch.sl.H8_102 arg0 f0) (Rect.unit (s := S17x16x128) ![3, 0, 0] S1x8x128.size inb_S17x16x128_S1x8x128_3_0_0).toLoadRect) shapeCasts_S1x8x128_S8x128
  | 4 => shapeCast S8x128 (arg8.view.readCov (stretch.sl.H8_102 arg0 f0) (Rect.unit (s := S17x16x128) ![4, 0, 0] S1x8x128.size inb_S17x16x128_S1x8x128_4_0_0).toLoadRect) shapeCasts_S1x8x128_S8x128
  | 5 => shapeCast S8x128 (arg8.view.readCov (stretch.sl.H8_102 arg0 f0) (Rect.unit (s := S17x16x128) ![5, 0, 0] S1x8x128.size inb_S17x16x128_S1x8x128_5_0_0).toLoadRect) shapeCasts_S1x8x128_S8x128
  | 6 => shapeCast S8x128 (arg8.view.readCov (stretch.sl.H8_102 arg0 f0) (Rect.unit (s := S17x16x128) ![6, 0, 0] S1x8x128.size inb_S17x16x128_S1x8x128_6_0_0).toLoadRect) shapeCasts_S1x8x128_S8x128
  | 7 => shapeCast S8x128 (arg8.view.readCov (stretch.sl.H8_102 arg0 f0) (Rect.unit (s := S17x16x128) ![7, 0, 0] S1x8x128.size inb_S17x16x128_S1x8x128_7_0_0).toLoadRect) shapeCasts_S1x8x128_S8x128
  | 8 => shapeCast S8x128 (arg8.view.readCov (stretch.sl.H8_102 arg0 f0) (Rect.unit (s := S17x16x128) ![8, 0, 0] S1x8x128.size inb_S17x16x128_S1x8x128_8_0_0).toLoadRect) shapeCasts_S1x8x128_S8x128
  | 9 => shapeCast S8x128 (arg8.view.readCov (stretch.sl.H8_102 arg0 f0) (Rect.unit (s := S17x16x128) ![9, 0, 0] S1x8x128.size inb_S17x16x128_S1x8x128_9_0_0).toLoadRect) shapeCasts_S1x8x128_S8x128
  | 10 => shapeCast S8x128 (arg8.view.readCov (stretch.sl.H8_102 arg0 f0) (Rect.unit (s := S17x16x128) ![10, 0, 0] S1x8x128.size inb_S17x16x128_S1x8x128_10_0_0).toLoadRect) shapeCasts_S1x8x128_S8x128
  | 11 => shapeCast S8x128 (arg8.view.readCov (stretch.sl.H8_102 arg0 f0) (Rect.unit (s := S17x16x128) ![11, 0, 0] S1x8x128.size inb_S17x16x128_S1x8x128_11_0_0).toLoadRect) shapeCasts_S1x8x128_S8x128
  | 12 => shapeCast S8x128 (arg8.view.readCov (stretch.sl.H8_102 arg0 f0) (Rect.unit (s := S17x16x128) ![12, 0, 0] S1x8x128.size inb_S17x16x128_S1x8x128_12_0_0).toLoadRect) shapeCasts_S1x8x128_S8x128
  | 13 => shapeCast S8x128 (arg8.view.readCov (stretch.sl.H8_102 arg0 f0) (Rect.unit (s := S17x16x128) ![13, 0, 0] S1x8x128.size inb_S17x16x128_S1x8x128_13_0_0).toLoadRect) shapeCasts_S1x8x128_S8x128
  | 14 => shapeCast S8x128 (arg8.view.readCov (stretch.sl.H8_102 arg0 f0) (Rect.unit (s := S17x16x128) ![14, 0, 0] S1x8x128.size inb_S17x16x128_S1x8x128_14_0_0).toLoadRect) shapeCasts_S1x8x128_S8x128
  | 15 => shapeCast S8x128 (arg8.view.readCov (stretch.sl.H8_102 arg0 f0) (Rect.unit (s := S17x16x128) ![15, 0, 0] S1x8x128.size inb_S17x16x128_S1x8x128_15_0_0).toLoadRect) shapeCasts_S1x8x128_S8x128
  | 16 => shapeCast S8x128 (arg8.view.readCov (stretch.sl.H8_102 arg0 f0) (Rect.unit (s := S17x16x128) ![16, 0, 0] S1x8x128.size inb_S17x16x128_S1x8x128_16_0_0).toLoadRect) shapeCasts_S1x8x128_S8x128
  | n + 17 => fun i => packed (inp arg0 f0) (0 + (i 0).val) (i 1).val (n + 17)

omit [Named F] in
/-- A loaded channel of the first plane is the packed input. -/
theorem plane0_eq (i : S8x128.Idx) : (fun c => plane0 arg0 arg8 f0 c i) = packed (inp arg0 f0) (0 + (i 0).val) (i 1).val := by
  funext c
  unfold plane0
  split
  all_goals first | exact plane_load arg0 arg8 f0 _ _ _ _ i | rfl

/-- The channels of plane 1, as loaded. -/
def plane1 : ℕ → FVec F S8x128 .f32
  | 0 => shapeCast S8x128 (arg8.view.readCov (stretch.sl.H8_102 arg0 f0) (Rect.unit (s := S17x16x128) ![0, 8, 0] S1x8x128.size inb_S17x16x128_S1x8x128_0_8_0).toLoadRect) shapeCasts_S1x8x128_S8x128
  | 1 => shapeCast S8x128 (arg8.view.readCov (stretch.sl.H8_102 arg0 f0) (Rect.unit (s := S17x16x128) ![1, 8, 0] S1x8x128.size inb_S17x16x128_S1x8x128_1_8_0).toLoadRect) shapeCasts_S1x8x128_S8x128
  | 2 => shapeCast S8x128 (arg8.view.readCov (stretch.sl.H8_102 arg0 f0) (Rect.unit (s := S17x16x128) ![2, 8, 0] S1x8x128.size inb_S17x16x128_S1x8x128_2_8_0).toLoadRect) shapeCasts_S1x8x128_S8x128
  | 3 => shapeCast S8x128 (arg8.view.readCov (stretch.sl.H8_102 arg0 f0) (Rect.unit (s := S17x16x128) ![3, 8, 0] S1x8x128.size inb_S17x16x128_S1x8x128_3_8_0).toLoadRect) shapeCasts_S1x8x128_S8x128
  | 4 => shapeCast S8x128 (arg8.view.readCov (stretch.sl.H8_102 arg0 f0) (Rect.unit (s := S17x16x128) ![4, 8, 0] S1x8x128.size inb_S17x16x128_S1x8x128_4_8_0).toLoadRect) shapeCasts_S1x8x128_S8x128
  | 5 => shapeCast S8x128 (arg8.view.readCov (stretch.sl.H8_102 arg0 f0) (Rect.unit (s := S17x16x128) ![5, 8, 0] S1x8x128.size inb_S17x16x128_S1x8x128_5_8_0).toLoadRect) shapeCasts_S1x8x128_S8x128
  | 6 => shapeCast S8x128 (arg8.view.readCov (stretch.sl.H8_102 arg0 f0) (Rect.unit (s := S17x16x128) ![6, 8, 0] S1x8x128.size inb_S17x16x128_S1x8x128_6_8_0).toLoadRect) shapeCasts_S1x8x128_S8x128
  | 7 => shapeCast S8x128 (arg8.view.readCov (stretch.sl.H8_102 arg0 f0) (Rect.unit (s := S17x16x128) ![7, 8, 0] S1x8x128.size inb_S17x16x128_S1x8x128_7_8_0).toLoadRect) shapeCasts_S1x8x128_S8x128
  | 8 => shapeCast S8x128 (arg8.view.readCov (stretch.sl.H8_102 arg0 f0) (Rect.unit (s := S17x16x128) ![8, 8, 0] S1x8x128.size inb_S17x16x128_S1x8x128_8_8_0).toLoadRect) shapeCasts_S1x8x128_S8x128
  | 9 => shapeCast S8x128 (arg8.view.readCov (stretch.sl.H8_102 arg0 f0) (Rect.unit (s := S17x16x128) ![9, 8, 0] S1x8x128.size inb_S17x16x128_S1x8x128_9_8_0).toLoadRect) shapeCasts_S1x8x128_S8x128
  | 10 => shapeCast S8x128 (arg8.view.readCov (stretch.sl.H8_102 arg0 f0) (Rect.unit (s := S17x16x128) ![10, 8, 0] S1x8x128.size inb_S17x16x128_S1x8x128_10_8_0).toLoadRect) shapeCasts_S1x8x128_S8x128
  | 11 => shapeCast S8x128 (arg8.view.readCov (stretch.sl.H8_102 arg0 f0) (Rect.unit (s := S17x16x128) ![11, 8, 0] S1x8x128.size inb_S17x16x128_S1x8x128_11_8_0).toLoadRect) shapeCasts_S1x8x128_S8x128
  | 12 => shapeCast S8x128 (arg8.view.readCov (stretch.sl.H8_102 arg0 f0) (Rect.unit (s := S17x16x128) ![12, 8, 0] S1x8x128.size inb_S17x16x128_S1x8x128_12_8_0).toLoadRect) shapeCasts_S1x8x128_S8x128
  | 13 => shapeCast S8x128 (arg8.view.readCov (stretch.sl.H8_102 arg0 f0) (Rect.unit (s := S17x16x128) ![13, 8, 0] S1x8x128.size inb_S17x16x128_S1x8x128_13_8_0).toLoadRect) shapeCasts_S1x8x128_S8x128
  | 14 => shapeCast S8x128 (arg8.view.readCov (stretch.sl.H8_102 arg0 f0) (Rect.unit (s := S17x16x128) ![14, 8, 0] S1x8x128.size inb_S17x16x128_S1x8x128_14_8_0).toLoadRect) shapeCasts_S1x8x128_S8x128
  | 15 => shapeCast S8x128 (arg8.view.readCov (stretch.sl.H8_102 arg0 f0) (Rect.unit (s := S17x16x128) ![15, 8, 0] S1x8x128.size inb_S17x16x128_S1x8x128_15_8_0).toLoadRect) shapeCasts_S1x8x128_S8x128
  | 16 => shapeCast S8x128 (arg8.view.readCov (stretch.sl.H8_102 arg0 f0) (Rect.unit (s := S17x16x128) ![16, 8, 0] S1x8x128.size inb_S17x16x128_S1x8x128_16_8_0).toLoadRect) shapeCasts_S1x8x128_S8x128
  | n + 17 => fun i => packed (inp arg0 f0) (8 + (i 0).val) (i 1).val (n + 17)

omit [Named F] in
/-- A loaded channel of the second plane is the packed input. -/
theorem plane1_eq (i : S8x128.Idx) : (fun c => plane1 arg0 arg8 f0 c i) = packed (inp arg0 f0) (8 + (i 0).val) (i 1).val := by
  funext c
  unfold plane1
  split
  all_goals first | exact plane_load arg0 arg8 f0 _ _ _ _ i | rfl

/-- The first plane's codes of the first book. -/
theorem ia0_eq : stretch.sl.r_47 arg0 arg8 f0 = fun i => mIa (fun c => plane0 arg0 arg8 f0 c i) := by
  rfl

/-- The second plane's codes of the first book. -/
theorem ia1_eq : stretch.sl.r_173 arg0 arg8 f0 = fun i => mIa (fun c => plane1 arg0 arg8 f0 c i) := by
  rfl

/-- The second plane's codes of the second book. -/
theorem ib1_eq : stretch.sl.r_236 arg0 arg8 f0 = fun i => mIb (fun c => plane1 arg0 arg8 f0 c i) := by
  rfl

/-- The first plane's entropy. -/
theorem ent0_eq : stretch.sl.r_120 arg0 arg8 f0 = fun i => mEnt (fun c => plane0 arg0 arg8 f0 c i) := by
  rfl

/-- The second plane's entropy. -/
theorem ent1_eq : stretch.sl.r_247 arg0 arg8 f0 = fun i => mEnt (fun c => plane1 arg0 arg8 f0 c i) := by
  rfl

/-- The first plane's commitment term. -/
theorem com0_eq : stretch.sl.r_121 arg0 arg8 f0 = fun i => mCom (fun c => plane0 arg0 arg8 f0 c i) := by
  rfl

/-- The second plane's commitment term. -/
theorem com1_eq : stretch.sl.r_248 arg0 arg8 f0 = fun i => mCom (fun c => plane1 arg0 arg8 f0 c i) := by
  rfl

end Cert.Proof.KernelIdeal

end
-- ==== Proof.Tokens.lean ====
/-
  The four results kept per token: what the stores of the body leave in each.
-/
module

public import proofs.«01_k».proof.Proof.Planes

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.ValueIdx Idealize.ShloMosaic.View

variable {F : FTy → Type} [FloatOps F] [Named F]

/-- A result holding one value per token, `S` of the token's channels. -/
def resArr {α : Type} (S : (ℕ → F .f32) → α) (X : S17x3x640.Idx → F .bf16) : S3x640.Idx → α := fun j => S (tok X (j 0).val (j 1).val)

omit [Named F] in
/-- A stored run of `n` rows of a plane, from its row `s`, is batch rows `b, …` of tile `t`. -/
theorem slice_piece {α : Type} (S : (ℕ → F .f32) → α) (X : S17x3x640.Idx → F .bf16) (o s n b q t : ℕ) (pl : ℕ → FVec F S8x128 .f32)
    (hpl : ∀ i : S8x128.Idx, (fun c => pl c i) = packed X (o + (i 0).val) (i 1).val) (hq : q = t * 128) (hrow : o + s = 3 * t + b)
    (hbn : b + n ≤ 3) (hr : o + s + n ≤ 15) (h : S8x128.Slices ![s, 0] (⟨2, ![n, 128]⟩ : Shape))
    (inb : ∀ a, (![b, q] : Fin 2 → ℕ) a + (⟨2, ![n, 128]⟩ : Shape).size a ≤ S3x640.size a) (x : (⟨2, ![n, 128]⟩ : Shape).Idx) :
    extractStridedSlice (⟨2, ![n, 128]⟩ : Shape) ![s, 0] (fun i : S8x128.Idx => S (fun c => pl c i)) h x
      = resArr S X ((Rect.unit (s := S3x640) ![b, q] (⟨2, ![n, 128]⟩ : Shape).size inb).emb x) := by
  have h0 : (x 0).val < n := (x 0).isLt
  have h1 : (x 1).val < 128 := (x 1).isLt
  refine congrArg S ((hpl _).trans (funext fun c => ?_))
  show packed X (o + (s + (x 0).val)) (0 + (x 1).val) c = tok X (b + 1 * (x 0).val) (q + 1 * (x 1).val) c
  unfold packed
  rw [if_pos (by omega), show (o + (s + (x 0).val)) % 3 = b + 1 * (x 0).val by omega,
    show (o + (s + (x 0).val)) / 3 * 128 + (0 + (x 1).val) = q + 1 * (x 1).val by omega]

variable (arg0 : Memref sig .tc .vmem S17x3x640 .bf16) (arg8 : Memref sig .tc .vmem S17x16x128 .f32)
variable (f0 : arg0.view.ty.Contents (Elt F))

/-- Every store of result 1 agrees with its formula. -/
theorem res1_pieces : ∀ p ∈ stretch.sl.H1_6 arg0 arg8 f0, ∀ x : p.1.shape.Idx, p.2 x = resArr mIa (inp arg0 f0) (p.1.emb x) := by
  simp only [stretch.sl.H1_6, stretch.sl.H1_3, stretch.sl.H1_1, List.forall_mem_cons]
  exact ⟨slice_piece mIa _ 8 4 3 0 512 4 (plane1 arg0 arg8 f0) (plane1_eq arg0 arg8 f0) rfl rfl (by decide) (by decide) (by decide) (by decide), slice_piece mIa _ 8 1 3 0 384 3 (plane1 arg0 arg8 f0) (plane1_eq arg0 arg8 f0) rfl rfl (by decide) (by decide) (by decide) (by decide), slice_piece mIa _ 8 0 1 2 256 2 (plane1 arg0 arg8 f0) (plane1_eq arg0 arg8 f0) rfl rfl (by decide) (by decide) (by decide) (by decide), slice_piece mIa _ 0 6 2 0 256 2 (plane0 arg0 arg8 f0) (plane0_eq arg0 arg8 f0) rfl rfl (by decide) (by decide) (by decide) (by decide), slice_piece mIa _ 0 3 3 0 128 1 (plane0 arg0 arg8 f0) (plane0_eq arg0 arg8 f0) rfl rfl (by decide) (by decide) (by decide) (by decide), slice_piece mIa _ 0 0 3 0 0 0 (plane0 arg0 arg8 f0) (plane0_eq arg0 arg8 f0) rfl rfl (by decide) (by decide) (by decide) (by decide), fun _ h => absurd h List.not_mem_nil⟩

/-- The stores of result 1 cover it. -/
theorem res1_cover : ∀ y : S3x640.Idx, ∃ p ∈ stretch.sl.H1_6 arg0 arg8 f0, y ∈ p.1.set :=
  cover_of_tiledBy _ ![1, 128] (by sl_kernel_rfl)

/-- Result 1, read back after its stores. -/
theorem res1_read (arg1 : Memref sig .tc .vmem S3x640 .i32) (f : arg1.view.ty.Contents (Elt F)) :
    arg1.view.read (Elt F) (arg1.view.writes (Elt F) f (stretch.sl.H1_6 arg0 arg8 f0)) = resArr mIa (inp arg0 f0) :=
  funext fun y => read_writes_apply_of_pieces _ _ _ _ (res1_pieces arg0 arg8 f0) y (res1_cover arg0 arg8 f0 y)

/-- Every store of result 2 agrees with its formula. -/
theorem res2_pieces : ∀ p ∈ stretch.sl.H2_6 arg0 arg8 f0, ∀ x : p.1.shape.Idx, p.2 x = resArr mIb (inp arg0 f0) (p.1.emb x) := by
  simp only [stretch.sl.H2_6, stretch.sl.H2_5, stretch.sl.H2_3, stretch.sl.H2_1, List.forall_mem_cons]
  exact ⟨slice_piece mIb _ 8 4 3 0 512 4 (plane1 arg0 arg8 f0) (plane1_eq arg0 arg8 f0) rfl rfl (by decide) (by decide) (by decide) (by decide), slice_piece mIb _ 8 1 3 0 384 3 (plane1 arg0 arg8 f0) (plane1_eq arg0 arg8 f0) rfl rfl (by decide) (by decide) (by decide) (by decide), slice_piece mIb _ 8 0 1 2 256 2 (plane1 arg0 arg8 f0) (plane1_eq arg0 arg8 f0) rfl rfl (by decide) (by decide) (by decide) (by decide), slice_piece mIb _ 0 6 2 0 256 2 (plane0 arg0 arg8 f0) (plane0_eq arg0 arg8 f0) rfl rfl (by decide) (by decide) (by decide) (by decide), slice_piece mIb _ 0 3 3 0 128 1 (plane0 arg0 arg8 f0) (plane0_eq arg0 arg8 f0) rfl rfl (by decide) (by decide) (by decide) (by decide), slice_piece mIb _ 0 0 3 0 0 0 (plane0 arg0 arg8 f0) (plane0_eq arg0 arg8 f0) rfl rfl (by decide) (by decide) (by decide) (by decide), fun _ h => absurd h List.not_mem_nil⟩

/-- The stores of result 2 cover it. -/
theorem res2_cover : ∀ y : S3x640.Idx, ∃ p ∈ stretch.sl.H2_6 arg0 arg8 f0, y ∈ p.1.set :=
  cover_of_tiledBy _ ![1, 128] (by sl_kernel_rfl)

/-- Result 2, read back after its stores. -/
theorem res2_read (arg2 : Memref sig .tc .vmem S3x640 .i32) (f : arg2.view.ty.Contents (Elt F)) :
    arg2.view.read (Elt F) (arg2.view.writes (Elt F) f (stretch.sl.H2_6 arg0 arg8 f0)) = resArr mIb (inp arg0 f0) :=
  funext fun y => read_writes_apply_of_pieces _ _ _ _ (res2_pieces arg0 arg8 f0) y (res2_cover arg0 arg8 f0 y)

/-- Every store of result 3 agrees with its formula. -/
theorem res3_pieces : ∀ p ∈ stretch.sl.H3_6 arg0 arg8 f0, ∀ x : p.1.shape.Idx, p.2 x = resArr mEnt (inp arg0 f0) (p.1.emb x) := by
  simp only [stretch.sl.H3_6, stretch.sl.H3_5, stretch.sl.H3_3, stretch.sl.H3_1, List.forall_mem_cons]
  exact ⟨slice_piece mEnt _ 8 4 3 0 512 4 (plane1 arg0 arg8 f0) (plane1_eq arg0 arg8 f0) rfl rfl (by decide) (by decide) (by decide) (by decide), slice_piece mEnt _ 8 1 3 0 384 3 (plane1 arg0 arg8 f0) (plane1_eq arg0 arg8 f0) rfl rfl (by decide) (by decide) (by decide) (by decide), slice_piece mEnt _ 8 0 1 2 256 2 (plane1 arg0 arg8 f0) (plane1_eq arg0 arg8 f0) rfl rfl (by decide) (by decide) (by decide) (by decide), slice_piece mEnt _ 0 6 2 0 256 2 (plane0 arg0 arg8 f0) (plane0_eq arg0 arg8 f0) rfl rfl (by decide) (by decide) (by decide) (by decide), slice_piece mEnt _ 0 3 3 0 128 1 (plane0 arg0 arg8 f0) (plane0_eq arg0 arg8 f0) rfl rfl (by decide) (by decide) (by decide) (by decide), slice_piece mEnt _ 0 0 3 0 0 0 (plane0 arg0 arg8 f0) (plane0_eq arg0 arg8 f0) rfl rfl (by decide) (by decide) (by decide) (by decide), fun _ h => absurd h List.not_mem_nil⟩

/-- The stores of result 3 cover it. -/
theorem res3_cover : ∀ y : S3x640.Idx, ∃ p ∈ stretch.sl.H3_6 arg0 arg8 f0, y ∈ p.1.set :=
  cover_of_tiledBy _ ![1, 128] (by sl_kernel_rfl)

/-- Result 3, read back after its stores. -/
theorem res3_read (arg3 : Memref sig .tc .vmem S3x640 .f32) (f : arg3.view.ty.Contents (Elt F)) :
    arg3.view.read (Elt F) (arg3.view.writes (Elt F) f (stretch.sl.H3_6 arg0 arg8 f0)) = resArr mEnt (inp arg0 f0) :=
  funext fun y => read_writes_apply_of_pieces _ _ _ _ (res3_pieces arg0 arg8 f0) y (res3_cover arg0 arg8 f0 y)

/-- Every store of result 4 agrees with its formula. -/
theorem res4_pieces : ∀ p ∈ stretch.sl.H4_6 arg0 arg8 f0, ∀ x : p.1.shape.Idx, p.2 x = resArr mCom (inp arg0 f0) (p.1.emb x) := by
  simp only [stretch.sl.H4_6, stretch.sl.H4_5, stretch.sl.H4_3, stretch.sl.H4_1, List.forall_mem_cons]
  exact ⟨slice_piece mCom _ 8 4 3 0 512 4 (plane1 arg0 arg8 f0) (plane1_eq arg0 arg8 f0) rfl rfl (by decide) (by decide) (by decide) (by decide), slice_piece mCom _ 8 1 3 0 384 3 (plane1 arg0 arg8 f0) (plane1_eq arg0 arg8 f0) rfl rfl (by decide) (by decide) (by decide) (by decide), slice_piece mCom _ 8 0 1 2 256 2 (plane1 arg0 arg8 f0) (plane1_eq arg0 arg8 f0) rfl rfl (by decide) (by decide) (by decide) (by decide), slice_piece mCom _ 0 6 2 0 256 2 (plane0 arg0 arg8 f0) (plane0_eq arg0 arg8 f0) rfl rfl (by decide) (by decide) (by decide) (by decide), slice_piece mCom _ 0 3 3 0 128 1 (plane0 arg0 arg8 f0) (plane0_eq arg0 arg8 f0) rfl rfl (by decide) (by decide) (by decide) (by decide), slice_piece mCom _ 0 0 3 0 0 0 (plane0 arg0 arg8 f0) (plane0_eq arg0 arg8 f0) rfl rfl (by decide) (by decide) (by decide) (by decide), fun _ h => absurd h List.not_mem_nil⟩

/-- The stores of result 4 cover it. -/
theorem res4_cover : ∀ y : S3x640.Idx, ∃ p ∈ stretch.sl.H4_6 arg0 arg8 f0, y ∈ p.1.set :=
  cover_of_tiledBy _ ![1, 128] (by sl_kernel_rfl)

/-- Result 4, read back after its stores. -/
theorem res4_read (arg4 : Memref sig .tc .vmem S3x640 .f32) (f : arg4.view.ty.Contents (Elt F)) :
    arg4.view.read (Elt F) (arg4.view.writes (Elt F) f (stretch.sl.H4_6 arg0 arg8 f0)) = resArr mCom (inp arg0 f0) :=
  funext fun y => read_writes_apply_of_pieces _ _ _ _ (res4_pieces arg0 arg8 f0) y (res4_cover arg0 arg8 f0 y)

end Cert.Proof.KernelIdeal

end
-- ==== Proof.Factors.lean ====
/-
  The buffer of factor products: at row `84 r + m` and lane `l` the probability of the `m`-th partial code by the channels of packed
  row `r`, lane `l`. Each plane's eighty strided stores are one list.
-/
module

public import proofs.«01_k».proof.Proof.Planes

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.ValueIdx Idealize.ShloMosaic.View

variable {F : FTy → Type} [FloatOps F] [Named F]

/-- The probability of a sign. -/
def mB (b : Bool) (x : F .f32) : F .f32 := bif b then mP x else mQ x
/-- The probability of a four-bit code by the channels from `c`. -/
def mProd4 (z : ℕ → F .f32) (c m : ℕ) : F .f32 :=
  FloatOps.mulf (FloatOps.mulf (mB (m.testBit 3) (z c)) (mB (m.testBit 2) (z (c + 1)))) (FloatOps.mulf (mB (m.testBit 1) (z (c + 2))) (mB (m.testBit 0) (z (c + 3))))
/-- The probability of a five-bit code by the channels from `c`. -/
def mProd5 (z : ℕ → F .f32) (c m : ℕ) : F .f32 :=
  FloatOps.mulf (FloatOps.mulf (mB (m.testBit 4) (z c)) (mB (m.testBit 3) (z (c + 1))))
    (FloatOps.mulf (mB (m.testBit 2) (z (c + 2))) (FloatOps.mulf (mB (m.testBit 1) (z (c + 3))) (mB (m.testBit 0) (z (c + 4)))))
/-- The partial codes in their order: the two halves of the first book's, then of the second's. -/
def mFactor (z : ℕ → F .f32) (m : ℕ) : F .f32 :=
  bif Nat.blt m 16 then mProd4 z 0 m else bif Nat.blt m 32 then mProd4 z 4 (m - 16) else bif Nat.blt m 64 then mProd5 z 8 (m - 32) else mProd4 z 13 (m - 64)

/-- A strided store of a factor stays in the buffer. -/
theorem fac_inb (v n : ℕ) (h : v * 672 + n + 84 * 7 < 1344) : ∀ a, S8x128.size a = 0 ∨ (![v * 672 + n, 0] : Fin 2 → ℕ) a + (![84, 1] : Fin 2 → ℕ) a * (S8x128.size a - 1) < S1344x128.size a := by
  intro a
  match a with
  | ⟨0, _⟩ => right; show v * 672 + n + 84 * 7 < 1344; exact h
  | ⟨1, _⟩ => right; show 0 + 1 * 127 < 128; omega

/-- A strided store has a positive stride. -/
theorem fac_pos : ∀ a, 0 < (![84, 1] : Fin 2 → ℕ) a := by decide

/-- Where the store of partial code `n` of plane `v` goes. -/
def facRect (v n : ℕ) (h : v * 672 + n + 84 * 7 < 1344) : Rect S1344x128 :=
  { off := ![v * 672 + n, 0], size := S8x128.size, stride := ![84, 1], inb := fac_inb v n h, stride_pos := fac_pos }

/-- The stores of plane `v` up to partial code `n`, the last first, over the stores before. -/
def facPieces (pl : ℕ → FVec F S8x128 .f32) (v : ℕ) (base : List (Piece (Elt F) S1344x128 .f32)) : (n : ℕ) → v * 672 + n + 84 * 7 ≤ 1344 → List (Piece (Elt F) S1344x128 .f32)
  | 0, _ => base
  | n + 1, h => ⟨facRect v n (by omega), shapeCast S8x128 (fun x => mFactor (fun c => pl c x) n) shapeCasts_S8x128_S8x128⟩ :: facPieces pl v base n (by omega)

variable (arg0 : Memref sig .tc .vmem S17x3x640 .bf16) (arg8 : Memref sig .tc .vmem S17x16x128 .f32)
variable (f0 : arg0.view.ty.Contents (Elt F))

/-- The stores of the first plane. -/
theorem H9_plane0 : stretch.sl.H9_80 arg0 arg8 f0 = facPieces (plane0 arg0 arg8 f0) 0 [] 80 (by omega) := rfl
/-- The stores of both planes. -/
theorem H9_plane1 : stretch.sl.H9_160 arg0 arg8 f0 = facPieces (plane1 arg0 arg8 f0) 1 (stretch.sl.H9_80 arg0 arg8 f0) 80 (by omega) := rfl

/-- The buffer of factor products. -/
def facArr (X : S17x3x640.Idx → F .bf16) : S1344x128.Idx → F .f32 := fun y => mFactor (packed X ((y 0).val / 84) (y 1).val) ((y 0).val % 84)

/-- The stores of a plane agree with the buffer, if those before do. -/
theorem facPieces_ok (X : S17x3x640.Idx → F .bf16) (pl : ℕ → FVec F S8x128 .f32) (v : ℕ)
    (hpl : ∀ i : S8x128.Idx, (fun c => pl c i) = packed X (8 * v + (i 0).val) (i 1).val) (base : List (Piece (Elt F) S1344x128 .f32))
    (hb : ∀ p ∈ base, ∀ x : p.1.shape.Idx, p.2 x = facArr X (p.1.emb x)) :
    ∀ (n : ℕ) (h : v * 672 + n + 84 * 7 ≤ 1344) (hn : n ≤ 80), ∀ p ∈ facPieces pl v base n h, ∀ x : p.1.shape.Idx, p.2 x = facArr X (p.1.emb x)
  | 0, _, _ => hb
  | n + 1, h, hn => by
    intro p hp
    rcases List.mem_cons.mp hp with rfl | hp
    · intro (x : S8x128.Idx)
      have h0 : (x 0).val < 8 := (x 0).isLt
      show shapeCast S8x128 (fun x => mFactor (fun c => pl c x) n) shapeCasts_S8x128_S8x128 x = _
      rw [shapeCast_self, hpl]
      show _ = mFactor (packed X ((v * 672 + n + 84 * (x 0).val) / 84) (0 + 1 * (x 1).val)) ((v * 672 + n + 84 * (x 0).val) % 84)
      rw [show (v * 672 + n + 84 * (x 0).val) / 84 = 8 * v + (x 0).val by omega, show (v * 672 + n + 84 * (x 0).val) % 84 = n by omega,
        show 0 + 1 * (x 1).val = (x 1).val by omega]
    · exact facPieces_ok X pl v hpl base hb n (by omega) (by omega) p hp

/-- Every stored partial code is among a plane's stores. -/
theorem facPieces_mem (pl : ℕ → FVec F S8x128 .f32) (v : ℕ) (base : List (Piece (Elt F) S1344x128 .f32)) (m : ℕ) :
    ∀ (n : ℕ) (h : v * 672 + n + 84 * 7 ≤ 1344) (hm : m < n),
      (⟨facRect v m (by omega), shapeCast S8x128 (fun x => mFactor (fun c => pl c x) m) shapeCasts_S8x128_S8x128⟩ : Piece (Elt F) S1344x128 .f32) ∈ facPieces pl v base n h
  | 0, _, hm => absurd hm (by omega)
  | n + 1, h, hm => by
    by_cases e : m = n
    · subst e; exact List.mem_cons_self
    · exact List.mem_cons_of_mem _ (facPieces_mem pl v base m n (by omega) (by omega))

/-- The stores before are among a plane's. -/
theorem facPieces_base (pl : ℕ → FVec F S8x128 .f32) (v : ℕ) (base : List (Piece (Elt F) S1344x128 .f32)) (p) (hp : p ∈ base) :
    ∀ (n : ℕ) (h : v * 672 + n + 84 * 7 ≤ 1344), p ∈ facPieces pl v base n h
  | 0, _ => hp
  | n + 1, h => List.mem_cons_of_mem _ (facPieces_base pl v base p hp n (by omega))

/-- A position of a plane's rows that holds a partial code is in the rectangle of its store. -/
theorem facRect_mem (v : ℕ) (y : S1344x128.Idx) (hv : (y 0).val / 672 = v) (hm : (y 0).val % 84 < 80) (h) :
    y ∈ (facRect v ((y 0).val % 84) h).set := by
  have hy : (y 0).val < 1344 := (y 0).isLt
  have e : (facRect v ((y 0).val % 84) h).idx (ix2 (⟨((y 0).val / 84) % 8, by omega⟩ : Fin 8) (⟨(y 1).val, (y 1).isLt⟩ : Fin 128)) = y := by
    funext a
    apply Fin.ext
    match a with
    | ⟨0, _⟩ => show v * 672 + (y 0).val % 84 + 84 * (((y 0).val / 84) % 8) = (y 0).val; omega
    | ⟨1, _⟩ => show 0 + 1 * (y 1).val = (y 1).val; omega
  have hi := LoadRect.idx_mem (facRect v ((y 0).val % 84) h).toLoadRect (ix2 (⟨((y 0).val / 84) % 8, by omega⟩ : Fin 8) (⟨(y 1).val, (y 1).isLt⟩ : Fin 128))
  rwa [show (facRect v ((y 0).val % 84) h).toLoadRect.idx (ix2 (⟨((y 0).val / 84) % 8, by omega⟩ : Fin 8) (⟨(y 1).val, (y 1).isLt⟩ : Fin 128)) = y from e] at hi

/-- The first plane's stores agree with the buffer of factor products. -/
theorem H9_80_ok : ∀ p ∈ stretch.sl.H9_80 arg0 arg8 f0, ∀ x : p.1.shape.Idx, p.2 x = facArr (inp arg0 f0) (p.1.emb x) := by
  rw [H9_plane0]
  exact facPieces_ok _ _ 0 (fun i => by rw [plane0_eq]) [] (fun p hp => absurd hp (by simp)) 80 (by omega) (by omega)

/-- Both planes' stores agree with the buffer of factor products. -/
theorem H9_160_ok : ∀ p ∈ stretch.sl.H9_160 arg0 arg8 f0, ∀ x : p.1.shape.Idx, p.2 x = facArr (inp arg0 f0) (p.1.emb x) := by
  rw [H9_plane1]
  exact facPieces_ok _ _ 1 (fun i => by rw [plane1_eq]) _ (H9_80_ok arg0 arg8 f0) 80 (by omega) (by omega)

/-- The first plane's stores cover its partial codes. -/
theorem H9_80_cover (y : S1344x128.Idx) (hv : (y 0).val / 672 = 0) (hm : (y 0).val % 84 < 80) : ∃ p ∈ stretch.sl.H9_80 arg0 arg8 f0, y ∈ p.1.set := by
  rw [H9_plane0]
  exact ⟨_, facPieces_mem _ 0 [] ((y 0).val % 84) 80 (by omega) hm, facRect_mem 0 y hv hm (by omega)⟩

/-- Both planes' stores cover the partial codes. -/
theorem H9_160_cover (y : S1344x128.Idx) (hm : (y 0).val % 84 < 80) : ∃ p ∈ stretch.sl.H9_160 arg0 arg8 f0, y ∈ p.1.set := by
  have hy : (y 0).val < 1344 := (y 0).isLt
  rw [H9_plane1]
  by_cases h : (y 0).val / 672 = 0
  · obtain ⟨p, hp, hy⟩ := H9_80_cover arg0 arg8 f0 y h hm
    exact ⟨p, facPieces_base _ 1 _ p hp 80 (by omega), hy⟩
  · exact ⟨_, facPieces_mem _ 1 _ ((y 0).val % 84) 80 (by omega) hm, facRect_mem 1 y (by omega) hm (by omega)⟩

variable (arg9 : Memref sig .tc .vmem S1344x128 .f32) (f9 : arg9.view.ty.Contents (Elt F))

/-- The buffer as read after the first plane, at a position of its rows that holds a partial code. -/
theorem H9_80_read (f) (y : S1344x128.Idx) (hv : (y 0).val / 672 = 0) (hm : (y 0).val % 84 < 80) :
    arg9.view.read (Elt F) (arg9.view.writes (Elt F) f (stretch.sl.H9_80 arg0 arg8 f0)) y = facArr (inp arg0 f0) y :=
  read_writes_apply_of_pieces _ _ _ _ (H9_80_ok arg0 arg8 f0) y (H9_80_cover arg0 arg8 f0 y hv hm)

/-- The buffer as read after both planes. -/
theorem H9_160_read (f) (y : S1344x128.Idx) (hm : (y 0).val % 84 < 80) :
    arg9.view.read (Elt F) (arg9.view.writes (Elt F) f (stretch.sl.H9_160 arg0 arg8 f0)) y = facArr (inp arg0 f0) y :=
  read_writes_apply_of_pieces _ _ _ _ (H9_160_ok arg0 arg8 f0) y (H9_160_cover arg0 arg8 f0 y hm)

end Cert.Proof.KernelIdeal

end
-- ==== Proof.Consts.lean ====
/-
  The constants of the kernel and of the reference, as the reals they name.
-/
module

public import proofs.«01_k».proof.Proof.Planes
public import Idealize.ShloMosaic.PureOps.IdealRules

@[expose] public section

noncomputable section

namespace Cert.Proof.Ideals

open Idealize.ShloMosaic Cert.KernelIdeal

/-- Zero. -/
theorem c_zero : (Ideal.ofBits .f32 0x00000000#32 : EReal) = 0 := by simp [Ideal.ofBits, Ideal.ieee, -EReal.coe_mul]
/-- One. -/
theorem c_one : (Ideal.ofBits .f32 0x3F800000#32 : EReal) = ((1 : ℝ) : EReal) := by simp [Ideal.ofBits, Ideal.ieee, -EReal.coe_mul]; norm_num
/-- Minus one. -/
theorem c_neg_one : (Ideal.ofBits .f32 0xBF800000#32 : EReal) = ((-1 : ℝ) : EReal) := by simp [Ideal.ofBits, Ideal.ieee, -EReal.coe_mul]; norm_num
/-- Two. -/
theorem c_two : (Ideal.ofBits .f32 0x40000000#32 : EReal) = ((2 : ℝ) : EReal) := by simp [Ideal.ofBits, Ideal.ieee, -EReal.coe_mul]; norm_num
/-- The number of channels. -/
theorem c_17 : (Ideal.ofBits .f32 0x41880000#32 : EReal) = ((17 : ℝ) : EReal) := by simp [Ideal.ofBits, Ideal.ieee, -EReal.coe_mul]; norm_num
/-- The number of tokens. -/
theorem c_1920 : (Ideal.ofBits .f32 0x44F00000#32 : EReal) = ((1920 : ℝ) : EReal) := by simp [Ideal.ofBits, Ideal.ieee, -EReal.coe_mul]; norm_num
/-- The padding. -/
theorem c_1e4 : (Ideal.ofBits .f32 0x461C4000#32 : EReal) = ((10000 : ℝ) : EReal) := by simp [Ideal.ofBits, Ideal.ieee, -EReal.coe_mul]; norm_num

/-- The factor of a magnitude in the base-two exponent. -/
theorem k_exp : Named.named (F := Ideal) κ "minus_2_over_ln_2" (φ := .f32) 0xC038AA3B#32 = (((-2) * (Real.log 2)⁻¹ : ℝ) : EReal) :=
  IdealRules.named_const.ideal_named_scalar _ _ _ _ rfl
/-- One over the number of channels. -/
theorem k_inv_17 : Named.named (F := Ideal) κ "inv_17" (φ := .f32) 0x3D70F0F1#32 = ((1 / 17 : ℝ) : EReal) :=
  IdealRules.named_const.ideal_named_scalar _ _ _ _ rfl

/-- One over the number of tokens. -/
theorem k_inv_n : Named.named (F := Ideal) κ "inv_n" (φ := .f32) 0x3A088889#32 = ((1 / 1920 : ℝ) : EReal) :=
  IdealRules.named_const.ideal_named_scalar _ _ _ _ rfl
/-- The log of the first book's number of codes. -/
theorem k_ln_256 : Named.named (F := Ideal) κ "ln_256" (φ := .f32) 0x40B17218#32 = ((Real.log 256 : ℝ) : EReal) :=
  IdealRules.named_const.ideal_named_scalar _ _ _ _ rfl
/-- The log of the second book's number of codes. -/
theorem k_ln_512 : Named.named (F := Ideal) κ "ln_512" (φ := .f32) 0x40C7A05B#32 = ((Real.log 512 : ℝ) : EReal) :=
  IdealRules.named_const.ideal_named_scalar _ _ _ _ rfl

end Cert.Proof.Ideals

end
-- ==== Proof.Channel.lean ====
/-
  One channel over the extended reals: the probability of each sign, the entropy of the pair, and the log-sigmoid the reference takes.
-/
module

public import proofs.«01_k».proof.Proof.Consts

@[expose] public section

noncomputable section

namespace Cert.Proof.Ideals

open Idealize.ShloMosaic
open Cert.Proof.KernelIdeal (mPos mBit mCode mIa mIb mSum mErr mCom mE mU mNear mFar mBig mEnt mMag mP mQ)

/-- The magnitude of a real, taken among the extended reals. -/
theorem abs_coe (r : ℝ) : max (r : EReal) (-(r : EReal)) = ((|r| : ℝ) : EReal) := by
  rw [← EReal.coe_neg, abs_eq_max_neg]
  exact (EReal.coe_strictMono.monotone.map_max).symm

/-- `exp (-2|x|)`, zero at the infinities. -/
def rE : EReal → ℝ
  | ⊥ => 0
  | ⊤ => 0
  | (r : ℝ) => Real.exp (-(2 * |r|))

/-- The decay at minus infinity. -/
theorem rE_bot : rE ⊥ = 0 := rfl
/-- The decay at infinity. -/
theorem rE_top : rE ⊤ = 0 := rfl
/-- The decay at a real. -/
theorem rE_coe (r : ℝ) : rE (r : EReal) = Real.exp (-(2 * |r|)) := rfl

/-- The decay is not negative. -/
theorem rE_nonneg (x : EReal) : 0 ≤ rE x := by
  induction x with
  | bot => exact le_refl _
  | top => exact le_refl _
  | coe r => exact (Real.exp_pos _).le

/-- `1 + exp (-2|x|)`. -/
def rU (x : EReal) : ℝ := 1 + rE x
/-- One plus the decay is positive. -/
theorem rU_pos (x : EReal) : 0 < rU x := by have := rE_nonneg x; unfold rU; linarith

/-- The magnitude times the other sign's probability. -/
def rL : EReal → ℝ
  | ⊥ => 0
  | ⊤ => 0
  | (r : ℝ) => |r| * (Real.exp (-(2 * |r|)) / (1 + Real.exp (-(2 * |r|))))

/-- The factor of a magnitude in the base-two exponent is negative. -/
theorem k_neg : (-2) * (Real.log 2)⁻¹ < (0 : ℝ) :=
  mul_neg_of_neg_of_pos (by norm_num) (inv_pos.mpr (Real.log_pos (by norm_num)))

/-- The kernel's decay is a real. -/
theorem mE_eq (x : EReal) : mE (F := Ideal) x = ((rE x : ℝ) : EReal) := by
  show Ideal.exp2 (max x (-x) * _) = _
  rw [show Named.named (F := Ideal) Cert.KernelIdeal.κ "minus_2_over_ln_2" (φ := .f32) 0xC038AA3B#32 = _ from k_exp]
  induction x with
  | bot => simp only [EReal.neg_bot, max_eq_right bot_le, rE_bot]; rw [EReal.top_mul_coe_of_neg k_neg]; rfl
  | top => simp only [EReal.neg_top, max_eq_left bot_le, rE_top]; rw [EReal.top_mul_coe_of_neg k_neg]; rfl
  | coe r =>
    rw [abs_coe, ← EReal.coe_mul, Ideal.exp2_coe, rE_coe]
    congr 1
    refine (Real.rpow_def_of_pos (by norm_num : (0 : ℝ) < 2) _).trans ?_
    congr 1
    have : Real.log 2 ≠ 0 := (Real.log_pos (by norm_num)).ne'
    field_simp

/-- One plus it is a real. -/
theorem mU_eq (x : EReal) : mU (F := Ideal) x = ((rU x : ℝ) : EReal) := by
  show Ideal.ofBits .f32 0x3F800000#32 + mE (F := Ideal) x = _
  rw [mE_eq, c_one, ← EReal.coe_add]; rfl

/-- The probability of the channel's own sign is a real. -/
theorem mNear_eq (x : EReal) : mNear (F := Ideal) x = ((1 / rU x : ℝ) : EReal) := by
  show Ideal.div (Ideal.ofBits .f32 0x3F800000#32) (mU (F := Ideal) x) = _
  rw [mU_eq, c_one, Ideal.div_coe (rU_pos x).ne', ← EReal.coe_mul, one_mul]

/-- The probability of the other sign is a real. -/
theorem mFar_eq (x : EReal) : mFar (F := Ideal) x = ((rE x / rU x : ℝ) : EReal) := by
  show mE (F := Ideal) x * mNear (F := Ideal) x = _
  rw [mE_eq, mNear_eq, ← EReal.coe_mul, mul_one_div]

/-- A magnitude times the other sign's probability is a real. -/
theorem mL_eq (x : EReal) : max x (-x) * mFar (F := Ideal) x = ((rL x : ℝ) : EReal) := by
  rw [mFar_eq]
  induction x with
  | bot => rw [rE_bot, zero_div, EReal.coe_zero, mul_zero]; rfl
  | top => rw [rE_top, zero_div, EReal.coe_zero, mul_zero]; rfl
  | coe r => rw [abs_coe, ← EReal.coe_mul]; rfl

/-- The kernel's sum over the channels is the sum. -/
theorem mSum_eq (f : ℕ → EReal) (n : ℕ) : mSum (F := Ideal) f n = ∑ i ∈ Finset.range (n + 1), f i := by
  induction n with
  | zero => rw [Finset.sum_range_one]; rfl
  | succ n ih => rw [Finset.sum_range_succ, ← ih]; rfl

/-- A sum of reals, taken over the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The running product of one plus the decays, less one. -/
theorem mBig_eq (z : ℕ → EReal) (n : ℕ) : mBig (F := Ideal) z n = (((∏ i ∈ Finset.range (n + 1), rU (z i)) - 1 : ℝ) : EReal) := by
  induction n with
  | zero =>
    show mE (F := Ideal) (z 0) = _
    rw [mE_eq, Finset.prod_range_one]
    congr 1; unfold rU; ring
  | succ n ih =>
    show mBig (F := Ideal) z n * mU (F := Ideal) (z (n + 1)) + mE (F := Ideal) (z (n + 1)) = _
    rw [ih, mU_eq, mE_eq, ← EReal.coe_mul, ← EReal.coe_add, Finset.prod_range_succ _ (n + 1)]
    congr 1; unfold rU; ring

/-- The kernel's entropy of a token. -/
theorem mEnt_eq (z : ℕ → EReal) : mEnt (F := Ideal) z
    = ((∑ i ∈ Finset.range 17, (Real.log (rU (z i)) + 2 * rL (z i)) : ℝ) : EReal) := by
  show Ideal.log1p (mBig (F := Ideal) z 16) + Ideal.ofBits .f32 0x40000000#32 * mSum (F := Ideal) (fun c => max (z c) (-(z c)) * mFar (F := Ideal) (z c)) 16 = _
  rw [mBig_eq, mSum_eq, c_two, show (fun c => max (z c) (-(z c)) * mFar (F := Ideal) (z c)) = fun c => ((rL (z c) : ℝ) : EReal) from funext fun c => mL_eq (z c)]
  rw [← coe_sum, ← EReal.coe_mul]
  have hp : 0 < ∏ i ∈ Finset.range (16 + 1), rU (z i) := Finset.prod_pos fun i _ => rU_pos _
  unfold Ideal.log1p
  rw [← EReal.coe_one, ← EReal.coe_add, add_sub_cancel, Ideal.log_coe, if_neg (not_le.mpr hp), ← EReal.coe_add,
    Real.log_prod (fun i _ => (rU_pos (z i)).ne'), Finset.mul_sum, ← Finset.sum_add_distrib]

/-! ## The log-sigmoid of twice a channel -/

/-- `-(max (-a) 0 + log1p (exp (-|a|)))`, as the reference spells it of `-a`. -/
def lsig (a : EReal) : EReal := -(max a 0 + Ideal.log1p (Ideal.exp (-(max a (-a)))))

/-- The log of the logistic at minus infinity. -/
theorem lsig_bot : lsig ⊥ = 0 := by
  unfold lsig Ideal.log1p
  rw [EReal.neg_bot, max_eq_right bot_le, max_eq_right bot_le, EReal.neg_top, Ideal.exp_bot, add_zero, zero_add,
    ← EReal.coe_one, Ideal.log_coe, if_neg (by norm_num), Real.log_one]; simp
/-- The log of the logistic at infinity. -/
theorem lsig_top : lsig ⊤ = ⊥ := by
  unfold lsig Ideal.log1p
  rw [EReal.neg_top, max_eq_left le_top, max_eq_left le_top, EReal.neg_top, Ideal.exp_bot, add_zero,
    ← EReal.coe_one, Ideal.log_coe, if_neg (by norm_num), Real.log_one, EReal.coe_zero, add_zero, EReal.neg_top]
/-- The log of the logistic at a real. -/
theorem lsig_coe (r : ℝ) : lsig (r : EReal) = ((-(max r 0 + Real.log (1 + Real.exp (-|r|))) : ℝ) : EReal) := by
  unfold lsig Ideal.log1p
  rw [abs_coe, ← EReal.coe_neg, Ideal.exp_coe, ← EReal.coe_one, ← EReal.coe_add, Ideal.log_coe,
    if_neg (not_le.mpr (by positivity)), ← EReal.coe_zero,
    show max (r : EReal) ((0 : ℝ) : EReal) = ((max r 0 : ℝ) : EReal) from (EReal.coe_strictMono.monotone.map_max).symm,
    ← EReal.coe_add, ← EReal.coe_neg]

/-- The log-probability of a positive sign, and of a negative one. -/
def lp (x : EReal) : EReal := lsig (-(((2 : ℝ) : EReal) * x))
/-- The log-probability of the negative sign. -/
def lq (x : EReal) : EReal := lsig (-(-(((2 : ℝ) : EReal) * x)))

/-- The log-probability of the positive sign at minus infinity. -/
theorem lp_bot : lp ⊥ = ⊥ := by unfold lp; rw [EReal.coe_mul_bot_of_pos (by norm_num), EReal.neg_bot, lsig_top]
/-- The log-probability of the positive sign at infinity. -/
theorem lp_top : lp ⊤ = 0 := by unfold lp; rw [EReal.coe_mul_top_of_pos (by norm_num), EReal.neg_top, lsig_bot]
/-- The log-probability of the negative sign at minus infinity. -/
theorem lq_bot : lq ⊥ = 0 := by unfold lq; rw [EReal.coe_mul_bot_of_pos (by norm_num), neg_neg, lsig_bot]
/-- The log-probability of the negative sign at infinity. -/
theorem lq_top : lq ⊤ = ⊥ := by unfold lq; rw [EReal.coe_mul_top_of_pos (by norm_num), neg_neg, lsig_top]
/-- The log-probability of the positive sign at a real. -/
theorem lp_coe (r : ℝ) : lp (r : EReal) = ((-(max (-(2 * r)) 0 + Real.log (rU r)) : ℝ) : EReal) := by
  unfold lp
  rw [← EReal.coe_mul, ← EReal.coe_neg, lsig_coe, abs_neg, abs_mul, abs_of_pos (by norm_num : (0 : ℝ) < 2)]; rfl
/-- The log-probability of the negative sign at a real. -/
theorem lq_coe (r : ℝ) : lq (r : EReal) = ((-(max (2 * r) 0 + Real.log (rU r)) : ℝ) : EReal) := by
  unfold lq
  rw [neg_neg, ← EReal.coe_mul, lsig_coe, abs_mul, abs_of_pos (by norm_num : (0 : ℝ) < 2)]; rfl

/-- The probability of a positive sign, and of a negative one. -/
def rP (x : EReal) : ℝ := if 0 < x then 1 / rU x else rE x / rU x
/-- The probability of the negative sign. -/
def rQ (x : EReal) : ℝ := if 0 < x then rE x / rU x else 1 / rU x

/-- The exponential of the log-probability of the positive sign is its probability. -/
theorem exp_lp (x : EReal) : Ideal.exp (lp x) = ((rP x : ℝ) : EReal) := by
  induction x with
  | bot => rw [lp_bot, Ideal.exp_bot, rP, if_neg (not_lt.mpr bot_le), rE_bot, zero_div]; rfl
  | top => rw [lp_top, rP, if_pos EReal.zero_lt_top, rU, rE_top, ← EReal.coe_zero, Ideal.exp_coe]; simp
  | coe r =>
    rw [lp_coe, Ideal.exp_coe, rP]
    congr 1
    rw [neg_add, Real.exp_add, Real.exp_neg (Real.log _), Real.exp_log (rU_pos _), ← div_eq_mul_inv]
    by_cases h : 0 < r
    · rw [if_pos (EReal.coe_pos.mpr h), max_eq_right (by linarith), neg_zero, Real.exp_zero]
    · rw [if_neg (by rw [EReal.coe_pos]; exact h), max_eq_left (by linarith), rE_coe, abs_of_nonpos (by linarith)]; ring_nf

/-- The exponential of the log-probability of the negative sign is its probability. -/
theorem exp_lq (x : EReal) : Ideal.exp (lq x) = ((rQ x : ℝ) : EReal) := by
  induction x with
  | bot => rw [lq_bot, rQ, if_neg (not_lt.mpr bot_le), rU, rE_bot, ← EReal.coe_zero, Ideal.exp_coe]; simp
  | top => rw [lq_top, Ideal.exp_bot, rQ, if_pos EReal.zero_lt_top, rE_top, zero_div]; rfl
  | coe r =>
    rw [lq_coe, Ideal.exp_coe, rQ]
    congr 1
    rw [neg_add, Real.exp_add, Real.exp_neg (Real.log _), Real.exp_log (rU_pos _), ← div_eq_mul_inv]
    by_cases h : 0 < r
    · rw [if_pos (EReal.coe_pos.mpr h), max_eq_left (by linarith), rE_coe, abs_of_pos h]
    · rw [if_neg (by rw [EReal.coe_pos]; exact h), max_eq_right (by linarith), neg_zero, Real.exp_zero]

/-- What a channel adds to the reference's entropy. -/
theorem pair_eq (x : EReal) : Ideal.exp (lp x) * lp x + Ideal.exp (lq x) * lq x = ((-(Real.log (rU x) + 2 * rL x) : ℝ) : EReal) := by
  induction x with
  | bot =>
    rw [lp_bot, lq_bot, Ideal.exp_bot, zero_mul, mul_zero, add_zero, rU, rE_bot]
    rw [show rL ⊥ = 0 from rfl, add_zero, Real.log_one, mul_zero, add_zero, neg_zero]; rfl
  | top =>
    rw [lp_top, lq_top, Ideal.exp_bot, zero_mul, mul_zero, add_zero, rU, rE_top]
    rw [show rL ⊤ = 0 from rfl, add_zero, Real.log_one, mul_zero, add_zero, neg_zero]; rfl
  | coe r =>
    rw [exp_lp, exp_lq, lp_coe, lq_coe, ← EReal.coe_mul, ← EReal.coe_mul, ← EReal.coe_add]
    congr 1
    have hu := (rU_pos (r : EReal)).ne'
    have hue : rU (r : EReal) = 1 + rE (r : EReal) := rfl
    have hL : rL (r : EReal) = |r| * (rE (r : EReal) / rU (r : EReal)) := rfl
    rw [hL, rP, rQ]
    by_cases h : 0 < r
    · rw [if_pos (EReal.coe_pos.mpr h), if_pos (EReal.coe_pos.mpr h), max_eq_right (by linarith), max_eq_left (by linarith), abs_of_pos h]
      field_simp
      rw [hue]; ring
    · rw [if_neg (by rw [EReal.coe_pos]; exact h), if_neg (by rw [EReal.coe_pos]; exact h), max_eq_left (by linarith), max_eq_right (by linarith), abs_of_nonpos (by linarith)]
      field_simp
      rw [hue]; ring

end Cert.Proof.Ideals

end
-- ==== Proof.Products.lean ====
/-
  The split matrix products over the extended reals: of the three parts of an operand's entries the first is the entry and the other two
  are nothing, and a product of two rows of blocks is the sum over the blocks and their lanes.
-/
module

public import proofs.«01_k».proof.Proof.Factors
public import proofs.«01_k».proof.Proof.Channel
public import Idealize.ShloMosaic.Lib.Pointwise
public import Idealize.ShloMosaic.Lib.Pipeline.Value

@[expose] public section

set_option maxRecDepth 16384

noncomputable section

namespace Cert.Proof.KernelIdeal

open Cert.KernelIdeal Cert.KernelIdeal.Gen
open Idealize.ShloMosaic Idealize.ShloMosaic.TcCoe
open Cert.Proof.Ideals (coe_sum)

section Model
variable {F : FTy → Type} [FloatOps F] [Named F]

/-- An operand's three parts. -/
def parts {a : ℕ} (L : FVec F ⟨2, ![a, 128]⟩ .f32) : Fin 3 → FVec F ⟨2, ![a, 128]⟩ .f32
  | 0 => extf .f32 (truncf .bf16 L bitsLt_bf16_f32) bitsLt_bf16_f32
  | 1 => extf .f32 (truncf .bf16 (subf L (extf .f32 (truncf .bf16 L bitsLt_bf16_f32) bitsLt_bf16_f32)) bitsLt_bf16_f32) bitsLt_bf16_f32
  | 2 => subf (subf L (extf .f32 (truncf .bf16 L bitsLt_bf16_f32) bitsLt_bf16_f32)) (extf .f32 (truncf .bf16 (subf L (extf .f32 (truncf .bf16 L bitsLt_bf16_f32) bitsLt_bf16_f32)) bitsLt_bf16_f32) bitsLt_bf16_f32)

/-- The three parts, one under the other. -/
def opBlk {a : ℕ} (h : Shape.Concatenates (List.ofFn fun _ : Fin 3 => (⟨2, ![a, 128]⟩ : Shape)) ⟨2, ![3 * a, 128]⟩ 0) (L : FVec F ⟨2, ![a, 128]⟩ .f32) : FVec F ⟨2, ![3 * a, 128]⟩ .f32 :=
  concatenate ⟨2, ![3 * a, 128]⟩ 0 (List.ofFn fun n : Fin 3 => (⟨⟨2, ![a, 128]⟩, parts L n⟩ : (s : Shape) × (s.Idx → F .f32))) (by rw [List.map_ofFn]; exact h)

/-- The product of two rows of blocks. -/
def mm {a T : ℕ} (D : DotDims ⟨2, ![3 * a, T * 128]⟩ ⟨2, ![3 * 16, T * 128]⟩ ⟨2, ![3 * a, 3 * 16]⟩)
    (h₁ : Shape.Concatenates (List.ofFn fun _ : Fin 3 => (⟨2, ![a, 128]⟩ : Shape)) ⟨2, ![3 * a, 128]⟩ 0)
    (h₂ : Shape.Concatenates (List.ofFn fun _ : Fin T => (⟨2, ![3 * a, 128]⟩ : Shape)) ⟨2, ![3 * a, T * 128]⟩ 1)
    (h₃ : Shape.Concatenates (List.ofFn fun _ : Fin 3 => (⟨2, ![16, 128]⟩ : Shape)) ⟨2, ![3 * 16, 128]⟩ 0)
    (h₄ : Shape.Concatenates (List.ofFn fun _ : Fin T => (⟨2, ![3 * 16, 128]⟩ : Shape)) ⟨2, ![3 * 16, T * 128]⟩ 1)
    (L : Fin T → FVec F ⟨2, ![a, 128]⟩ .f32) (R : Fin T → FVec F ⟨2, ![16, 128]⟩ .f32) : FVec F ⟨2, ![3 * a, 3 * 16]⟩ .f32 :=
  matmul D none
    (concatenate ⟨2, ![3 * a, T * 128]⟩ 1 (List.ofFn fun t : Fin T => (⟨⟨2, ![3 * a, 128]⟩, opBlk h₁ (L t)⟩ : (s : Shape) × (s.Idx → F .f32))) (by rw [List.map_ofFn]; exact h₂))
    (concatenate ⟨2, ![3 * 16, T * 128]⟩ 1 (List.ofFn fun t : Fin T => (⟨⟨2, ![3 * 16, 128]⟩, opBlk h₃ (R t)⟩ : (s : Shape) × (s.Idx → F .f32))) (by rw [List.map_ofFn]; exact h₄))
    (constant ⟨2, ![3 * a, 3 * 16]⟩ .f32 0x00000000#32)

end Model

/-- Blocks side by side, read at an index. -/
theorem cols {α : Type} (a T : ℕ) (P : Fin T → (⟨2, ![a, 128]⟩ : Shape).Idx → α) (h) (i : Fin a) (k : Fin (T * 128)) :
    concatenate ⟨2, ![a, T * 128]⟩ 1 (List.ofFn fun n : Fin T => (⟨⟨2, ![a, 128]⟩, P n⟩ : (s : Shape) × (s.Idx → α))) h (ix2 i k)
      = P k.divNat (ix2 i k.modNat) :=
  Idealize.ShloMosaic.concatenate_ofFn_apply 1 P h rfl 128 rfl (ix2 i k) k.divNat rfl (ix2 i k.modNat) rfl (fun b hb => by
    match b with
    | ⟨0, _⟩ => rfl
    | ⟨1, _⟩ => exact absurd rfl hb)

/-- Three blocks one under the other, read at an index. -/
theorem rows3 {α : Type} (a : ℕ) (P : Fin 3 → (⟨2, ![a, 128]⟩ : Shape).Idx → α) (h) (i : Fin (3 * a)) (l : Fin 128) :
    concatenate ⟨2, ![3 * a, 128]⟩ 0 (List.ofFn fun n : Fin 3 => (⟨⟨2, ![a, 128]⟩, P n⟩ : (s : Shape) × (s.Idx → α))) h (ix2 i l)
      = P i.divNat (ix2 i.modNat l) :=
  Idealize.ShloMosaic.concatenate_ofFn_apply 0 P h rfl a rfl (ix2 i l) i.divNat rfl (ix2 i.modNat l) rfl (fun b hb => by
    match b with
    | ⟨0, _⟩ => exact absurd rfl hb
    | ⟨1, _⟩ => rfl)

/-- A function of a row and a lane, on the first `a` rows. -/
def spl (a : ℕ) (g : ℕ → ℕ → ℝ) (i l : ℕ) : ℝ := if i < a then g i l else 0

/-- The three parts of a finite operand are itself and nothing. -/
theorem opBlk_eq {a : ℕ} (h : Shape.Concatenates (List.ofFn fun _ : Fin 3 => (⟨2, ![a, 128]⟩ : Shape)) ⟨2, ![3 * a, 128]⟩ 0) (L : FVec Ideal ⟨2, ![a, 128]⟩ .f32) (g : ℕ → ℕ → ℝ)
    (hL : ∀ (i : Fin a) (l : Fin 128), L (ix2 i l) = ((g i.val l.val : ℝ) : EReal)) (i : Fin (3 * a)) (l : Fin 128) :
    opBlk (F := Ideal) h L (ix2 i l) = ((spl a g i.val l.val : ℝ) : EReal) := by
  unfold opBlk
  rw [rows3]
  have hm : ∀ k : Fin a, k.val < a := fun k => k.isLt
  have e0 : ∀ k : Fin a, (L (ix2 k l) - L (ix2 k l) : EReal) = 0 := fun k => by
    rw [hL, ← EReal.coe_sub, sub_self, EReal.coe_zero]
  rcases hd : (i.divNat : Fin 3) with ⟨d, hd3⟩
  have hdv : i.val / a = d := congrArg Fin.val hd
  have ha : 0 < a := by
    rcases Nat.eq_zero_or_pos a with h0 | h0
    · subst h0; exact absurd i.isLt (by simp)
    · exact h0
  match d, hd3, hdv with
  | 0, _, hdv =>
    have hi : i.val < a := by rcases (Nat.div_eq_zero_iff.mp hdv) with h | h <;> omega
    show L (ix2 i.modNat l) = _
    rw [hL, spl, if_pos hi]
    show ((g (i.val % a) l.val : ℝ) : EReal) = _
    rw [Nat.mod_eq_of_lt hi]
  | 1, _, hdv =>
    have hi : ¬ i.val < a := fun hi => by rw [Nat.div_eq_of_lt hi] at hdv; omega
    show (L (ix2 i.modNat l) - L (ix2 i.modNat l) : EReal) = _
    rw [e0, spl, if_neg hi, EReal.coe_zero]
  | 2, _, hdv =>
    have hi : ¬ i.val < a := fun hi => by rw [Nat.div_eq_of_lt hi] at hdv; omega
    show ((L (ix2 i.modNat l) - L (ix2 i.modNat l)) - (L (ix2 i.modNat l) - L (ix2 i.modNat l)) : EReal) = _
    rw [e0, spl, if_neg hi, EReal.coe_zero, sub_zero]

/-- The product of two rows of blocks, the blocks finite. -/
theorem mm_eq {a T : ℕ} (D : DotDims ⟨2, ![3 * a, T * 128]⟩ ⟨2, ![3 * 16, T * 128]⟩ ⟨2, ![3 * a, 3 * 16]⟩)
    (h₁ : Shape.Concatenates (List.ofFn fun _ : Fin 3 => (⟨2, ![a, 128]⟩ : Shape)) ⟨2, ![3 * a, 128]⟩ 0)
    (h₂ : Shape.Concatenates (List.ofFn fun _ : Fin T => (⟨2, ![3 * a, 128]⟩ : Shape)) ⟨2, ![3 * a, T * 128]⟩ 1)
    (h₃ : Shape.Concatenates (List.ofFn fun _ : Fin 3 => (⟨2, ![16, 128]⟩ : Shape)) ⟨2, ![3 * 16, 128]⟩ 0)
    (h₄ : Shape.Concatenates (List.ofFn fun _ : Fin T => (⟨2, ![3 * 16, 128]⟩ : Shape)) ⟨2, ![3 * 16, T * 128]⟩ 1)
    (hD : ∀ (A : FVec Ideal ⟨2, ![3 * a, T * 128]⟩ .f32) (B : FVec Ideal ⟨2, ![3 * 16, T * 128]⟩ .f32) (i : Fin (3 * a)) (j : Fin (3 * 16)),
      matmul (F := Ideal) D none A B (constant ⟨2, ![3 * a, 3 * 16]⟩ .f32 0x00000000#32) (ix2 i j) = ∑ k : Fin (T * 128), (A (ix2 i k) * B (ix2 j k) : EReal))
    (L : Fin T → FVec Ideal ⟨2, ![a, 128]⟩ .f32) (R : Fin T → FVec Ideal ⟨2, ![16, 128]⟩ .f32) (gL gR : ℕ → ℕ → ℕ → ℝ)
    (hL : ∀ (t : Fin T) (i : Fin a) (l : Fin 128), L t (ix2 i l) = ((gL t.val i.val l.val : ℝ) : EReal))
    (hR : ∀ (t : Fin T) (i : Fin 16) (l : Fin 128), R t (ix2 i l) = ((gR t.val i.val l.val : ℝ) : EReal)) (i : Fin (3 * a)) (j : Fin (3 * 16)) :
    mm (F := Ideal) D h₁ h₂ h₃ h₄ L R (ix2 i j)
      = ((∑ t : Fin T, ∑ l : Fin 128, spl a (gL t.val) i.val l.val * spl 16 (gR t.val) j.val l.val : ℝ) : EReal) := by
  unfold mm
  rw [hD]
  simp only [cols]
  rw [← Fintype.sum_prod_type', coe_sum]
  refine Fintype.sum_equiv finProdFinEquiv.symm _ _ fun k => ?_
  rw [opBlk_eq h₁ (L k.divNat) (gL k.divNat.val) (hL k.divNat), opBlk_eq h₃ (R k.divNat) (gR k.divNat.val) (hR k.divNat), ← EReal.coe_mul]
  rfl

/-- The product, read at an index. -/
theorem dotA0 (A : FVec Ideal S48x1024 .f32) (B : FVec Ideal S48x1024 .f32) (i : Fin 48) (j : Fin 48) :
    matmul (F := Ideal) dot_S48x1024_S48x1024_S48x48_1_1_0_0_n_n none A B (constant S48x48 .f32 0x00000000#32) (ix2 i j)
      = ∑ k : Fin 1024, (A (ix2 i k) * B (ix2 j k) : EReal) := by
  pointwise
/-- The product, read at an index. -/
theorem dotA1 (A : FVec Ideal S48x896 .f32) (B : FVec Ideal S48x896 .f32) (i : Fin 48) (j : Fin 48) :
    matmul (F := Ideal) dot_S48x896_S48x896_S48x48_1_1_0_0_n_n none A B (constant S48x48 .f32 0x00000000#32) (ix2 i j)
      = ∑ k : Fin 896, (A (ix2 i k) * B (ix2 j k) : EReal) := by
  pointwise
/-- The product, read at an index. -/
theorem dotB0 (A : FVec Ideal S96x1024 .f32) (B : FVec Ideal S48x1024 .f32) (i : Fin 96) (j : Fin 48) :
    matmul (F := Ideal) dot_S96x1024_S48x1024_S96x48_1_1_0_0_n_n none A B (constant S96x48 .f32 0x00000000#32) (ix2 i j)
      = ∑ k : Fin 1024, (A (ix2 i k) * B (ix2 j k) : EReal) := by
  pointwise
/-- The product, read at an index. -/
theorem dotB1 (A : FVec Ideal S96x896 .f32) (B : FVec Ideal S48x896 .f32) (i : Fin 96) (j : Fin 48) :
    matmul (F := Ideal) dot_S96x896_S48x896_S96x48_1_1_0_0_n_n none A B (constant S96x48 .f32 0x00000000#32) (ix2 i j)
      = ∑ k : Fin 896, (A (ix2 i k) * B (ix2 j k) : EReal) := by
  pointwise

end Cert.Proof.KernelIdeal

end
-- ==== Proof.Loads.lean ====
/-
  The kernel's matrix products as products of rows of blocks of loads.
-/
module

public import proofs.«01_k».proof.Proof.Products

@[expose] public section

set_option maxRecDepth 16384

noncomputable section

namespace Cert.Proof.KernelIdeal

open Cert.KernelIdeal Cert.KernelIdeal.Gen
open Idealize.ShloMosaic Idealize.ShloMosaic.TcCoe Idealize.ShloMosaic.View

section Loads
variable {F : FTy → Type} [FloatOps F] [Named F]
variable (arg0 : Memref sig .tc .vmem S17x3x640 .bf16) (arg8 : Memref sig .tc .vmem S17x16x128 .f32) (arg9 : Memref sig .tc .vmem S1344x128 .f32)
  (f0 : arg0.view.ty.Contents (Elt F)) (f9 : arg9.view.ty.Contents (Elt F))

/-- The load of a tile's `a` rows from `start`, after the stores `H`; the first one is over whatever was there before. -/
def ld (H : List (Piece (Elt F) S1344x128 .f32)) (f : arg9.view.ty.Contents (Elt F)) (v T a start : ℕ) (hT : T ≤ 8) (hv : v < 2) (hs : start + a ≤ 84) :
    (t : Fin T) → FVec F ⟨2, ![a, 128]⟩ .f32
  | ⟨0, _⟩ => arg9.view.readCov H (Rect.unit (s := S1344x128) ![v * 672 + start, 0] ![a, 128] (fun x => by match x with | ⟨0, _⟩ => show v * 672 + start + a ≤ 1344; omega | ⟨1, _⟩ => show 0 + 128 ≤ 128; omega)).toLoadRect
  | ⟨t + 1, ht⟩ => View.readAt (Elt F) arg9.view (Rect.unit (s := S1344x128) ![v * 672 + 84 * (t + 1) + start, 0] ![a, 128] (fun x => by match x with | ⟨0, _⟩ => show v * 672 + 84 * (t + 1) + start + a ≤ 1344; omega | ⟨1, _⟩ => show 0 + 128 ≤ 128; omega)).toLoadRect
      (arg9.view.writes (Elt F) f H)

/-- Book a's product over the first plane. -/
theorem v1753_mm : stretch.sl.v1753 arg0 arg8 arg9 f0 f9 =
    mm (a := 16) (T := 8) dot_S48x1024_S48x1024_S48x48_1_1_0_0_n_n concatenates_S16x128_S16x128_S16x128_S48x128_d0 concatenates_S48x128_S48x128_S48x128_S48x128_S48x128_S48x128_S48x128_S48x128_S48x1024_d1 concatenates_S16x128_S16x128_S16x128_S48x128_d0 concatenates_S48x128_S48x128_S48x128_S48x128_S48x128_S48x128_S48x128_S48x128_S48x1024_d1
      (ld arg9 (stretch.sl.H9_80 arg0 arg8 f0) f9 0 8 16 0 (by omega) (by omega) (by omega))
      (ld arg9 (stretch.sl.H9_80 arg0 arg8 f0) f9 0 8 16 16 (by omega) (by omega) (by omega)) := rfl

/-- Book a's product over the second plane. -/
theorem v3101_mm : stretch.sl.v3101 arg0 arg8 arg9 f0 f9 =
    mm (a := 16) (T := 7) dot_S48x896_S48x896_S48x48_1_1_0_0_n_n concatenates_S16x128_S16x128_S16x128_S48x128_d0 concatenates_S48x128_S48x128_S48x128_S48x128_S48x128_S48x128_S48x128_S48x896_d1 concatenates_S16x128_S16x128_S16x128_S48x128_d0 concatenates_S48x128_S48x128_S48x128_S48x128_S48x128_S48x128_S48x128_S48x896_d1
      (ld arg9 (stretch.sl.H9_160 arg0 arg8 f0) f9 1 7 16 0 (by omega) (by omega) (by omega))
      (ld arg9 (stretch.sl.H9_160 arg0 arg8 f0) f9 1 7 16 16 (by omega) (by omega) (by omega)) := rfl

/-- Book b's product over the first plane. -/
theorem r_125_mm : stretch.sl.r_125 arg0 arg8 arg9 f0 f9 =
    mm (a := 32) (T := 8) dot_S96x1024_S48x1024_S96x48_1_1_0_0_n_n concatenates_S32x128_S32x128_S32x128_S96x128_d0 concatenates_S96x128_S96x128_S96x128_S96x128_S96x128_S96x128_S96x128_S96x128_S96x1024_d1 concatenates_S16x128_S16x128_S16x128_S48x128_d0 concatenates_S48x128_S48x128_S48x128_S48x128_S48x128_S48x128_S48x128_S48x128_S48x1024_d1
      (ld arg9 (stretch.sl.H9_80 arg0 arg8 f0) f9 0 8 32 32 (by omega) (by omega) (by omega))
      (ld arg9 (stretch.sl.H9_80 arg0 arg8 f0) f9 0 8 16 64 (by omega) (by omega) (by omega)) := rfl

/-- Book b's product over the second plane. -/
theorem v3273_mm : stretch.sl.v3273 arg0 arg8 arg9 f0 f9 =
    mm (a := 32) (T := 7) dot_S96x896_S48x896_S96x48_1_1_0_0_n_n concatenates_S32x128_S32x128_S32x128_S96x128_d0 concatenates_S96x128_S96x128_S96x128_S96x128_S96x128_S96x128_S96x128_S96x896_d1 concatenates_S16x128_S16x128_S16x128_S48x128_d0 concatenates_S48x128_S48x128_S48x128_S48x128_S48x128_S48x128_S48x128_S48x896_d1
      (ld arg9 (stretch.sl.H9_160 arg0 arg8 f0) f9 1 7 32 32 (by omega) (by omega) (by omega))
      (ld arg9 (stretch.sl.H9_160 arg0 arg8 f0) f9 1 7 16 64 (by omega) (by omega) (by omega)) := rfl

end Loads

end Cert.Proof.KernelIdeal

end
-- ==== Proof.Sums.lean ====
/-
  The products' entries over the extended reals: sums over the tokens of the probabilities of a code.
-/
module

public import proofs.«01_k».proof.Proof.Loads

@[expose] public section

set_option maxRecDepth 16384

noncomputable section

namespace Cert.Proof.KernelIdeal

open Cert.KernelIdeal Cert.KernelIdeal.Gen
open Idealize.ShloMosaic Idealize.ShloMosaic.TcCoe Idealize.ShloMosaic.View
open Cert.Proof.Ideals

/-- The probability of a sign, as a real. -/
def rB (b : Bool) (x : EReal) : ℝ := bif b then rP x else rQ x
/-- The probability of a four-bit code. -/
def rProd4 (z : ℕ → EReal) (c m : ℕ) : ℝ := rB (m.testBit 3) (z c) * rB (m.testBit 2) (z (c + 1)) * (rB (m.testBit 1) (z (c + 2)) * rB (m.testBit 0) (z (c + 3)))
/-- The probability of a five-bit code. -/
def rProd5 (z : ℕ → EReal) (c m : ℕ) : ℝ := rB (m.testBit 4) (z c) * rB (m.testBit 3) (z (c + 1)) * (rB (m.testBit 2) (z (c + 2)) * (rB (m.testBit 1) (z (c + 3)) * rB (m.testBit 0) (z (c + 4))))
/-- The partial codes in their order. -/
def rFactor (z : ℕ → EReal) (m : ℕ) : ℝ :=
  bif Nat.blt m 16 then rProd4 z 0 m else bif Nat.blt m 32 then rProd4 z 4 (m - 16) else bif Nat.blt m 64 then rProd5 z 8 (m - 32) else rProd4 z 13 (m - 64)
/-- The probability of a code of the `n` channels from `c`. -/
def rCode (c n : ℕ) (z : ℕ → EReal) (m : ℕ) : ℝ := ∏ i ∈ Finset.range n, rB (m.testBit (n - 1 - i)) (z (c + i))

/-- The sign test over the extended reals. -/
theorem pos_eq (x : EReal) : mPos (F := Ideal) x = BitVec.ofBool (decide (0 < x)) := by
  unfold mPos
  rw [show FloatOps.cmpf (F := Ideal) (φ := .f32) .ogt x (Scalar.ofBits .f32 0x00000000#32) = BitVec.ofBool (decide ((Ideal.ofBits .f32 0x00000000#32 : EReal) < x)) from rfl, c_zero]

/-- The probability of a sign, as the kernel finds it. -/
theorem mB_eq (b : Bool) (x : EReal) : mB (F := Ideal) b x = ((rB b x : ℝ) : EReal) := by
  cases b
  · show mQ (F := Ideal) x = ((rQ x : ℝ) : EReal)
    unfold mQ rQ
    rw [pos_eq, mNear_eq, mFar_eq]
    by_cases h : 0 < x
    · rw [decide_eq_true h, if_pos h]; rfl
    · rw [decide_eq_false h, if_neg h]; rfl
  · show mP (F := Ideal) x = ((rP x : ℝ) : EReal)
    unfold mP rP
    rw [pos_eq, mNear_eq, mFar_eq]
    by_cases h : 0 < x
    · rw [decide_eq_true h, if_pos h]; rfl
    · rw [decide_eq_false h, if_neg h]; rfl

/-- A product of four sign probabilities is a real. -/
theorem mProd4_eq (z : ℕ → EReal) (c m : ℕ) : mProd4 (F := Ideal) z c m = ((rProd4 z c m : ℝ) : EReal) := by
  refine (show mProd4 (F := Ideal) z c m = (mB (F := Ideal) (m.testBit 3) (z c) * mB (F := Ideal) (m.testBit 2) (z (c + 1)) * (mB (F := Ideal) (m.testBit 1) (z (c + 2)) * mB (F := Ideal) (m.testBit 0) (z (c + 3))) : EReal) from rfl).trans ?_
  simp only [mB_eq, ← EReal.coe_mul]; rfl

/-- A product of five sign probabilities is a real. -/
theorem mProd5_eq (z : ℕ → EReal) (c m : ℕ) : mProd5 (F := Ideal) z c m = ((rProd5 z c m : ℝ) : EReal) := by
  refine (show mProd5 (F := Ideal) z c m = (mB (F := Ideal) (m.testBit 4) (z c) * mB (F := Ideal) (m.testBit 3) (z (c + 1)) * (mB (F := Ideal) (m.testBit 2) (z (c + 2)) * (mB (F := Ideal) (m.testBit 1) (z (c + 3)) * mB (F := Ideal) (m.testBit 0) (z (c + 4)))) : EReal) from rfl).trans ?_
  simp only [mB_eq, ← EReal.coe_mul]; rfl

/-- A factor is a real. -/
theorem mFactor_eq (z : ℕ → EReal) (m : ℕ) : mFactor (F := Ideal) z m = ((rFactor z m : ℝ) : EReal) := by
  unfold mFactor rFactor
  rw [mProd4_eq, mProd4_eq, mProd5_eq, mProd4_eq]
  cases Nat.blt m 16 <;> cases Nat.blt m 32 <;> cases Nat.blt m 64 <;> rfl

/-- The bits of a code from those of its halves. -/
theorem half_bit (h l k : ℕ) (hl : l < 16) : (16 * h + l).testBit k = if k < 4 then l.testBit k else h.testBit (k - 4) :=
  Nat.testBit_two_pow_mul_add (i := 4) h hl k

/-- The comparison of two naturals that does not hold. -/
theorem blt_false (a b : ℕ) (h : b ≤ a) : Nat.blt a b = false := by
  rw [← Bool.not_eq_true, Nat.blt_eq]; omega

/-- The halves of a code of the first book multiply to it. -/
theorem halves_a (z : ℕ → EReal) (h l : ℕ) (hh : h < 16) (hl : l < 16) : rFactor z (0 + h) * rFactor z (16 + l) = rCode 0 8 z (16 * h + l) := by
  have e1 : rFactor z (0 + h) = rProd4 z 0 h := by
    unfold rFactor; rw [Nat.zero_add, show Nat.blt h 16 = true by simpa [Nat.blt_eq] using hh]; rfl
  have e2 : rFactor z (16 + l) = rProd4 z 4 l := by
    unfold rFactor; rw [blt_false (16 + l) 16 (by omega), show Nat.blt (16 + l) 32 = true by rw [Nat.blt_eq]; omega, show 16 + l - 16 = l by omega]; rfl
  rw [e1, e2]
  simp only [rCode, rProd4, Finset.prod_range_succ, Finset.prod_range_zero, half_bit _ _ _ hl]
  norm_num
  ring

/-- The halves of a code of the second book multiply to it. -/
theorem halves_b (z : ℕ → EReal) (h l : ℕ) (hh : h < 32) (hl : l < 16) : rFactor z (32 + h) * rFactor z (64 + l) = rCode 8 9 z (16 * h + l) := by
  have e1 : rFactor z (32 + h) = rProd5 z 8 h := by
    unfold rFactor; rw [blt_false (32 + h) 16 (by omega), blt_false (32 + h) 32 (by omega), show Nat.blt (32 + h) 64 = true by rw [Nat.blt_eq]; omega, show 32 + h - 32 = h by omega]; rfl
  have e2 : rFactor z (64 + l) = rProd4 z 13 l := by
    unfold rFactor; rw [blt_false (64 + l) 16 (by omega), blt_false (64 + l) 32 (by omega), blt_false (64 + l) 64 (by omega), show 64 + l - 64 = l by omega]; rfl
  rw [e1, e2]
  simp only [rCode, rProd4, rProd5, Finset.prod_range_succ, Finset.prod_range_zero, half_bit _ _ _ hl]
  norm_num
  ring

/-- The sum over the packed tokens of a code's probability. -/
def tot (X : S17x3x640.Idx → EReal) (c n m : ℕ) : ℝ := ∑ r ∈ Finset.range 15, ∑ l : Fin 128, rCode c n (packed (F := Ideal) X r l.val) m

section Loads
variable (arg0 : Memref sig .tc .vmem S17x3x640 .bf16) (arg8 : Memref sig .tc .vmem S17x16x128 .f32) (arg9 : Memref sig .tc .vmem S1344x128 .f32)
  (f0 : arg0.view.ty.Contents (Elt Ideal)) (f9 : arg9.view.ty.Contents (Elt Ideal))

/-- A load's entries. -/
theorem ld_eq (X : S17x3x640.Idx → EReal) (H : List (Piece (Elt Ideal) S1344x128 .f32)) (f : arg9.view.ty.Contents (Elt Ideal)) (v T a start : ℕ) (hT : T ≤ 8) (hv : v < 2) (hs : start + a ≤ 84)
    (hs' : start + a ≤ 80)
    (hread : ∀ (f : arg9.view.ty.Contents (Elt Ideal)) (y : S1344x128.Idx), (y 0).val / 672 = v → (y 0).val % 84 < 80 →
      arg9.view.read (Elt Ideal) (arg9.view.writes (Elt Ideal) f H) y = facArr (F := Ideal) X y)
    (t : Fin T) (i : Fin a) (l : Fin 128) :
    ld (F := Ideal) arg9 H f v T a start hT hv hs t (ix2 i l) = ((rFactor (packed (F := Ideal) X (8 * v + t.val) l.val) (start + i.val) : ℝ) : EReal) := by
  have hi := i.isLt
  have key : ∀ (f : arg9.view.ty.Contents (Elt Ideal)) (y : S1344x128.Idx), (y 0).val = v * 672 + 84 * t.val + start + i.val → (y 1).val = l.val →
      arg9.view.read (Elt Ideal) (arg9.view.writes (Elt Ideal) f H) y = ((rFactor (packed (F := Ideal) X (8 * v + t.val) l.val) (start + i.val) : ℝ) : EReal) := by
    intro f y h0 h1
    have ht := t.isLt
    rw [hread f y (by omega) (by omega), ← mFactor_eq]
    unfold facArr
    rw [h0, h1, show (v * 672 + 84 * t.val + start + i.val) / 84 = 8 * v + t.val by omega, show (v * 672 + 84 * t.val + start + i.val) % 84 = start + i.val by omega]
  match t with
  | ⟨0, _⟩ => exact key _ _ (show v * 672 + start + 1 * i.val = v * 672 + 84 * 0 + start + i.val by omega) (show 0 + 1 * l.val = l.val by omega)
  | ⟨t + 1, _⟩ => exact key _ _ (show v * 672 + 84 * (t + 1) + start + 1 * i.val = v * 672 + 84 * (t + 1) + start + i.val by omega) (show 0 + 1 * l.val = l.val by omega)

/-- The entries of a product, the operands kept whole. -/
def ent (X : S17x3x640.Idx → EReal) (a sL sR v T i j : ℕ) : ℝ :=
  ∑ t : Fin T, ∑ l : Fin 128, spl a (fun i l => rFactor (packed (F := Ideal) X (8 * v + t.val) l) (sL + i)) i l.val * spl 16 (fun i l => rFactor (packed (F := Ideal) X (8 * v + t.val) l) (sR + i)) j l.val

/-- The first book's products over the first plane's rows. -/
theorem v1753_eq (i j : Fin 48) : stretch.sl.v1753 (F := Ideal) arg0 arg8 arg9 f0 f9 (ix2 i j) = ((ent (inp arg0 f0) 16 0 16 0 8 i.val j.val : ℝ) : EReal) := by
  rw [v1753_mm]
  have hD : ∀ (A : FVec Ideal ⟨2, ![3 * 16, 8 * 128]⟩ .f32) (B : FVec Ideal ⟨2, ![3 * 16, 8 * 128]⟩ .f32) (i : Fin (3 * 16)) (j : Fin (3 * 16)),
      matmul (F := Ideal) dot_S48x1024_S48x1024_S48x48_1_1_0_0_n_n none A B (constant ⟨2, ![3 * 16, 3 * 16]⟩ .f32 0x00000000#32) (ix2 i j) = ∑ k : Fin (8 * 128), (A (ix2 i k) * B (ix2 j k) : EReal) := dotA0
  have hL := ld_eq arg9 (inp arg0 f0) (stretch.sl.H9_80 arg0 arg8 f0) f9 0 8 16 0 (by omega) (by omega) (by omega) (by omega) (fun f y h1 h2 => H9_80_read arg0 arg8 f0 arg9 f y h1 h2)
  have hR := ld_eq arg9 (inp arg0 f0) (stretch.sl.H9_80 arg0 arg8 f0) f9 0 8 16 16 (by omega) (by omega) (by omega) (by omega) (fun f y h1 h2 => H9_80_read arg0 arg8 f0 arg9 f y h1 h2)
  exact mm_eq (a := 16) (T := 8) dot_S48x1024_S48x1024_S48x48_1_1_0_0_n_n _ _ _ _ hD _ _ (fun t i l => rFactor (packed (F := Ideal) (inp arg0 f0) (8 * 0 + t) l) (0 + i)) (fun t i l => rFactor (packed (F := Ideal) (inp arg0 f0) (8 * 0 + t) l) (16 + i)) hL hR i j

/-- The first book's products over the second plane's rows. -/
theorem v3101_eq (i j : Fin 48) : stretch.sl.v3101 (F := Ideal) arg0 arg8 arg9 f0 f9 (ix2 i j) = ((ent (inp arg0 f0) 16 0 16 1 7 i.val j.val : ℝ) : EReal) := by
  rw [v3101_mm]
  have hD : ∀ (A : FVec Ideal ⟨2, ![3 * 16, 7 * 128]⟩ .f32) (B : FVec Ideal ⟨2, ![3 * 16, 7 * 128]⟩ .f32) (i : Fin (3 * 16)) (j : Fin (3 * 16)),
      matmul (F := Ideal) dot_S48x896_S48x896_S48x48_1_1_0_0_n_n none A B (constant ⟨2, ![3 * 16, 3 * 16]⟩ .f32 0x00000000#32) (ix2 i j) = ∑ k : Fin (7 * 128), (A (ix2 i k) * B (ix2 j k) : EReal) := dotA1
  have hL := ld_eq arg9 (inp arg0 f0) (stretch.sl.H9_160 arg0 arg8 f0) f9 1 7 16 0 (by omega) (by omega) (by omega) (by omega) (fun f y h1 h2 => H9_160_read arg0 arg8 f0 arg9 f y h2)
  have hR := ld_eq arg9 (inp arg0 f0) (stretch.sl.H9_160 arg0 arg8 f0) f9 1 7 16 16 (by omega) (by omega) (by omega) (by omega) (fun f y h1 h2 => H9_160_read arg0 arg8 f0 arg9 f y h2)
  exact mm_eq (a := 16) (T := 7) dot_S48x896_S48x896_S48x48_1_1_0_0_n_n _ _ _ _ hD _ _ (fun t i l => rFactor (packed (F := Ideal) (inp arg0 f0) (8 * 1 + t) l) (0 + i)) (fun t i l => rFactor (packed (F := Ideal) (inp arg0 f0) (8 * 1 + t) l) (16 + i)) hL hR i j

/-- The second book's products over the first plane's rows. -/
theorem r_125_eq (i : Fin 96) (j : Fin 48) : stretch.sl.r_125 (F := Ideal) arg0 arg8 arg9 f0 f9 (ix2 i j) = ((ent (inp arg0 f0) 32 32 64 0 8 i.val j.val : ℝ) : EReal) := by
  rw [r_125_mm]
  have hD : ∀ (A : FVec Ideal ⟨2, ![3 * 32, 8 * 128]⟩ .f32) (B : FVec Ideal ⟨2, ![3 * 16, 8 * 128]⟩ .f32) (i : Fin (3 * 32)) (j : Fin (3 * 16)),
      matmul (F := Ideal) dot_S96x1024_S48x1024_S96x48_1_1_0_0_n_n none A B (constant ⟨2, ![3 * 32, 3 * 16]⟩ .f32 0x00000000#32) (ix2 i j) = ∑ k : Fin (8 * 128), (A (ix2 i k) * B (ix2 j k) : EReal) := dotB0
  have hL := ld_eq arg9 (inp arg0 f0) (stretch.sl.H9_80 arg0 arg8 f0) f9 0 8 32 32 (by omega) (by omega) (by omega) (by omega) (fun f y h1 h2 => H9_80_read arg0 arg8 f0 arg9 f y h1 h2)
  have hR := ld_eq arg9 (inp arg0 f0) (stretch.sl.H9_80 arg0 arg8 f0) f9 0 8 16 64 (by omega) (by omega) (by omega) (by omega) (fun f y h1 h2 => H9_80_read arg0 arg8 f0 arg9 f y h1 h2)
  exact mm_eq (a := 32) (T := 8) dot_S96x1024_S48x1024_S96x48_1_1_0_0_n_n _ _ _ _ hD _ _ (fun t i l => rFactor (packed (F := Ideal) (inp arg0 f0) (8 * 0 + t) l) (32 + i)) (fun t i l => rFactor (packed (F := Ideal) (inp arg0 f0) (8 * 0 + t) l) (64 + i)) hL hR i j

/-- The second book's products over the second plane's rows. -/
theorem v3273_eq (i : Fin 96) (j : Fin 48) : stretch.sl.v3273 (F := Ideal) arg0 arg8 arg9 f0 f9 (ix2 i j) = ((ent (inp arg0 f0) 32 32 64 1 7 i.val j.val : ℝ) : EReal) := by
  rw [v3273_mm]
  have hD : ∀ (A : FVec Ideal ⟨2, ![3 * 32, 7 * 128]⟩ .f32) (B : FVec Ideal ⟨2, ![3 * 16, 7 * 128]⟩ .f32) (i : Fin (3 * 32)) (j : Fin (3 * 16)),
      matmul (F := Ideal) dot_S96x896_S48x896_S96x48_1_1_0_0_n_n none A B (constant ⟨2, ![3 * 32, 3 * 16]⟩ .f32 0x00000000#32) (ix2 i j) = ∑ k : Fin (7 * 128), (A (ix2 i k) * B (ix2 j k) : EReal) := dotB1
  have hL := ld_eq arg9 (inp arg0 f0) (stretch.sl.H9_160 arg0 arg8 f0) f9 1 7 32 32 (by omega) (by omega) (by omega) (by omega) (fun f y h1 h2 => H9_160_read arg0 arg8 f0 arg9 f y h2)
  have hR := ld_eq arg9 (inp arg0 f0) (stretch.sl.H9_160 arg0 arg8 f0) f9 1 7 16 64 (by omega) (by omega) (by omega) (by omega) (fun f y h1 h2 => H9_160_read arg0 arg8 f0 arg9 f y h2)
  exact mm_eq (a := 32) (T := 7) dot_S96x896_S48x896_S96x48_1_1_0_0_n_n _ _ _ _ hD _ _ (fun t i l => rFactor (packed (F := Ideal) (inp arg0 f0) (8 * 1 + t) l) (32 + i)) (fun t i l => rFactor (packed (F := Ideal) (inp arg0 f0) (8 * 1 + t) l) (64 + i)) hL hR i j

/-- The sum of a product's entries over both planes: the code's total where both operands are whole, else nothing. -/
theorem ent_tot (X : S17x3x640.Idx → EReal) (a sL sR c n i j : ℕ)
    (hp : ∀ (z : ℕ → EReal) (h l : ℕ), h < a → l < 16 → rFactor z (sL + h) * rFactor z (sR + l) = rCode c n z (16 * h + l)) :
    ent X a sL sR 0 8 i j + ent X a sL sR 1 7 i j = if i < a ∧ j < 16 then tot X c n (16 * i + j) else 0 := by
  by_cases h : i < a ∧ j < 16
  · rw [if_pos h]
    have e : ∀ v T, ent X a sL sR v T i j = ∑ t : Fin T, ∑ l : Fin 128, rCode c n (packed (F := Ideal) X (8 * v + t.val) l.val) (16 * i + j) := fun v T => by
      unfold ent
      refine Finset.sum_congr rfl fun t _ => Finset.sum_congr rfl fun l _ => ?_
      rw [spl, spl, if_pos h.1, if_pos h.2, hp _ _ _ h.1 h.2]
    rw [e, e, tot, Finset.sum_range_add (n := 8) (m := 7) (f := fun r => ∑ l : Fin 128, rCode c n (packed (F := Ideal) X r l.val) (16 * i + j)), Finset.sum_range, Finset.sum_range]
    simp only [Nat.mul_zero, Nat.zero_add, Nat.mul_one]
  · rw [if_neg h]
    have e : ∀ v T, ent X a sL sR v T i j = 0 := fun v T => by
      unfold ent
      refine Finset.sum_eq_zero fun t _ => Finset.sum_eq_zero fun l _ => ?_
      unfold spl
      rcases not_and_or.mp h with h | h
      · rw [if_neg h, zero_mul]
      · rw [if_neg h, mul_zero]
    rw [e, e, add_zero]

/-- Book a's product over both planes. -/
theorem v3102_eq (i j : Fin 48) : stretch.sl.v3102 (F := Ideal) arg0 arg8 arg9 f0 f9 (ix2 i j) = (((if i.val < 16 ∧ j.val < 16 then tot (inp arg0 f0) 0 8 (16 * i.val + j.val) else 0 : ℝ)) : EReal) := by
  rw [← ent_tot (inp arg0 f0) 16 0 16 0 8 i.val j.val (fun z h l => halves_a z h l), EReal.coe_add, ← v1753_eq arg0 arg8 arg9 f0 f9, ← v3101_eq arg0 arg8 arg9 f0 f9]
  rfl
/-- Book b's product over both planes. -/
theorem v3274_eq (i : Fin 96) (j : Fin 48) : stretch.sl.v3274 (F := Ideal) arg0 arg8 arg9 f0 f9 (ix2 i j) = (((if i.val < 32 ∧ j.val < 16 then tot (inp arg0 f0) 8 9 (16 * i.val + j.val) else 0 : ℝ)) : EReal) := by
  rw [← ent_tot (inp arg0 f0) 32 32 64 8 9 i.val j.val (fun z h l => halves_b z h l), EReal.coe_add, ← r_125_eq arg0 arg8 arg9 f0 f9, ← v3273_eq arg0 arg8 arg9 f0 f9]
  rfl

end Loads

end Cert.Proof.KernelIdeal

end
-- ==== Proof.Groups.lean ====
/-
  A group of codes' mean probabilities: each lane gathers its code's entry of the product's block.
-/
module

public import proofs.«01_k».proof.Proof.Sums

@[expose] public section

set_option maxRecDepth 16384

noncomputable section

namespace Cert.Proof.KernelIdeal

open Cert.KernelIdeal Cert.KernelIdeal.Gen
open Idealize.ShloMosaic Idealize.ShloMosaic.TcCoe Idealize.ShloMosaic.View
open Cert.Proof.Ideals

/-- The mask of a lane's own row. -/
noncomputable def gOwn : IVec S8x128 1 := cmpi .eq stretch.sl.v3306 stretch.sl.v3282
/-- Where a lane gathers a part. -/
noncomputable def gIdx (p : BitVec 32) : IVec S8x128 32 :=
  shapeCast S8x128 (shapeCast S8x128x1 (select (cmpi .slt (addi stretch.sl.v3331 (broadcast S8x128 p)) stretch.sl.v3285)
    (addi (addi stretch.sl.v3331 (broadcast S8x128 p)) (broadcast S8x128 128#32)) (addi stretch.sl.v3331 (broadcast S8x128 p))) shapeCasts_S8x128_S8x128x1) shapeCasts_S8x128x1_S8x128

/-- The mask keeps, on each lane, the row whose sixteen lanes it is among. -/
theorem gOwn_eq : ∀ (s : Fin 8) (l : Fin 128), gOwn (ix2 s l) = BitVec.ofBool (decide (l.val / 16 = s.val)) := by
  decide +kernel
/-- The lane the first part is gathered from. -/
theorem gIdx_0 : ∀ (s : Fin 8) (l : Fin 128), (gIdx 0#32 (ix2 s l)).toNat = l.val % 16 := by
  decide +kernel
/-- The lane the second part is gathered from. -/
theorem gIdx_1 : ∀ (s : Fin 8) (l : Fin 128), (gIdx 16#32 (ix2 s l)).toNat = l.val % 16 + 16 := by
  decide +kernel
/-- The lane the third part is gathered from. -/
theorem gIdx_2 : ∀ (s : Fin 8) (l : Fin 128), (gIdx 32#32 (ix2 s l)).toNat = l.val % 16 + 32 := by
  decide +kernel

section Model
variable {F : FTy → Type} [FloatOps F] [Named F]

/-- A group's mean probabilities, from the block. -/
noncomputable def gMean (B : FVec F S8x128 .f32) : FVec F S1x128 .f32 :=
  mulf (shapeCast S1x128 (multiReduction .add [0] S128 (select gOwn (addf (addf (dynamicGather 1 B (gIdx 0#32)) (dynamicGather 1 B (gIdx 16#32))) (dynamicGather 1 B (gIdx 32#32)))
    (broadcast S8x128 (Scalar.ofBits .f32 0x00000000#32))) 0x00000000#32 reduces_S8x128_S128 (.inl rfl) rfl) shapeCasts_S128_S1x128)
    (broadcast S1x128 (Named.named κ "inv_n" 0x3A088889#32))

/-- A group's log usage, from its mean probabilities. -/
noncomputable def gLog (name : String) (w : BitVec 32) (B : FVec F S8x128 .f32) : FVec F S1x128 .f32 := addf (log (gMean B)) (broadcast S1x128 (Named.named κ name w))

variable (arg0 : Memref sig .tc .vmem S17x3x640 .bf16) (arg8 : Memref sig .tc .vmem S17x16x128 .f32) (arg9 : Memref sig .tc .vmem S1344x128 .f32)
  (f0 : arg0.view.ty.Contents (Elt F)) (f9 : arg9.view.ty.Contents (Elt F))

/-- The stores of the first book's log usage. -/
theorem H5_groups : stretch.sl.H5_2 arg0 arg8 arg9 f0 f9 =
    [⟨Rect.unit ![1, 0] S1x128.size inb_S2x128_S1x128_1_0, gLog "ln_256" 0x40B17218#32 (stretch.sl.r_256 arg0 arg8 arg9 f0 f9)⟩,
     ⟨Rect.unit ![0, 0] S1x128.size inb_S2x128_S1x128_0_0, gLog "ln_256" 0x40B17218#32 (stretch.sl.v3315 arg0 arg8 arg9 f0 f9)⟩] := rfl
/-- The stores of the second book's log usage. -/
theorem H6_groups : (⟨Rect.unit ![3, 0] S1x128.size inb_S4x128_S1x128_3_0, k0_pay1 (stretch.sl.r_267 arg0 arg8 arg9 f0 f9)⟩ :: stretch.sl.H6_3 arg0 arg8 arg9 f0 f9 : List (Piece (Elt F) S4x128 .f32)) =
    [⟨Rect.unit ![3, 0] S1x128.size inb_S4x128_S1x128_3_0, gLog "ln_512" 0x40C7A05B#32 (stretch.sl.v3786 arg0 arg8 arg9 f0 f9)⟩,
     ⟨Rect.unit ![2, 0] S1x128.size inb_S4x128_S1x128_2_0, gLog "ln_512" 0x40C7A05B#32 (stretch.sl.r_263 arg0 arg8 arg9 f0 f9)⟩,
     ⟨Rect.unit ![1, 0] S1x128.size inb_S4x128_S1x128_1_0, gLog "ln_512" 0x40C7A05B#32 (stretch.sl.r_261 arg0 arg8 arg9 f0 f9)⟩,
     ⟨Rect.unit ![0, 0] S1x128.size inb_S4x128_S1x128_0_0, gLog "ln_512" 0x40C7A05B#32 (stretch.sl.r_259 arg0 arg8 arg9 f0 f9)⟩] := rfl

/-- One group's part of the divergence. -/
noncomputable def gKl (name : String) (w : BitVec 32) (B : FVec F S8x128 .f32) : FVec F S1x128 .f32 := mulf (gMean B) (gLog name w B)

/-- The stored divergence. -/
theorem kl_groups : k0_pay2 (stretch.sl.v3785 arg0 arg8 arg9 f0 f9) (stretch.sl.r_266 arg0 arg8 arg9 f0 f9) (stretch.sl.r_267 arg0 arg8 arg9 f0 f9) =
    shapeCast S1x1 (multiReduction .add [1] S1 (addf (addf (addf (addf (addf
      (gKl "ln_256" 0x40B17218#32 (stretch.sl.v3315 arg0 arg8 arg9 f0 f9)) (gKl "ln_256" 0x40B17218#32 (stretch.sl.r_256 arg0 arg8 arg9 f0 f9)))
      (gKl "ln_512" 0x40C7A05B#32 (stretch.sl.r_259 arg0 arg8 arg9 f0 f9))) (gKl "ln_512" 0x40C7A05B#32 (stretch.sl.r_261 arg0 arg8 arg9 f0 f9)))
      (gKl "ln_512" 0x40C7A05B#32 (stretch.sl.r_263 arg0 arg8 arg9 f0 f9))) (gKl "ln_512" 0x40C7A05B#32 (stretch.sl.v3786 arg0 arg8 arg9 f0 f9)))
      0x00000000#32 reduces_S1x128_S1 (.inl rfl) rfl) shapeCasts_S1_S1x1 := rfl

end Model

end Cert.Proof.KernelIdeal

end
-- ==== Proof.Blocks.lean ====
/-
  The blocks of the products over the extended reals, and the mean probabilities read off them.
-/
module

public import proofs.«01_k».proof.Proof.Groups
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe Idealize.ShloMosaic.View
open Cert.Proof.Ideals

/-- A gather along the lanes, read at an index. -/
theorem gather_lane {α : Type} (B : S8x128.Idx → α) (idx : IVec S8x128 32) (s : Fin 8) (l : Fin 128) :
    dynamicGather 1 B idx (ix2 s l) = B (ix2 s ⟨(idx (ix2 s l)).toNat % 128, Nat.mod_lt _ (by decide)⟩) := by
  refine congrArg B (funext fun b => ?_)
  match b with
  | ⟨0, _⟩ => rfl
  | ⟨1, _⟩ => rfl

/-- A lane of the gathered row is the mean of its own row's three parts. -/
theorem gMean_read (B : FVec Ideal S8x128 .f32) (l : Fin 128) :
    gMean (F := Ideal) B (ix2 (0 : Fin 1) l) = ((∑ s : Fin 8, Scalar.select (gOwn (ix2 s l))
      (dynamicGather 1 B (gIdx 0#32) (ix2 s l) + dynamicGather 1 B (gIdx 16#32) (ix2 s l) + dynamicGather 1 B (gIdx 32#32) (ix2 s l) : EReal) (0 : EReal)) * ((1 / 1920 : ℝ) : EReal) : EReal) := by
  pointwise [gMean]
  rw [k_inv_n]

/-- A block: its rows' codes in the first sixteen lanes, nothing elsewhere. -/
def IsBlk (B : FVec Ideal S8x128 .f32) (T : ℕ → ℝ) (g : ℕ) : Prop :=
  ∀ (s : Fin 8) (l : Fin 128), B (ix2 s l) = ((if l.val < 16 then T (16 * (8 * g + s.val) + l.val) else 0 : ℝ) : EReal)

/-- A group's mean probabilities are the totals of its codes over the number of tokens. -/
theorem gMean_eq (B : FVec Ideal S8x128 .f32) (T : ℕ → ℝ) (g : ℕ) (hB : IsBlk B T g) (l : Fin 128) :
    gMean (F := Ideal) B (ix2 (0 : Fin 1) l) = ((T (128 * g + l.val) * (1 / 1920) : ℝ) : EReal) := by
  have hl := l.isLt
  rw [gMean_read, EReal.coe_mul]
  congr 1
  simp only [gather_lane, hB _ _, gIdx_0, gIdx_1, gIdx_2, gOwn_eq]
  rw [Finset.sum_eq_single (⟨l.val / 16, by omega⟩ : Fin 8)]
  · rw [show decide (l.val / 16 = l.val / 16) = true by simp]
    show ((_ : EReal) + _ + _) = _
    rw [if_pos (by omega), if_neg (by omega), if_neg (by omega), EReal.coe_zero, add_zero, add_zero]
    rw [show 16 * (8 * g + l.val / 16) + l.val % 16 % 128 = 128 * g + l.val by omega]
  · intro b _ hb
    rw [show decide (l.val / 16 = b.val) = false by rw [decide_eq_false_iff_not]; exact fun e => hb (Fin.ext e.symm)]
    rfl
  · exact fun h => absurd (Finset.mem_univ _) h

/-- A group's log usage. -/
theorem gLog_eq (name : String) (w : BitVec 32) (k : ℝ) (hk : Named.named (F := Ideal) κ name (φ := .f32) w = ((k : ℝ) : EReal)) (B : FVec Ideal S8x128 .f32) (T : ℕ → ℝ) (g : ℕ) (hB : IsBlk B T g) (l : Fin 128) :
    gLog (F := Ideal) name w B (ix2 (0 : Fin 1) l) = Ideal.log ((T (128 * g + l.val) * (1 / 1920) : ℝ) : EReal) + ((k : ℝ) : EReal) := by
  rw [← gMean_eq B T g hB l, ← hk]
  rfl

section Blocks
variable (arg0 : Memref sig .tc .vmem S17x3x640 .bf16) (arg8 : Memref sig .tc .vmem S17x16x128 .f32) (arg9 : Memref sig .tc .vmem S1344x128 .f32)
  (f0 : arg0.view.ty.Contents (Elt Ideal)) (f9 : arg9.view.ty.Contents (Elt Ideal))

/-- The first book's products, their three parts added. -/
theorem v3314_eq (i : Fin 16) (l : Fin 128) : stretch.sl.v3314 (F := Ideal) arg0 arg8 arg9 f0 f9 (ix2 i l) =
    ((if l.val < 16 then tot (inp arg0 f0) 0 8 (16 * i.val + l.val) else 0 : ℝ) : EReal) := by
  pointwise [stretch.sl.v3314, stretch.sl.v3312, stretch.sl.v3310, stretch.sl.v3308, stretch.sl.v3309, stretch.sl.v3311, stretch.sl.v3313]
  have hi := i.isLt
  by_cases h : l.val < 48
  · rw [dif_pos h]
    simp only [v3102_eq]
    rw [if_neg (c := 16 + i.val < 16 ∧ _) (by omega), if_neg (c := 32 + i.val < 16 ∧ _) (by omega), EReal.coe_zero, add_zero, add_zero]
    simp only [hi, true_and]
  · rw [dif_neg h, if_neg (by omega), EReal.coe_zero]
    exact c_zero
/-- The second book's products, their three parts added. -/
theorem r_258_eq (i : Fin 32) (l : Fin 128) : stretch.sl.r_258 (F := Ideal) arg0 arg8 arg9 f0 f9 (ix2 i l) =
    ((if l.val < 16 then tot (inp arg0 f0) 8 9 (16 * i.val + l.val) else 0 : ℝ) : EReal) := by
  pointwise [stretch.sl.r_258, k0_pay1042]
  have hi := i.isLt
  by_cases h : l.val < 48
  · rw [dif_pos h]
    simp only [v3274_eq]
    rw [if_neg (c := 32 + i.val < 32 ∧ _) (by omega), if_neg (c := 64 + i.val < 32 ∧ _) (by omega), EReal.coe_zero, add_zero, add_zero]
    simp only [hi, true_and]
  · rw [dif_neg h, if_neg (by omega), EReal.coe_zero]

/-- Codes 0 to 127 of the first book. -/
theorem blk_a0 : IsBlk (stretch.sl.v3315 (F := Ideal) arg0 arg8 arg9 f0 f9) (tot (inp arg0 f0) 0 8) 0 := fun s l => by
  pointwise [stretch.sl.v3315]
  rw [v3314_eq]
/-- Codes 128 to 255 of the first book. -/
theorem blk_a1 : IsBlk (stretch.sl.r_256 (F := Ideal) arg0 arg8 arg9 f0 f9) (tot (inp arg0 f0) 0 8) 1 := fun s l => by
  pointwise [stretch.sl.r_256, k0_pay1035]
  rw [v3314_eq]
/-- Codes 0 to 127 of the second book. -/
theorem blk_b0 : IsBlk (stretch.sl.r_259 (F := Ideal) arg0 arg8 arg9 f0 f9) (tot (inp arg0 f0) 8 9) 0 := fun s l => by
  refine (show _ = extractStridedSlice S8x128 ![0, 0] (stretch.sl.r_258 (F := Ideal) arg0 arg8 arg9 f0 f9) slices_S32x128_o0_0_S8x128 (ix2 s l) from rfl).trans ?_
  pointwise
  rw [r_258_eq]
/-- Codes 128 to 255 of the second book. -/
theorem blk_b1 : IsBlk (stretch.sl.r_261 (F := Ideal) arg0 arg8 arg9 f0 f9) (tot (inp arg0 f0) 8 9) 1 := fun s l => by
  pointwise [stretch.sl.r_261, k0_pay1052]
  rw [r_258_eq]
/-- Codes 256 to 383 of the second book. -/
theorem blk_b2 : IsBlk (stretch.sl.r_263 (F := Ideal) arg0 arg8 arg9 f0 f9) (tot (inp arg0 f0) 8 9) 2 := fun s l => by
  pointwise [stretch.sl.r_263, k0_pay1059]
  rw [r_258_eq]
/-- Codes 384 to 511 of the second book. -/
theorem blk_b3 : IsBlk (stretch.sl.v3786 (F := Ideal) arg0 arg8 arg9 f0 f9) (tot (inp arg0 f0) 8 9) 3 := fun s l => by
  pointwise [stretch.sl.v3786]
  rw [r_258_eq]

end Blocks

end Cert.Proof.KernelIdeal

end
-- ==== Proof.Safe.lean ====
/-
  What the body leaves in the usage rows and in the divergence when no fallback is taken.
-/
module

public import proofs.«01_k».proof.Proof.Blocks

@[expose] public section

set_option maxRecDepth 16384

noncomputable section

namespace Cert.Proof.KernelIdeal

open Cert.KernelIdeal Cert.KernelIdeal.Gen
open Idealize.ShloMosaic Idealize.ShloMosaic.TcCoe Idealize.ShloMosaic.View
open Cert.Proof.Ideals

/-- A code's log usage: the logarithm of its mean probability, relative to the uniform one. -/
def lgU (k T : ℝ) : EReal := Ideal.log ((T * (1 / 1920) : ℝ) : EReal) + ((k : ℝ) : EReal)
/-- A code's part of the divergence. -/
def klU (k T : ℝ) : EReal := ((T * (1 / 1920) : ℝ) : EReal) * lgU k T

/-- The first book's log usage. -/
def usageA (X : S17x3x640.Idx → EReal) : S2x128.Idx → EReal := fun j => lgU (Real.log 256) (tot X 0 8 (128 * (j 0).val + (j 1).val))
/-- The second book's log usage. -/
def usageB (X : S17x3x640.Idx → EReal) : S4x128.Idx → EReal := fun j => lgU (Real.log 512) (tot X 8 9 (128 * (j 0).val + (j 1).val))
/-- The divergence of both books' mean probabilities from the uniform ones. -/
def divergence (X : S17x3x640.Idx → EReal) : S1x1.Idx → EReal := fun _ =>
  (∑ m ∈ Finset.range 256, klU (Real.log 256) (tot X 0 8 m)) + ∑ m ∈ Finset.range 512, klU (Real.log 512) (tot X 8 9 m)

section Safe
variable (arg0 : Memref sig .tc .vmem S17x3x640 .bf16) (arg8 : Memref sig .tc .vmem S17x16x128 .f32) (arg9 : Memref sig .tc .vmem S1344x128 .f32)
  (f0 : arg0.view.ty.Contents (Elt Ideal)) (f9 : arg9.view.ty.Contents (Elt Ideal))

/-- A group's log usage, as the results hold it. -/
theorem gLog_lgU (name : String) (w : BitVec 32) (k : ℝ) (hk : Named.named (F := Ideal) κ name (φ := .f32) w = ((k : ℝ) : EReal)) (B : FVec Ideal S8x128 .f32) (T : ℕ → ℝ) (g : ℕ) (hB : IsBlk B T g) (l : Fin 128) :
    gLog (F := Ideal) name w B (ix2 (0 : Fin 1) l) = lgU k (T (128 * g + l.val)) := gLog_eq name w k hk B T g hB l

/-- A row's store agrees with an array whose row it is. -/
theorem row_ok {R : ℕ} (G : (⟨2, ![R, 128]⟩ : Shape).Idx → EReal) (g : ℕ) (hg : g < R) (h) (v : FVec Ideal S1x128 .f32) (u : ℕ → EReal)
    (hG : ∀ j, G j = u (128 * (j 0).val + (j 1).val)) (hv : ∀ l : Fin 128, v (ix2 (0 : Fin 1) l) = u (128 * g + l.val))
    (x : S1x128.Idx) : v x = G ((Rect.unit (s := ⟨2, ![R, 128]⟩) ![g, 0] S1x128.size h).emb x) := by
  have hx : (x 0).val = 0 := by have := (x 0).isLt; simp at this; omega
  have e : x = ix2 (0 : Fin 1) (⟨(x 1).val, (x 1).isLt⟩ : Fin 128) := by
    funext a
    match a with
    | ⟨0, _⟩ => exact Fin.ext hx
    | ⟨1, _⟩ => rfl
  rw [hG]
  refine (congrArg v e).trans ((hv _).trans (congrArg u ?_))
  show 128 * g + (x 1).val = 128 * (g + 1 * (x 0).val) + (0 + 1 * (x 1).val)
  omega

/-- Every position of a row is in the row's store. -/
theorem row_mem {R : ℕ} (y : (⟨2, ![R, 128]⟩ : Shape).Idx) (h) : y ∈ (Rect.unit (s := ⟨2, ![R, 128]⟩) ![(y 0).val, 0] S1x128.size h).set := by
  have e : (Rect.unit (s := ⟨2, ![R, 128]⟩) ![(y 0).val, 0] S1x128.size h).toLoadRect.idx (ix2 (0 : Fin 1) (⟨(y 1).val, (y 1).isLt⟩ : Fin 128)) = y := by
    funext a
    apply Fin.ext
    match a with
    | ⟨0, _⟩ => show (y 0).val + 1 * 0 = (y 0).val; omega
    | ⟨1, _⟩ => show 0 + 1 * (y 1).val = (y 1).val; omega
  have hi := LoadRect.idx_mem (Rect.unit (s := ⟨2, ![R, 128]⟩) ![(y 0).val, 0] S1x128.size h).toLoadRect (ix2 (0 : Fin 1) (⟨(y 1).val, (y 1).isLt⟩ : Fin 128))
  rwa [e] at hi

/-- Every position of row `g` is in the row's store. -/
theorem row_mem' {R : ℕ} (y : (⟨2, ![R, 128]⟩ : Shape).Idx) (g : ℕ) (hg : (y 0).val = g) (h) : y ∈ (Rect.unit (s := ⟨2, ![R, 128]⟩) ![g, 0] S1x128.size h).set := by
  subst hg; exact row_mem y h

/-- Result 5 without the fallback. -/
theorem res5_safe (arg5 : Memref sig .tc .vmem S2x128 .f32) (f5 : arg5.view.ty.Contents (Elt Ideal)) (hc : ¬ stretch.sl.v3883 (F := Ideal) arg0 arg8 f0 = 1#1) :
    arg5.view.read (Elt Ideal) (arg5.view.writes (Elt Ideal) f5 (stretch.sl.H5_2 (F := Ideal) arg0 arg8 arg9 f0 f9)) = usageA (inp arg0 f0) := by
  rw [H5_groups]
  refine funext fun y => read_writes_apply_of_pieces _ _ _ _ ?_ y ?_
  · intro p hp
    rcases List.mem_cons.mp hp with rfl | hp
    · exact row_ok (R := 2) (usageA (inp arg0 f0)) 1 (by omega) inb_S2x128_S1x128_1_0 _ (fun m => lgU (Real.log 256) (tot (inp arg0 f0) 0 8 m)) (fun _ => rfl)
        (gLog_lgU _ _ _ k_ln_256 _ _ 1 (blk_a1 arg0 arg8 arg9 f0 f9))
    rcases List.mem_cons.mp hp with rfl | hp
    · exact row_ok (R := 2) (usageA (inp arg0 f0)) 0 (by omega) inb_S2x128_S1x128_0_0 _ (fun m => lgU (Real.log 256) (tot (inp arg0 f0) 0 8 m)) (fun _ => rfl)
        (gLog_lgU _ _ _ k_ln_256 _ _ 0 (blk_a0 arg0 arg8 arg9 f0 f9))
    · exact absurd hp List.not_mem_nil
  · have hy : (y 0).val < 2 := (y 0).isLt
    rcases (by omega : (y 0).val = 1 ∨ (y 0).val = 0) with h | h
    · exact ⟨_, List.mem_cons_self, row_mem' (R := 2) y 1 h inb_S2x128_S1x128_1_0⟩
    · exact ⟨_, List.mem_cons_of_mem _ List.mem_cons_self, row_mem' (R := 2) y 0 h inb_S2x128_S1x128_0_0⟩

/-- Result 6 without the fallback. -/
theorem res6_safe (arg6 : Memref sig .tc .vmem S4x128 .f32) (f6 : arg6.view.ty.Contents (Elt Ideal)) (hc : ¬ stretch.sl.v3883 (F := Ideal) arg0 arg8 f0 = 1#1) :
    arg6.view.read (Elt Ideal) (arg6.view.writes (Elt Ideal) f6 (⟨Rect.unit ![3, 0] S1x128.size inb_S4x128_S1x128_3_0, k0_pay1 (stretch.sl.r_267 (F := Ideal) arg0 arg8 arg9 f0 f9)⟩ :: stretch.sl.H6_3 (F := Ideal) arg0 arg8 arg9 f0 f9)) = usageB (inp arg0 f0) := by
  rw [H6_groups]
  refine funext fun y => read_writes_apply_of_pieces _ _ _ _ ?_ y ?_
  · intro p hp
    rcases List.mem_cons.mp hp with rfl | hp
    · exact row_ok (R := 4) (usageB (inp arg0 f0)) 3 (by omega) inb_S4x128_S1x128_3_0 _ (fun m => lgU (Real.log 512) (tot (inp arg0 f0) 8 9 m)) (fun _ => rfl)
        (gLog_lgU _ _ _ k_ln_512 _ _ 3 (blk_b3 arg0 arg8 arg9 f0 f9))
    rcases List.mem_cons.mp hp with rfl | hp
    · exact row_ok (R := 4) (usageB (inp arg0 f0)) 2 (by omega) inb_S4x128_S1x128_2_0 _ (fun m => lgU (Real.log 512) (tot (inp arg0 f0) 8 9 m)) (fun _ => rfl)
        (gLog_lgU _ _ _ k_ln_512 _ _ 2 (blk_b2 arg0 arg8 arg9 f0 f9))
    rcases List.mem_cons.mp hp with rfl | hp
    · exact row_ok (R := 4) (usageB (inp arg0 f0)) 1 (by omega) inb_S4x128_S1x128_1_0 _ (fun m => lgU (Real.log 512) (tot (inp arg0 f0) 8 9 m)) (fun _ => rfl)
        (gLog_lgU _ _ _ k_ln_512 _ _ 1 (blk_b1 arg0 arg8 arg9 f0 f9))
    rcases List.mem_cons.mp hp with rfl | hp
    · exact row_ok (R := 4) (usageB (inp arg0 f0)) 0 (by omega) inb_S4x128_S1x128_0_0 _ (fun m => lgU (Real.log 512) (tot (inp arg0 f0) 8 9 m)) (fun _ => rfl)
        (gLog_lgU _ _ _ k_ln_512 _ _ 0 (blk_b0 arg0 arg8 arg9 f0 f9))
    · exact absurd hp List.not_mem_nil
  · have hy : (y 0).val < 4 := (y 0).isLt
    rcases (by omega : (y 0).val = 3 ∨ (y 0).val = 2 ∨ (y 0).val = 1 ∨ (y 0).val = 0) with h | h | h | h
    · exact ⟨_, List.mem_cons_self, row_mem' (R := 4) y 3 h inb_S4x128_S1x128_3_0⟩
    · exact ⟨_, List.mem_cons_of_mem _ List.mem_cons_self, row_mem' (R := 4) y 2 h inb_S4x128_S1x128_2_0⟩
    · exact ⟨_, List.mem_cons_of_mem _ (List.mem_cons_of_mem _ List.mem_cons_self), row_mem' (R := 4) y 1 h inb_S4x128_S1x128_1_0⟩
    · exact ⟨_, List.mem_cons_of_mem _ (List.mem_cons_of_mem _ (List.mem_cons_of_mem _ List.mem_cons_self)), row_mem' (R := 4) y 0 h inb_S4x128_S1x128_0_0⟩

/-- One group's part of the divergence. -/
theorem gKl_eq (name : String) (w : BitVec 32) (k : ℝ) (hk : Named.named (F := Ideal) κ name (φ := .f32) w = ((k : ℝ) : EReal)) (B : FVec Ideal S8x128 .f32) (T : ℕ → ℝ) (g : ℕ) (hB : IsBlk B T g) (l : Fin 128) :
    gKl (F := Ideal) name w B (ix2 (0 : Fin 1) l) = klU k (T (128 * g + l.val)) := by
  unfold klU
  rw [← gMean_eq B T g hB l, ← gLog_lgU name w k hk B T g hB l]
  rfl

/-- The sum over a row of one result position. -/
theorem sum_row (v : FVec Ideal S1x128 .f32) (x : S1x1.Idx) :
    shapeCast S1x1 (multiReduction (F := Ideal) (φ := .f32) .add [1] S1 v 0x00000000#32 reduces_S1x128_S1 (.inl rfl) rfl) shapeCasts_S1_S1x1 x = (∑ l : Fin 128, v (ix2 (0 : Fin 1) l) : EReal) := by
  rw [ValueIdx.eq_ix2 (n0 := 1) (n1 := 1) x]
  have h1 : x 1 = (0 : Fin 1) := Subsingleton.elim (α := Fin 1) _ _
  have h0 : x 0 = (0 : Fin 1) := Subsingleton.elim (α := Fin 1) _ _
  rw [h0, h1]
  pointwise

/-- A sum over a group's lanes is a sum over its codes. -/
theorem sum_group (f : ℕ → EReal) (g : ℕ) : (∑ l : Fin 128, f (128 * g + l.val)) = ∑ l ∈ Finset.range 128, f (128 * g + l) :=
  Fin.sum_univ_eq_sum_range (fun l => f (128 * g + l)) 128

/-- The divergence without the fallback. -/
theorem kl_safe : k0_pay2 (F := Ideal) (stretch.sl.v3785 (F := Ideal) arg0 arg8 arg9 f0 f9) (stretch.sl.r_266 (F := Ideal) arg0 arg8 arg9 f0 f9) (stretch.sl.r_267 (F := Ideal) arg0 arg8 arg9 f0 f9) = divergence (inp arg0 f0) := by
  rw [kl_groups]
  funext x
  rw [sum_row]
  have hA0 := gKl_eq _ _ _ k_ln_256 _ _ 0 (blk_a0 arg0 arg8 arg9 f0 f9)
  have hA1 := gKl_eq _ _ _ k_ln_256 _ _ 1 (blk_a1 arg0 arg8 arg9 f0 f9)
  have hB0 := gKl_eq _ _ _ k_ln_512 _ _ 0 (blk_b0 arg0 arg8 arg9 f0 f9)
  have hB1 := gKl_eq _ _ _ k_ln_512 _ _ 1 (blk_b1 arg0 arg8 arg9 f0 f9)
  have hB2 := gKl_eq _ _ _ k_ln_512 _ _ 2 (blk_b2 arg0 arg8 arg9 f0 f9)
  have hB3 := gKl_eq _ _ _ k_ln_512 _ _ 3 (blk_b3 arg0 arg8 arg9 f0 f9)
  refine (Finset.sum_congr rfl fun l _ => (show _ = (gKl (F := Ideal) _ _ _ (ix2 (0 : Fin 1) l) + gKl (F := Ideal) _ _ _ (ix2 (0 : Fin 1) l) + gKl (F := Ideal) _ _ _ (ix2 (0 : Fin 1) l) + gKl (F := Ideal) _ _ _ (ix2 (0 : Fin 1) l)
    + gKl (F := Ideal) _ _ _ (ix2 (0 : Fin 1) l) + gKl (F := Ideal) _ _ _ (ix2 (0 : Fin 1) l) : EReal) from rfl)).trans ?_
  simp only [hA0, hA1, hB0, hB1, hB2, hB3, Finset.sum_add_distrib]
  unfold divergence
  rw [sum_group (fun m => klU (Real.log 256) (tot (inp arg0 f0) 0 8 m)) 0, sum_group (fun m => klU (Real.log 256) (tot (inp arg0 f0) 0 8 m)) 1,
    sum_group (fun m => klU (Real.log 512) (tot (inp arg0 f0) 8 9 m)) 0, sum_group (fun m => klU (Real.log 512) (tot (inp arg0 f0) 8 9 m)) 1,
    sum_group (fun m => klU (Real.log 512) (tot (inp arg0 f0) 8 9 m)) 2, sum_group (fun m => klU (Real.log 512) (tot (inp arg0 f0) 8 9 m)) 3]
  rw [Finset.sum_range_add (n := 128) (m := 128) (f := fun m => klU (Real.log 256) (tot (inp arg0 f0) 0 8 m)),
    Finset.sum_range_add (n := 384) (m := 128) (f := fun m => klU (Real.log 512) (tot (inp arg0 f0) 8 9 m)),
    Finset.sum_range_add (n := 256) (m := 128) (f := fun m => klU (Real.log 512) (tot (inp arg0 f0) 8 9 m)),
    Finset.sum_range_add (n := 128) (m := 128) (f := fun m => klU (Real.log 512) (tot (inp arg0 f0) 8 9 m))]
  simp only [Nat.mul_zero, Nat.zero_add, Nat.mul_one, Nat.reduceMul, add_assoc]

/-- Result 7 without the fallback. -/
theorem res7_safe (arg7 : Memref sig .tc .vmem S1x1 .f32) (f7 : arg7.view.ty.Contents (Elt Ideal)) (hc : ¬ stretch.sl.v3883 (F := Ideal) arg0 arg8 f0 = 1#1) :
    arg7.view.read (Elt Ideal) (arg7.view.writes (Elt Ideal) f7 [⟨Rect.unit ![0, 0] S1x1.size inb_S1x1_S1x1_0_0, k0_pay2 (stretch.sl.v3785 (F := Ideal) arg0 arg8 arg9 f0 f9) (stretch.sl.r_266 (F := Ideal) arg0 arg8 arg9 f0 f9) (stretch.sl.r_267 (F := Ideal) arg0 arg8 arg9 f0 f9)⟩]) = divergence (inp arg0 f0) := by
  refine funext fun y => read_writes_apply_of_pieces _ _ _ _ ?_ y ?_
  · intro p hp
    rcases List.mem_cons.mp hp with rfl | hp
    · exact fun x => congrFun (kl_safe arg0 arg8 arg9 f0 f9) x
    · exact absurd hp List.not_mem_nil
  · exact cover_of_tiledBy _ ![1, 1] (by sl_kernel_rfl) y

end Safe

end Cert.Proof.KernelIdeal

end
-- ==== Proof.LogSum.lean ====
/-
  The logarithm of a sum of exponentials over the extended reals, and a code's log-probability of a token.
-/
module

public import proofs.«01_k».proof.Proof.Safe

@[expose] public section

noncomputable section

namespace Cert.Proof.KernelIdeal

open Idealize.ShloMosaic
open Cert.Proof.Ideals

/-- The exponential of a sum none of whose terms is infinite upwards. -/
theorem exp_add {a b : EReal} {p q : ℝ} (ha : a ≠ ⊤) (hb : b ≠ ⊤) (hp : Ideal.exp a = ((p : ℝ) : EReal)) (hq : Ideal.exp b = ((q : ℝ) : EReal)) :
    Ideal.exp (a + b) = ((p * q : ℝ) : EReal) := by
  rw [EReal.coe_mul, ← hp, ← hq]
  induction a with
  | bot => rw [EReal.bot_add, Ideal.exp_bot, zero_mul]
  | top => exact absurd rfl ha
  | coe a =>
    induction b with
    | bot => rw [EReal.add_bot, Ideal.exp_bot, mul_zero]
    | top => exact absurd rfl hb
    | coe b => rw [← EReal.coe_add, Ideal.exp_coe, Ideal.exp_coe, Ideal.exp_coe, Real.exp_add, EReal.coe_mul]

/-- The exponential of a sum is the product of the exponentials. -/
theorem exp_sum (f : ℕ → EReal) (p : ℕ → ℝ) (hf : ∀ i, f i ≠ ⊤) (hp : ∀ i, Ideal.exp (f i) = ((p i : ℝ) : EReal)) (n : ℕ) :
    (∑ i ∈ Finset.range n, f i) ≠ ⊤ ∧ Ideal.exp (∑ i ∈ Finset.range n, f i) = ((∏ i ∈ Finset.range n, p i : ℝ) : EReal) := by
  induction n with
  | zero =>
    rw [Finset.sum_range_zero, Finset.prod_range_zero]
    exact ⟨EReal.zero_ne_top, by rw [← EReal.coe_zero, Ideal.exp_coe, Real.exp_zero]⟩
  | succ n ih =>
    rw [Finset.sum_range_succ, Finset.prod_range_succ]
    exact ⟨EReal.add_ne_top ih.1 (hf n), exp_add ih.1 (hf n) ih.2 (hp n)⟩

/-- The log-probability of a sign is not infinite upwards. -/
theorem lp_ne_top (x : EReal) : lp x ≠ ⊤ := by
  induction x with
  | bot => rw [lp_bot]; exact bot_ne_top
  | top => rw [lp_top]; exact EReal.zero_ne_top
  | coe r => rw [lp_coe]; exact EReal.coe_ne_top _
/-- Nor is that of the other sign. -/
theorem lq_ne_top (x : EReal) : lq x ≠ ⊤ := by
  induction x with
  | bot => rw [lq_bot]; exact EReal.zero_ne_top
  | top => rw [lq_top]; exact bot_ne_top
  | coe r => rw [lq_coe]; exact EReal.coe_ne_top _

/-- The log-probability of a sign. -/
def dB (b : Bool) (x : EReal) : EReal := bif b then lp x else lq x
/-- The log-probability of a code of the `n` channels from `c`. -/
def dSum (c n : ℕ) (z : ℕ → EReal) (m : ℕ) : EReal := ∑ i ∈ Finset.range n, dB (m.testBit (n - 1 - i)) (z (c + i))

/-- A code's log-probability is not infinite upwards. -/
theorem dSum_ne_top (c n : ℕ) (z : ℕ → EReal) (m : ℕ) : dSum c n z m ≠ ⊤ :=
  (exp_sum (fun i => dB (m.testBit (n - 1 - i)) (z (c + i))) (fun i => rB (m.testBit (n - 1 - i)) (z (c + i)))
    (fun i => by unfold dB; cases m.testBit (n - 1 - i); exacts [lq_ne_top _, lp_ne_top _])
    (fun i => by unfold dB rB; cases m.testBit (n - 1 - i); exacts [exp_lq _, exp_lp _]) n).1
/-- Its exponential is the code's probability. -/
theorem exp_dSum (c n : ℕ) (z : ℕ → EReal) (m : ℕ) : Ideal.exp (dSum c n z m) = ((rCode c n z m : ℝ) : EReal) :=
  (exp_sum (fun i => dB (m.testBit (n - 1 - i)) (z (c + i))) (fun i => rB (m.testBit (n - 1 - i)) (z (c + i)))
    (fun i => by unfold dB; cases m.testBit (n - 1 - i); exacts [lq_ne_top _, lp_ne_top _])
    (fun i => by unfold dB rB; cases m.testBit (n - 1 - i); exacts [exp_lq _, exp_lp _]) n).2

/-- The logarithm of a scaled real. -/
theorem log_mul_add (W μ : ℝ) : Ideal.log ((W * Real.exp (-μ) : ℝ) : EReal) + ((μ : ℝ) : EReal) = Ideal.log ((W : ℝ) : EReal) := by
  rw [Ideal.log_coe, Ideal.log_coe]
  have he := Real.exp_pos (-μ)
  by_cases h : W ≤ 0
  · rw [if_pos h, if_pos (mul_nonpos_of_nonpos_of_nonneg h he.le), EReal.bot_add]
  · rw [if_neg h, if_neg (not_le.mpr (mul_pos (not_le.mp h) he)), ← EReal.coe_add,
      Real.log_mul (not_le.mp h).ne' he.ne', Real.log_exp, neg_add_cancel_right]

/-- The log of the sum of the exponentials, taken about any real. -/
theorem lse_real {ι : Type*} [Fintype ι] (s : ι → EReal) (w : ι → ℝ) (hs : ∀ i, s i ≠ ⊤) (hw : ∀ i, Ideal.exp (s i) = ((w i : ℝ) : EReal)) (μ : ℝ) :
    Ideal.log (∑ i, Ideal.exp (s i - ((μ : ℝ) : EReal))) + ((μ : ℝ) : EReal) = Ideal.log ((∑ i, w i : ℝ) : EReal) := by
  have e : ∀ i, Ideal.exp (s i - ((μ : ℝ) : EReal)) = ((w i * Real.exp (-μ) : ℝ) : EReal) := fun i => by
    rw [sub_eq_add_neg, ← EReal.coe_neg]
    exact exp_add (hs i) (EReal.coe_ne_top _) (hw i) (Ideal.exp_coe _)
  rw [Finset.sum_congr rfl fun i _ => e i, ← coe_sum, ← Finset.sum_mul]
  exact log_mul_add _ μ

/-- The log of the sum of the exponentials, taken about a bound that is not infinite upwards. -/
theorem lse_max {ι : Type*} [Fintype ι] (s : ι → EReal) (w : ι → ℝ) (hs : ∀ i, s i ≠ ⊤) (hw : ∀ i, Ideal.exp (s i) = ((w i : ℝ) : EReal)) (m : EReal) (hm : ∀ i, s i ≤ m) (ht : m ≠ ⊤) :
    Ideal.log (∑ i, Ideal.exp (s i - m)) + m = Ideal.log ((∑ i, w i : ℝ) : EReal) := by
  induction m with
  | top => exact absurd rfl ht
  | coe μ => exact lse_real s w hs hw μ
  | bot =>
    have hb : ∀ i, s i = ⊥ := fun i => le_bot_iff.mp (hm i)
    have hz : ∀ i, w i = 0 := fun i => by
      have := hw i
      rw [hb i, Ideal.exp_bot] at this
      exact (EReal.coe_eq_zero.mp this.symm)
    rw [EReal.add_bot, Finset.sum_eq_zero fun i _ => hz i, Ideal.log_coe, if_pos (le_refl _)]

/-- A log total relative to the uniform code is the code's log usage. -/
theorem log_lgU (K q T : ℝ) (hq : q = Real.log K - Real.log 1920) : Ideal.log ((T : ℝ) : EReal) + ((q : ℝ) : EReal) = lgU (Real.log K) T := by
  unfold lgU
  rw [Ideal.log_coe, Ideal.log_coe]
  by_cases h : T ≤ 0
  · rw [if_pos h, if_pos (mul_nonpos_of_nonpos_of_nonneg h (by norm_num)), EReal.bot_add, EReal.bot_add]
  · rw [if_neg h, if_neg (not_le.mpr (mul_pos (not_le.mp h) (by norm_num))), ← EReal.coe_add, ← EReal.coe_add,
      Real.log_mul (not_le.mp h).ne' (by norm_num), hq, one_div, Real.log_inv]
    congr 1; ring

/-- The log of the number of codes of the first book for each token. -/
theorem q_256 : Real.log (2 / 15) = Real.log 256 - Real.log 1920 := by
  rw [← Real.log_div (by norm_num) (by norm_num)]; norm_num
/-- The log of the number of codes of the second book for each token. -/
theorem q_512 : Real.log (4 / 15) = Real.log 512 - Real.log 1920 := by
  rw [← Real.log_div (by norm_num) (by norm_num)]; norm_num

/-- A code's part of the divergence, from its log usage. -/
theorem exp_klU (k T : ℝ) (hT : 0 ≤ T) : Ideal.exp (lgU k T - ((k : ℝ) : EReal)) * lgU k T = klU k T := by
  unfold klU
  congr 1
  unfold lgU
  rw [Ideal.log_coe]
  by_cases h : T * (1 / 1920) ≤ 0
  · have : T * (1 / 1920) = 0 := le_antisymm h (by positivity)
    rw [if_pos h, EReal.bot_add, sub_eq_add_neg, EReal.bot_add, Ideal.exp_bot, this, EReal.coe_zero]
  · rw [if_neg h, ← EReal.coe_add, ← EReal.coe_sub, Ideal.exp_coe, add_sub_cancel_right, Real.exp_log (not_le.mp h)]

/-- A sign's probability is not negative. -/
theorem rB_nonneg (b : Bool) (x : EReal) : 0 ≤ rB b x := by
  have h1 := rE_nonneg x
  have h2 := rU_pos x
  unfold rB rP rQ
  cases b <;> by_cases h : 0 < x <;> simp only [h, if_true, if_false, cond_true, cond_false] <;> positivity

/-- Nor is a code's total. -/
theorem tot_nonneg (X : Cert.KernelIdeal.S17x3x640.Idx → EReal) (c n m : ℕ) : 0 ≤ tot X c n m :=
  Finset.sum_nonneg fun r _ => Finset.sum_nonneg fun l _ => Finset.prod_nonneg fun i _ => rB_nonneg _ _

end Cert.Proof.KernelIdeal

end
-- ==== Proof.Offsets.lean ====
/-
  Where the fallback's loops read and store, and how often each of them runs.
-/
module

public import proofs.«01_k».proof.Proof.IdealRun
public import Idealize.ShloMosaic.Lib.Pointwise

@[expose] public section

set_option maxRecDepth 16384

namespace Cert.Proof.KernelIdeal

open Cert.KernelIdeal Cert.KernelIdeal.Gen
open Idealize.ShloMosaic Idealize.ShloMosaic.TcCoe

/-- How often each loop runs. -/
theorem trips_eq : k0_t1_loop.trips = 17 ∧ k0_t2_loop.trips = 256 ∧ k0_t3_loop.trips = 8 ∧ k0_t4_loop.trips = 512 ∧ k0_t5_loop.trips = 9 := by
  decide +kernel
/-- A trip of the first loop reads its channel, -/
theorem off1_eq : ∀ k : Fin k0_t1_loop.trips, k0_off1 k = ![k.val, 0, 0] := by decide +kernel
/-- stores the log-probability of a positive sign in the first plane -/
theorem off2_eq : ∀ k : Fin k0_t1_loop.trips, k0_off2 k = ![0, k.val, 0, 0] := by decide +kernel
/-- and that of a negative one in the second. -/
theorem off3_eq : ∀ k : Fin k0_t1_loop.trips, k0_off3 k = ![1, k.val, 0, 0] := by decide +kernel
/-- A bit of a code of the first book picks the plane of its channel. -/
theorem off4_eq : ∀ (j : Fin k0_t2_loop.trips) (k : Fin k0_t3_loop.trips), k0_off4 j k = ![if j.val.testBit (7 - k.val) then 0 else 1, k.val, 0, 0] := by decide +kernel
/-- The row a code of the first book is stored in. -/
theorem off5_eq : ∀ k : Fin k0_t2_loop.trips, k0_off5 k = ![k.val / 128, 0] := by decide +kernel
/-- A bit of a code of the second book picks the plane of its channel. -/
theorem off6_eq : ∀ (j : Fin k0_t4_loop.trips) (k : Fin k0_t5_loop.trips), k0_off6 j k = ![if j.val.testBit (8 - k.val) then 0 else 1, 8 + k.val, 0, 0] := by decide +kernel
/-- The row a code of the second book is stored in. -/
theorem off7_eq : ∀ k : Fin k0_t4_loop.trips, k0_off7 k = ![k.val / 128, 0] := by decide +kernel

/-- The rows that hold tokens. -/
theorem live_eq : ∀ (r : Fin 16) (l : Fin 128), k0_pay3 (ix2 r l) = BitVec.ofBool (decide (r.val < 15)) := by decide +kernel
/-- A code's lane in its row, as the kernel finds it. -/
noncomputable def laneOf (arg11 : BitVec 32) : BitVec 32 :=
  Scalar.select (Scalar.andi (Scalar.xori (Scalar.cmpi .slt (Scalar.remsi arg11 (Scalar.select (Scalar.cmpi .eq 128#32 0#32) 1#32 128#32)) 0#32) (Scalar.cmpi .slt (Scalar.select (Scalar.cmpi .eq 128#32 0#32) 1#32 128#32) 0#32)) (Scalar.cmpi .ne (Scalar.remsi arg11 (Scalar.select (Scalar.cmpi .eq 128#32 0#32) 1#32 128#32)) 0#32))
    (Scalar.addi (Scalar.remsi arg11 (Scalar.select (Scalar.cmpi .eq 128#32 0#32) 1#32 128#32)) (Scalar.select (Scalar.cmpi .eq 128#32 0#32) 1#32 128#32)) (Scalar.remsi arg11 (Scalar.select (Scalar.cmpi .eq 128#32 0#32) 1#32 128#32))
/-- It is the code's remainder. -/
theorem laneOf_eq : ∀ k : Fin 512, laneOf (Scf.iv 0#32 1#32 k.val) = BitVec.ofNat 32 (k.val % 128) := by decide +kernel
/-- The mask of a lane. -/
theorem lane_mask : ∀ (l m : Fin 128), cmpi .eq (iota .tc S1x128 32 [1] iota_S1x128_d1_w32) (broadcast S1x128 (BitVec.ofNat 32 m.val)) (ix2 (0 : Fin 1) l) = BitVec.ofBool (decide (l = m)) := by decide +kernel

end Cert.Proof.KernelIdeal

end
-- ==== Proof.Logits.lean ====
/-
  What the fallback's loops read and store: the log-probabilities of the signs that the first of them leaves.
-/
module

public import proofs.«01_k».proof.Proof.LogSum
public import proofs.«01_k».proof.Proof.Offsets

@[expose] public section

set_option maxRecDepth 16384

noncomputable section

namespace Cert.Proof.KernelIdeal

open Cert.KernelIdeal Cert.KernelIdeal.Gen
open Idealize.ShloMosaic Idealize.ShloMosaic.TcCoe Idealize.ShloMosaic.View
open Cert.Proof.Ideals

/-- The log-probability of a positive sign, as the first loop stores it. -/
theorem pay13_eq (v : Vec Ideal S1x16x128 .f32) (r : Fin 16) (l : Fin 128) :
    k0_pay13 (F := Ideal) v (ix4 (0 : Fin 1) (0 : Fin 1) r l) = lp (v (ix3 (0 : Fin 1) r l)) := by
  pointwise [k0_pay13, k0_pay12]
  rw [if_neg (by simp)]
  unfold lp lsig
  rw [c_two]; simp only [zero_sub, sub_zero]
  rfl
/-- That of a negative one. -/
theorem pay4_eq (v : Vec Ideal S1x16x128 .f32) (r : Fin 16) (l : Fin 128) :
    k0_pay4 (F := Ideal) (k0_pay16 v) (k0_pay17 v) (k0_pay18 v) (ix4 (0 : Fin 1) (0 : Fin 1) r l) = lq (v (ix3 (0 : Fin 1) r l)) := by
  pointwise [k0_pay4, k0_pay16, k0_pay17, k0_pay18, k0_pay15, k0_pay14, k0_pay12]
  rw [if_neg (by simp)]
  unfold lq lsig
  rw [c_two]; simp only [zero_sub, sub_zero]
  rfl

/-- The log of the number of codes of the first book for each token. -/
theorem k_ln_256_over_n : Named.named (F := Ideal) κ "ln_256_over_n" (φ := .f32) 0xC000F42C#32 = ((Real.log (2 / 15) : ℝ) : EReal) :=
  IdealRules.named_const.ideal_named_scalar _ _ _ _ rfl
/-- The log of the number of codes of the second book for each token. -/
theorem k_ln_512_over_n : Named.named (F := Ideal) κ "ln_512_over_n" (φ := .f32) 0xBFA92F4C#32 = ((Real.log (4 / 15) : ℝ) : EReal) :=
  IdealRules.named_const.ideal_named_scalar _ _ _ _ rfl

/-- The word of the least value. -/
theorem c_bot : (Ideal.ofBits .f32 0xFF800000#32 : EReal) = ⊥ := by simp [Ideal.ofBits, Ideal.ieee]

/-- The log of the sum over the tokens' rows of the exponentials, taken about the greatest of them. -/
theorem lse_rows (s : FVec Ideal S16x128 .f32) (T : Fin 16 → Fin 128 → ℝ) (hs : ∀ r l, s (ix2 r l) ≠ (⊤ : EReal)) (hT : ∀ r l, Ideal.exp (s (ix2 r l)) = ((T r l : ℝ) : EReal)) :
    Ideal.log (∑ r : Fin 16, ∑ l : Fin 128, Ideal.exp ((Scalar.select (k0_pay3 (ix2 r l)) (s (ix2 r l)) (Ideal.ofBits FTy.f32 0xFF800000#32) : EReal)
        - Finset.fold max (Ideal.ofBits FTy.f32 0xFF800000#32) (fun x : Fin 16 × Fin 128 => (Scalar.select (k0_pay3 (ix2 x.1 x.2)) (s (ix2 x.1 x.2)) (Ideal.ofBits FTy.f32 0xFF800000#32) : EReal)) Finset.univ))
      + Finset.fold max (Ideal.ofBits FTy.f32 0xFF800000#32) (fun x : Fin 16 × Fin 128 => (Scalar.select (k0_pay3 (ix2 x.1 x.2)) (s (ix2 x.1 x.2)) (Ideal.ofBits FTy.f32 0xFF800000#32) : EReal)) Finset.univ
      = Ideal.log ((∑ r : Fin 16, ∑ l : Fin 128, (if r.val < 15 then T r l else 0) : ℝ) : EReal) := by
  have hp : ∀ x : Fin 16 × Fin 128, (Scalar.select (k0_pay3 (ix2 x.1 x.2)) (s (ix2 x.1 x.2)) (Ideal.ofBits FTy.f32 0xFF800000#32) : EReal) = if x.1.val < 15 then s (ix2 x.1 x.2) else ⊥ := fun x => by
    rw [live_eq, c_bot]
    by_cases h : x.1.val < 15
    · rw [if_pos h, decide_eq_true h]; rfl
    · rw [if_neg h, decide_eq_false h]; rfl
  have hpt : ∀ x : Fin 16 × Fin 128, (Scalar.select (k0_pay3 (ix2 x.1 x.2)) (s (ix2 x.1 x.2)) (Ideal.ofBits FTy.f32 0xFF800000#32) : EReal) ≠ ⊤ := fun x => by
    rw [hp]
    by_cases h : x.1.val < 15
    · rw [if_pos h]; exact hs _ _
    · rw [if_neg h]; exact bot_ne_top
  rw [← Fintype.sum_prod_type', ← Fintype.sum_prod_type']
  refine lse_max (fun x : Fin 16 × Fin 128 => (Scalar.select (k0_pay3 (ix2 x.1 x.2)) (s (ix2 x.1 x.2)) (Ideal.ofBits FTy.f32 0xFF800000#32) : EReal)) (fun x => if x.1.val < 15 then T x.1 x.2 else 0) hpt
    (fun x => ?_) _ (fun x => ?_) ?_
  · rw [hp]
    by_cases h : x.1.val < 15
    · rw [if_pos h, if_pos h]; exact hT _ _
    · rw [if_neg h, if_neg h, Ideal.exp_bot, EReal.coe_zero]
  · exact (Finset.le_fold_max _).mpr (Or.inr ⟨x, Finset.mem_univ _, le_refl _⟩)
  · refine ne_of_lt ((Finset.fold_max_lt _).mpr ⟨?_, fun x _ => lt_top_iff_ne_top.mpr (hpt x)⟩)
    rw [c_bot]; exact bot_lt_top

/-- The rows that hold tokens, summed. -/
theorem sum_live (f : ℕ → ℕ → ℝ) : (∑ r : Fin 16, ∑ l : Fin 128, (if r.val < 15 then f r.val l.val else 0)) = ∑ r ∈ Finset.range 15, ∑ l : Fin 128, f r l.val := by
  rw [Fin.sum_univ_eq_sum_range (fun r => ∑ l : Fin 128, (if r < 15 then f r l.val else 0)) 16, Finset.sum_range_succ]
  rw [show (∑ l : Fin 128, (if 15 < 15 then f 15 l.val else 0)) = 0 from Finset.sum_eq_zero fun l _ => if_neg (by omega), add_zero]
  exact Finset.sum_congr rfl fun r hr => Finset.sum_congr rfl fun l _ => if_pos (Finset.mem_range.mp hr)

/-- A code's log usage from its log-probabilities, in the first book. -/
theorem pay21_eq (s : FVec Ideal S16x128 .f32) (X : S17x3x640.Idx → EReal) (m : ℕ) (hs : ∀ (r : Fin 16) (l : Fin 128), s (ix2 r l) = dSum 0 8 (packed (F := Ideal) X r.val l.val) m) :
    k0_pay21 (F := Ideal) k0_pay3 s (ix2 (0 : Fin 1) (0 : Fin 1)) = lgU (Real.log 256) (tot X 0 8 m) := by
  pointwise [k0_pay21]
  rw [lse_rows s (fun r l => rCode 0 8 (packed (F := Ideal) X r.val l.val) m) (fun r l => by rw [hs]; exact dSum_ne_top _ _ _ _) (fun r l => by rw [hs]; exact exp_dSum _ _ _ _),
    sum_live (fun r l => rCode 0 8 (packed (F := Ideal) X r l) m), k_ln_256_over_n]
  exact log_lgU 256 _ _ q_256

/-- The same in the second book. -/
theorem pay25_eq (s : FVec Ideal S16x128 .f32) (X : S17x3x640.Idx → EReal) (m : ℕ) (hs : ∀ (r : Fin 16) (l : Fin 128), s (ix2 r l) = dSum 8 9 (packed (F := Ideal) X r.val l.val) m) :
    k0_pay25 (F := Ideal) k0_pay3 s (ix2 (0 : Fin 1) (0 : Fin 1)) = lgU (Real.log 512) (tot X 8 9 m) := by
  pointwise [k0_pay25]
  rw [lse_rows s (fun r l => rCode 8 9 (packed (F := Ideal) X r.val l.val) m) (fun r l => by rw [hs]; exact dSum_ne_top _ _ _ _) (fun r l => by rw [hs]; exact exp_dSum _ _ _ _),
    sum_live (fun r l => rCode 8 9 (packed (F := Ideal) X r l) m), k_ln_512_over_n]
  exact log_lgU 512 _ _ q_512

section Loop
variable {F : FTy → Type} [FloatOps F] [Named F]
variable (c : Dev nD) (arg0 : Memref sig .tc .vmem S17x3x640 .bf16) (harg0 : arg0.IsWhole) (arg1 : Memref sig .tc .vmem S3x640 .i32) (harg1 : arg1.IsWhole) (arg2 : Memref sig .tc .vmem S3x640 .i32) (harg2 : arg2.IsWhole) (arg3 : Memref sig .tc .vmem S3x640 .f32) (harg3 : arg3.IsWhole) (arg4 : Memref sig .tc .vmem S3x640 .f32) (harg4 : arg4.IsWhole) (arg5 : Memref sig .tc .vmem S2x128 .f32) (harg5 : arg5.IsWhole) (arg6 : Memref sig .tc .vmem S4x128 .f32) (harg6 : arg6.IsWhole) (arg7 : Memref sig .tc .vmem S1x1 .f32) (harg7 : arg7.IsWhole) (arg8 : Memref sig .tc .vmem S17x16x128 .f32) (harg8 : arg8.IsWhole) (arg9 : Memref sig .tc .vmem S1344x128 .f32) (harg9 : arg9.IsWhole) (arg10 : Memref sig .tc .vmem S2x17x16x128 .f32) (harg10 : arg10.IsWhole)

/-- What a trip of the first loop stores. -/
theorem trip1_pieces (X : BufTy.Contents (Elt F) arg8.view.ty) (k : Fin k0_t1_loop.trips) : (trip_k0_t1 (F := F) 𝒱₀ c none arg0 harg0 arg1 harg1 arg2 harg2 arg3 harg3 arg4 harg4 arg5 harg5 arg6 harg6 arg7 harg7 arg8 harg8 arg9 harg9 arg10 harg10 X k).1 =
    [⟨Rect.unit (k0_off3 k) ![1, 1, 16, 128] (k0_off3_inb k), k0_pay4 (k0_pay16 (View.readAt (Elt F) arg8.view (Rect.unit (s := S17x16x128) (k0_off1 k) S1x16x128.size (k0_off1_inb k)).toLoadRect X)) (k0_pay17 (View.readAt (Elt F) arg8.view (Rect.unit (s := S17x16x128) (k0_off1 k) S1x16x128.size (k0_off1_inb k)).toLoadRect X)) (k0_pay18 (View.readAt (Elt F) arg8.view (Rect.unit (s := S17x16x128) (k0_off1 k) S1x16x128.size (k0_off1_inb k)).toLoadRect X))⟩,
      ⟨Rect.unit (k0_off2 k) ![1, 1, 16, 128] (k0_off2_inb k), k0_pay13 (View.readAt (Elt F) arg8.view (Rect.unit (s := S17x16x128) (k0_off1 k) S1x16x128.size (k0_off1_inb k)).toLoadRect X)⟩] := by
  unfold trip_k0_t1
  rfl
/-- What a trip of the first book's inner loop adds. -/
theorem trip3_eq (X : BufTy.Contents (Elt F) arg10.view.ty) (v) (j : Fin k0_t2_loop.trips) (k : Fin k0_t3_loop.trips) (acc) : (trip_k0_t3 (F := F) 𝒱₀ c none arg0 harg0 arg1 harg1 arg2 harg2 arg3 harg3 arg4 harg4 arg5 harg5 arg6 harg6 arg7 harg7 arg8 harg8 arg9 harg9 arg10 harg10 v 0#32 1#32 j X k).1 acc =
    k0_pay20 acc (View.readAt (Elt F) arg10.view (Rect.unit (s := S2x17x16x128) (k0_off4 j k) S1x1x16x128.size (k0_off4_inb j k)).toLoadRect X) := by
  unfold trip_k0_t3
  rfl
/-- What a trip of the second book's inner loop adds. -/
theorem trip5_eq (X : BufTy.Contents (Elt F) arg10.view.ty) (v) (j : Fin k0_t4_loop.trips) (k : Fin k0_t5_loop.trips) (acc) : (trip_k0_t5 (F := F) 𝒱₀ c none arg0 harg0 arg1 harg1 arg2 harg2 arg3 harg3 arg4 harg4 arg5 harg5 arg6 harg6 arg7 harg7 arg8 harg8 arg9 harg9 arg10 harg10 v 0#32 1#32 j X k).1 acc =
    k0_pay24 acc (View.readAt (Elt F) arg10.view (Rect.unit (s := S2x17x16x128) (k0_off6 j k) S1x1x16x128.size (k0_off6_inb j k)).toLoadRect X) := by
  unfold trip_k0_t5
  rfl
end Loop

end Cert.Proof.KernelIdeal

end
-- ==== Proof.Inner.lean ====
/-
  The sums the fallback's inner loops carry, over the log-probabilities that its first loop leaves.
-/
module

public import proofs.«01_k».proof.Proof.Logits
public import Idealize.ShloMosaic.Lib.WritesUnit

@[expose] public section

set_option maxRecDepth 16384

noncomputable section

namespace Cert.Proof.KernelIdeal

open Cert.KernelIdeal Cert.KernelIdeal.Gen
open Idealize.ShloMosaic Idealize.ShloMosaic.TcCoe Idealize.ShloMosaic.View
open Cert.Proof.Ideals

/-- The log-probabilities of both signs of every packed channel. -/
def logArr (X : S17x3x640.Idx → EReal) : S2x17x16x128.Idx → EReal := fun y => dB (decide ((y 0).val = 0)) (packed (F := Ideal) X (y 2).val (y 3).val (y 1).val)

/-- Two stores, one in each plane, of one channel. -/
theorem plane_writes (arg10 : Memref sig .tc .vmem S2x17x16x128 .f32) (f : arg10.view.ty.Contents (Elt Ideal)) (n : ℕ) (o3 o2 : Fin 4 → ℕ) (h3 : o3 = ![1, n, 0, 0]) (h2 : o2 = ![0, n, 0, 0]) (i3 i2)
    (w3 w2 : S1x1x16x128.Idx → EReal) (L : List (Piece (Elt Ideal) S2x17x16x128 .f32)) (y : S2x17x16x128.Idx) :
    arg10.view.read (Elt Ideal) (arg10.view.writes (Elt Ideal) f (⟨Rect.unit (s := S2x17x16x128) o3 ![1, 1, 16, 128] i3, w3⟩ :: ⟨Rect.unit (s := S2x17x16x128) o2 ![1, 1, 16, 128] i2, w2⟩ :: L)) y
      = if (y 1).val = n then (if (y 0).val = 0 then w2 (ix4 (0 : Fin 1) (0 : Fin 1) (⟨(y 2).val, (y 2).isLt⟩ : Fin 16) (⟨(y 3).val, (y 3).isLt⟩ : Fin 128)) else w3 (ix4 (0 : Fin 1) (0 : Fin 1) (⟨(y 2).val, (y 2).isLt⟩ : Fin 16) (⟨(y 3).val, (y 3).isLt⟩ : Fin 128)))
        else arg10.view.read (Elt Ideal) (arg10.view.writes (Elt Ideal) f L) y := by
  have h0 : (y 0).val < 2 := (y 0).isLt
  by_cases hy : (y 1).val = n
  · rw [if_pos hy]
    by_cases hp : (y 0).val = 0
    · rw [if_pos hp, read_writes_cons_unit_of_not_mem arg10.view f i3 w3 _ y h3 0 (Or.inl (by show (y 0).val < 1; omega))]
      exact read_writes_cons_unit_of_mem arg10.view f i2 w2 L y (ix4 (0 : Fin 1) (0 : Fin 1) (⟨(y 2).val, (y 2).isLt⟩ : Fin 16) (⟨(y 3).val, (y 3).isLt⟩ : Fin 128)) h2 (fun a => by
        match a with
        | ⟨0, _⟩ => exact hp
        | ⟨1, _⟩ => exact hy
        | ⟨2, _⟩ => exact (Nat.zero_add _).symm
        | ⟨3, _⟩ => exact (Nat.zero_add _).symm)
    · rw [if_neg hp]
      exact read_writes_cons_unit_of_mem arg10.view f i3 w3 _ y (ix4 (0 : Fin 1) (0 : Fin 1) (⟨(y 2).val, (y 2).isLt⟩ : Fin 16) (⟨(y 3).val, (y 3).isLt⟩ : Fin 128)) h3 (fun a => by
        match a with
        | ⟨0, _⟩ => show (y 0).val = 1; omega
        | ⟨1, _⟩ => exact hy
        | ⟨2, _⟩ => exact (Nat.zero_add _).symm
        | ⟨3, _⟩ => exact (Nat.zero_add _).symm)
  · rw [if_neg hy]
    have hn : ∀ (g : Fin 4 → ℕ), g 1 = n → (y 1).val < g 1 ∨ g 1 + (![1, 1, 16, 128] : Fin 4 → ℕ) 1 ≤ (y 1).val := fun g hg => by
      rw [hg]; show (y 1).val < n ∨ n + 1 ≤ (y 1).val; omega
    rw [read_writes_cons_unit_of_not_mem arg10.view f i3 w3 _ y h3 1 (hn _ rfl), read_writes_cons_unit_of_not_mem arg10.view f i2 w2 L y h2 1 (hn _ rfl)]

section First
variable (c : Dev nD) (arg0 : Memref sig .tc .vmem S17x3x640 .bf16) (harg0 : arg0.IsWhole) (arg1 : Memref sig .tc .vmem S3x640 .i32) (harg1 : arg1.IsWhole) (arg2 : Memref sig .tc .vmem S3x640 .i32) (harg2 : arg2.IsWhole) (arg3 : Memref sig .tc .vmem S3x640 .f32) (harg3 : arg3.IsWhole) (arg4 : Memref sig .tc .vmem S3x640 .f32) (harg4 : arg4.IsWhole) (arg5 : Memref sig .tc .vmem S2x128 .f32) (harg5 : arg5.IsWhole) (arg6 : Memref sig .tc .vmem S4x128 .f32) (harg6 : arg6.IsWhole) (arg7 : Memref sig .tc .vmem S1x1 .f32) (harg7 : arg7.IsWhole) (arg8 : Memref sig .tc .vmem S17x16x128 .f32) (harg8 : arg8.IsWhole) (arg9 : Memref sig .tc .vmem S1344x128 .f32) (harg9 : arg9.IsWhole) (arg10 : Memref sig .tc .vmem S2x17x16x128 .f32) (harg10 : arg10.IsWhole)

variable (f0 : arg0.view.ty.Contents (Elt Ideal)) (f10 : arg10.view.ty.Contents (Elt Ideal))

/-- What a trip of the first loop reads. -/
abbrev chan (k : Fin k0_t1_loop.trips) : Vec Ideal S1x16x128 .f32 :=
  View.readAt (Elt Ideal) arg8.view (Rect.unit (s := S17x16x128) (k0_off1 k) S1x16x128.size (k0_off1_inb k)).toLoadRect (arg8.view.writes (Elt Ideal) arg8.view.junk (stretch.sl.H8_102 (F := Ideal) arg0 f0))

/-- It is the packed channel. -/
theorem chan_eq (k : Fin k0_t1_loop.trips) (r : Fin 16) (l : Fin 128) : chan arg0 arg8 f0 k (ix3 (0 : Fin 1) r l) = packed (F := Ideal) (inp arg0 f0) r.val l.val k.val := by
  refine (congrFun (packed_load (F := Ideal) arg0 arg8 f0 (Rect.unit (s := S17x16x128) (k0_off1 k) S1x16x128.size (k0_off1_inb k)).toLoadRect) (ix3 (0 : Fin 1) r l)).trans ?_
  show packed (F := Ideal) (inp arg0 f0) (k0_off1 k 1 + 1 * r.val) (k0_off1 k 2 + 1 * l.val) (k0_off1 k 0 + 1 * 0) = _
  rw [off1_eq k]
  show packed (F := Ideal) (inp arg0 f0) (0 + 1 * r.val) (0 + 1 * l.val) (k.val + 1 * 0) = _
  simp only [Nat.zero_add, Nat.one_mul, Nat.mul_zero, Nat.add_zero]

/-- After `n` trips of the first loop the channels below `n` hold their log-probabilities. -/
theorem first_read (y : S2x17x16x128.Idx) : ∀ n, n ≤ 17 → (y 1).val < n →
    arg10.view.read (Elt Ideal) (arg10.view.writes (Elt Ideal) f10 (pb_k0_t1 (F := Ideal) 𝒱₀ c none arg0 harg0 arg1 harg1 arg2 harg2 arg3 harg3 arg4 harg4 arg5 harg5 arg6 harg6 arg7 harg7 arg8 harg8 arg9 harg9 arg10 harg10 (arg8.view.writes (Elt Ideal) arg8.view.junk (stretch.sl.H8_102 (F := Ideal) arg0 f0)) n)) y = logArr (inp arg0 f0) y
  | 0, _, h => absurd h (by omega)
  | n + 1, hn, h => by
    have hk : n < k0_t1_loop.trips := by rw [trips_eq.1]; omega
    have e := (pb_k0_t1_succ (F := Ideal) 𝒱₀ c none arg0 harg0 arg1 harg1 arg2 harg2 arg3 harg3 arg4 harg4 arg5 harg5 arg6 harg6 arg7 harg7 arg8 harg8 arg9 harg9 arg10 harg10 (arg8.view.writes (Elt Ideal) arg8.view.junk (stretch.sl.H8_102 (F := Ideal) arg0 f0)) ⟨n, hk⟩)
    rw [show pb_k0_t1 (F := Ideal) 𝒱₀ c none arg0 harg0 arg1 harg1 arg2 harg2 arg3 harg3 arg4 harg4 arg5 harg5 arg6 harg6 arg7 harg7 arg8 harg8 arg9 harg9 arg10 harg10 (arg8.view.writes (Elt Ideal) arg8.view.junk (stretch.sl.H8_102 (F := Ideal) arg0 f0)) (n + 1) = _ from e, tripL_k0_t1, trip1_pieces]
    rw [List.cons_append, List.cons_append, List.nil_append]
    refine (plane_writes arg10 f10 n _ _ (off3_eq ⟨n, hk⟩) (off2_eq ⟨n, hk⟩) _ _ _ _ _ y).trans ?_
    by_cases hy : (y 1).val = n
    · rw [if_pos hy]
      unfold logArr
      by_cases hp : (y 0).val = 0
      · rw [if_pos hp, hp, hy]
        refine (pay13_eq _ _ _).trans ?_
        exact congrArg lp (chan_eq arg0 arg8 f0 ⟨n, hk⟩ _ _)
      · rw [if_neg hp, decide_eq_false hp, hy]
        refine (pay4_eq _ _ _).trans ?_
        exact congrArg lq (chan_eq arg0 arg8 f0 ⟨n, hk⟩ _ _)
    · rw [if_neg hy]
      exact first_read y n (by omega) (by omega)

/-- What the first loop leaves. -/
theorem logits_read (y : S2x17x16x128.Idx) : arg10.view.read (Elt Ideal) (logits (F := Ideal) c arg0 harg0 arg1 harg1 arg2 harg2 arg3 harg3 arg4 harg4 arg5 harg5 arg6 harg6 arg7 harg7 arg8 harg8 arg9 harg9 arg10 harg10 f0 f10) y = logArr (inp arg0 f0) y := by
  have h : Scf.trips k0_t1_loop.lb k0_t1_loop.ub k0_t1_loop.st = 17 := trips_eq.1
  unfold logits
  rw [h]
  exact first_read c arg0 harg0 arg1 harg1 arg2 harg2 arg3 harg3 arg4 harg4 arg5 harg5 arg6 harg6 arg7 harg7 arg8 harg8 arg9 harg9 arg10 harg10 f0 f10 y 17 (le_refl _) (y 1).isLt
end First

/-- A step of the first book's inner loop. -/
theorem pay20_eq (acc : FVec Ideal S16x128 .f32) (v : Vec Ideal S1x1x16x128 .f32) (r : Fin 16) (l : Fin 128) :
    k0_pay20 (F := Ideal) acc v (ix2 r l) = (acc (ix2 r l) + v (ix4 (0 : Fin 1) (0 : Fin 1) r l) : EReal) := by
  pointwise [k0_pay20]
/-- A step of the second book's inner loop. -/
theorem pay24_eq (acc : FVec Ideal S16x128 .f32) (v : Vec Ideal S1x1x16x128 .f32) (r : Fin 16) (l : Fin 128) :
    k0_pay24 (F := Ideal) acc v (ix2 r l) = (acc (ix2 r l) + v (ix4 (0 : Fin 1) (0 : Fin 1) r l) : EReal) := by
  pointwise [k0_pay24]

/-- The log-probability a bit of a code picks. -/
theorem bit_load (X : S17x3x640.Idx → EReal) (arg10 : Memref sig .tc .vmem S2x17x16x128 .f32) (Y : arg10.view.ty.Contents (Elt Ideal)) (hY : ∀ y, arg10.view.read (Elt Ideal) Y y = logArr X y)
    (off : Fin 4 → ℕ) (b : Bool) (ch : ℕ) (ho : off = ![if b then 0 else 1, ch, 0, 0]) (h) (r : Fin 16) (l : Fin 128) :
    View.readAt (Elt Ideal) arg10.view (Rect.unit (s := S2x17x16x128) off S1x1x16x128.size h).toLoadRect Y (ix4 (0 : Fin 1) (0 : Fin 1) r l) = dB b (packed (F := Ideal) X r.val l.val ch) := by
  subst ho
  refine (hY _).trans ?_
  show dB (decide ((if b then 0 else 1) + 1 * 0 = 0)) (packed (F := Ideal) X (0 + 1 * r.val) (0 + 1 * l.val) (ch + 1 * 0)) = _
  simp only [Nat.zero_add, Nat.one_mul, Nat.mul_zero, Nat.add_zero]
  cases b <;> rfl

section Inner
variable (c : Dev nD) (arg0 : Memref sig .tc .vmem S17x3x640 .bf16) (harg0 : arg0.IsWhole) (arg1 : Memref sig .tc .vmem S3x640 .i32) (harg1 : arg1.IsWhole) (arg2 : Memref sig .tc .vmem S3x640 .i32) (harg2 : arg2.IsWhole) (arg3 : Memref sig .tc .vmem S3x640 .f32) (harg3 : arg3.IsWhole) (arg4 : Memref sig .tc .vmem S3x640 .f32) (harg4 : arg4.IsWhole) (arg5 : Memref sig .tc .vmem S2x128 .f32) (harg5 : arg5.IsWhole) (arg6 : Memref sig .tc .vmem S4x128 .f32) (harg6 : arg6.IsWhole) (arg7 : Memref sig .tc .vmem S1x1 .f32) (harg7 : arg7.IsWhole) (arg8 : Memref sig .tc .vmem S17x16x128 .f32) (harg8 : arg8.IsWhole) (arg9 : Memref sig .tc .vmem S1344x128 .f32) (harg9 : arg9.IsWhole) (arg10 : Memref sig .tc .vmem S2x17x16x128 .f32) (harg10 : arg10.IsWhole)

variable (X : S17x3x640.Idx → EReal) (Y : arg10.view.ty.Contents (Elt Ideal)) (hY : ∀ y, arg10.view.read (Elt Ideal) Y y = logArr X y)
include hY

/-- The first book's inner loop adds the log-probabilities of the code's signs. -/
theorem st_t3_eq (j : Fin k0_t2_loop.trips) (r : Fin 16) (l : Fin 128) : ∀ n, n ≤ 8 →
    st_k0_t3 (F := Ideal) 𝒱₀ c none arg0 harg0 arg1 harg1 arg2 harg2 arg3 harg3 arg4 harg4 arg5 harg5 arg6 harg6 arg7 harg7 arg8 harg8 arg9 harg9 arg10 harg10 k0_pay3 0#32 1#32 j Y k0_pay19 n (ix2 r l) = ∑ i ∈ Finset.range n, dB (j.val.testBit (8 - 1 - i)) (packed (F := Ideal) X r.val l.val (0 + i))
  | 0, _ => by rw [Finset.sum_range_zero]; exact c_zero
  | n + 1, hn => by
    have hk : n < k0_t3_loop.trips := by rw [trips_eq.2.2.1]; omega
    refine (congrFun (st_k0_t3_succ (F := Ideal) 𝒱₀ c none arg0 harg0 arg1 harg1 arg2 harg2 arg3 harg3 arg4 harg4 arg5 harg5 arg6 harg6 arg7 harg7 arg8 harg8 arg9 harg9 arg10 harg10 k0_pay3 0#32 1#32 j Y k0_pay19 ⟨n, hk⟩) (ix2 r l)).trans ?_
    refine (congrFun (trip3_eq (F := Ideal) c arg0 harg0 arg1 harg1 arg2 harg2 arg3 harg3 arg4 harg4 arg5 harg5 arg6 harg6 arg7 harg7 arg8 harg8 arg9 harg9 arg10 harg10 Y k0_pay3 j ⟨n, hk⟩ _) (ix2 r l)).trans ?_
    rw [pay20_eq, st_t3_eq j r l n (by omega), Finset.sum_range_succ]
    congr 1
    refine (bit_load X arg10 Y hY _ (j.val.testBit (7 - n)) (0 + n) ?_ _ r l).trans rfl
    rw [off4_eq j ⟨n, hk⟩]; simp only [Nat.zero_add]

/-- The first book's codes, as the fallback finds them. -/
theorem code_t3 (j : Fin k0_t2_loop.trips) :
    k0_pay21 (F := Ideal) k0_pay3 (st_k0_t3 (F := Ideal) 𝒱₀ c none arg0 harg0 arg1 harg1 arg2 harg2 arg3 harg3 arg4 harg4 arg5 harg5 arg6 harg6 arg7 harg7 arg8 harg8 arg9 harg9 arg10 harg10 k0_pay3 0#32 1#32 j Y k0_pay19 (Scf.trips k0_t3_loop.lb k0_t3_loop.ub k0_t3_loop.st)) (ix2 (0 : Fin 1) (0 : Fin 1))
      = lgU (Real.log 256) (tot X 0 8 j.val) := by
  have h : Scf.trips k0_t3_loop.lb k0_t3_loop.ub k0_t3_loop.st = 8 := trips_eq.2.2.1
  rw [h]
  exact pay21_eq _ X j.val fun r l => st_t3_eq c arg0 harg0 arg1 harg1 arg2 harg2 arg3 harg3 arg4 harg4 arg5 harg5 arg6 harg6 arg7 harg7 arg8 harg8 arg9 harg9 arg10 harg10 X Y hY j r l 8 (le_refl _)

/-- The second book's inner loop adds the log-probabilities of the code's signs. -/
theorem st_t5_eq (j : Fin k0_t4_loop.trips) (r : Fin 16) (l : Fin 128) : ∀ n, n ≤ 9 →
    st_k0_t5 (F := Ideal) 𝒱₀ c none arg0 harg0 arg1 harg1 arg2 harg2 arg3 harg3 arg4 harg4 arg5 harg5 arg6 harg6 arg7 harg7 arg8 harg8 arg9 harg9 arg10 harg10 k0_pay3 0#32 1#32 j Y k0_pay23 n (ix2 r l) = ∑ i ∈ Finset.range n, dB (j.val.testBit (9 - 1 - i)) (packed (F := Ideal) X r.val l.val (8 + i))
  | 0, _ => by rw [Finset.sum_range_zero]; exact c_zero
  | n + 1, hn => by
    have hk : n < k0_t5_loop.trips := by rw [trips_eq.2.2.2.2]; omega
    refine (congrFun (st_k0_t5_succ (F := Ideal) 𝒱₀ c none arg0 harg0 arg1 harg1 arg2 harg2 arg3 harg3 arg4 harg4 arg5 harg5 arg6 harg6 arg7 harg7 arg8 harg8 arg9 harg9 arg10 harg10 k0_pay3 0#32 1#32 j Y k0_pay23 ⟨n, hk⟩) (ix2 r l)).trans ?_
    refine (congrFun (trip5_eq (F := Ideal) c arg0 harg0 arg1 harg1 arg2 harg2 arg3 harg3 arg4 harg4 arg5 harg5 arg6 harg6 arg7 harg7 arg8 harg8 arg9 harg9 arg10 harg10 Y k0_pay3 j ⟨n, hk⟩ _) (ix2 r l)).trans ?_
    rw [pay24_eq, st_t5_eq j r l n (by omega), Finset.sum_range_succ]
    congr 1
    refine (bit_load X arg10 Y hY _ (j.val.testBit (8 - n)) (8 + n) ?_ _ r l).trans rfl
    rw [off6_eq j ⟨n, hk⟩]

/-- The second book's codes, as the fallback finds them. -/
theorem code_t5 (j : Fin k0_t4_loop.trips) :
    k0_pay25 (F := Ideal) k0_pay3 (st_k0_t5 (F := Ideal) 𝒱₀ c none arg0 harg0 arg1 harg1 arg2 harg2 arg3 harg3 arg4 harg4 arg5 harg5 arg6 harg6 arg7 harg7 arg8 harg8 arg9 harg9 arg10 harg10 k0_pay3 0#32 1#32 j Y k0_pay23 (Scf.trips k0_t5_loop.lb k0_t5_loop.ub k0_t5_loop.st)) (ix2 (0 : Fin 1) (0 : Fin 1))
      = lgU (Real.log 512) (tot X 8 9 j.val) := by
  have h : Scf.trips k0_t5_loop.lb k0_t5_loop.ub k0_t5_loop.st = 9 := trips_eq.2.2.2.2
  rw [h]
  exact pay25_eq _ X j.val fun r l => st_t5_eq c arg0 harg0 arg1 harg1 arg2 harg2 arg3 harg3 arg4 harg4 arg5 harg5 arg6 harg6 arg7 harg7 arg8 harg8 arg9 harg9 arg10 harg10 X Y hY j r l 9 (le_refl _)
end Inner

end Cert.Proof.KernelIdeal

end
-- ==== Proof.Usage.lean ====
/-
  What the fallback's loops over the codes leave in the usage rows, and the divergence they carry.
-/
module

public import proofs.«01_k».proof.Proof.Inner
public import Idealize.ShloMosaic.Lib.WritesUnit

@[expose] public section

set_option maxRecDepth 16384

noncomputable section

namespace Cert.Proof.KernelIdeal

open Cert.KernelIdeal Cert.KernelIdeal.Gen
open Idealize.ShloMosaic Idealize.ShloMosaic.TcCoe Idealize.ShloMosaic.View
open Cert.Proof.Ideals

/-- A store of one entry of a row, the others kept. -/
theorem row_write {R : ℕ} (arg : Memref sig .tc .vmem ⟨2, ![R, 128]⟩ .f32) (f : arg.view.ty.Contents (Elt Ideal)) (k : ℕ) (hk : k / 128 < R) (off : Fin 2 → ℕ) (ho : off = ![k / 128, 0]) (h) (u : EReal) (w : S1x128.Idx → EReal)
    (hw : ∀ l : Fin 128, w (ix2 (0 : Fin 1) l) = if l.val = k % 128 then u else arg.view.read (Elt Ideal) f (ix2 (⟨k / 128, hk⟩ : Fin R) l)) (y : (⟨2, ![R, 128]⟩ : Shape).Idx) :
    arg.view.read (Elt Ideal) (arg.view.writes (Elt Ideal) f [⟨Rect.unit (s := ⟨2, ![R, 128]⟩) off S1x128.size h, w⟩]) y = if 128 * (y 0).val + (y 1).val = k then u else arg.view.read (Elt Ideal) f y := by
  have h1 : (y 1).val < 128 := (y 1).isLt
  by_cases hy : (y 0).val = k / 128
  · rw [read_writes_cons_rows_of_mem arg.view f h w [] y (ix2 (0 : Fin 1) (⟨(y 1).val, h1⟩ : Fin 128)) ho hy rfl]
    refine (hw _).trans ?_
    by_cases e : (y 1).val = k % 128
    · rw [if_pos e, if_pos (by omega)]
    · rw [if_neg e, if_neg (by omega)]
      refine congrArg _ (funext fun a => ?_)
      match a with
      | ⟨0, _⟩ => exact Fin.ext hy.symm
      | ⟨1, _⟩ => rfl
  · rw [if_neg (by omega), read_writes_cons_rows_of_not_mem arg.view f h w [] y ho (W := 1) rfl (by omega)]
    rfl

/-- A row, as it is loaded. -/
theorem row_load {R : ℕ} (arg : Memref sig .tc .vmem ⟨2, ![R, 128]⟩ .f32) (f : arg.view.ty.Contents (Elt Ideal)) (g : ℕ) (hg : g < R) (off : Fin 2 → ℕ) (ho : off = ![g, 0]) (h) (l : Fin 128) :
    View.readAt (Elt Ideal) arg.view (Rect.unit (s := ⟨2, ![R, 128]⟩) off S1x128.size h).toLoadRect f (ix2 (0 : Fin 1) l) = arg.view.read (Elt Ideal) f (ix2 (⟨g, hg⟩ : Fin R) l) := by
  subst ho
  rw [readAt_apply]
  refine congrArg _ (funext fun a => Fin.ext ?_)
  match a with
  | ⟨0, _⟩ => show g + 1 * 0 = g; omega
  | ⟨1, _⟩ => show 0 + 1 * l.val = l.val; omega

/-- One entry of a row replaced. -/
theorem entry_eq (k : Fin 512) (v : FVec Ideal S1x1 .f32) (row : FVec Ideal S1x128 .f32) (l : Fin 128) :
    select (cmpi .eq (iota .tc S1x128 32 [1] iota_S1x128_d1_w32) (broadcast S1x128 (laneOf (Scf.iv 0#32 1#32 k.val)))) (broadcastTo S1x128 (shapeCast S1x1 v shapeCasts_S1x1_S1x1) broadcasts_S1x1_S1x128) row (ix2 (0 : Fin 1) l)
      = (if l.val = k.val % 128 then v (ix2 (0 : Fin 1) (0 : Fin 1)) else row (ix2 (0 : Fin 1) l) : EReal) := by
  rw [laneOf_eq]
  have e : broadcastTo S1x128 (shapeCast S1x1 v shapeCasts_S1x1_S1x1) broadcasts_S1x1_S1x128 (ix2 (0 : Fin 1) l) = v (ix2 (0 : Fin 1) (0 : Fin 1)) := by
    pointwise
  show Scalar.select (cmpi .eq (iota .tc S1x128 32 [1] iota_S1x128_d1_w32) (broadcast S1x128 (BitVec.ofNat 32 (⟨k.val % 128, Nat.mod_lt _ (by decide)⟩ : Fin 128).val)) (ix2 (0 : Fin 1) l)) (broadcastTo S1x128 (shapeCast S1x1 v shapeCasts_S1x1_S1x1) broadcasts_S1x1_S1x128 (ix2 (0 : Fin 1) l)) (row (ix2 (0 : Fin 1) l)) = _
  rw [lane_mask, e]
  by_cases h : l.val = k.val % 128
  · rw [if_pos h, decide_eq_true (Fin.ext h)]; rfl
  · rw [if_neg h, decide_eq_false (fun e => h (congrArg Fin.val e))]; rfl

/-- The divergence's step in the first book. -/
theorem pay7_eq (acc v : FVec Ideal S1x1 .f32) (T : ℝ) (hT : 0 ≤ T) (hv : v (ix2 (0 : Fin 1) (0 : Fin 1)) = lgU (Real.log 256) T) :
    k0_pay7 (F := Ideal) acc v (ix2 (0 : Fin 1) (0 : Fin 1)) = (acc (ix2 (0 : Fin 1) (0 : Fin 1)) + klU (Real.log 256) T : EReal) := by
  pointwise [k0_pay7]
  rw [k_ln_256, hv, exp_klU _ _ hT]
/-- The divergence's step in the second book. -/
theorem pay10_eq (acc v : FVec Ideal S1x1 .f32) (T : ℝ) (hT : 0 ≤ T) (hv : v (ix2 (0 : Fin 1) (0 : Fin 1)) = lgU (Real.log 512) T) :
    k0_pay10 (F := Ideal) acc v (ix2 (0 : Fin 1) (0 : Fin 1)) = (acc (ix2 (0 : Fin 1) (0 : Fin 1)) + klU (Real.log 512) T : EReal) := by
  pointwise [k0_pay10]
  rw [k_ln_512, hv, exp_klU _ _ hT]

section Trips
variable {F : FTy → Type} [FloatOps F] [Named F]
variable (c : Dev nD) (arg0 : Memref sig .tc .vmem S17x3x640 .bf16) (harg0 : arg0.IsWhole) (arg1 : Memref sig .tc .vmem S3x640 .i32) (harg1 : arg1.IsWhole) (arg2 : Memref sig .tc .vmem S3x640 .i32) (harg2 : arg2.IsWhole) (arg3 : Memref sig .tc .vmem S3x640 .f32) (harg3 : arg3.IsWhole) (arg4 : Memref sig .tc .vmem S3x640 .f32) (harg4 : arg4.IsWhole) (arg5 : Memref sig .tc .vmem S2x128 .f32) (harg5 : arg5.IsWhole) (arg6 : Memref sig .tc .vmem S4x128 .f32) (harg6 : arg6.IsWhole) (arg7 : Memref sig .tc .vmem S1x1 .f32) (harg7 : arg7.IsWhole) (arg8 : Memref sig .tc .vmem S17x16x128 .f32) (harg8 : arg8.IsWhole) (arg9 : Memref sig .tc .vmem S1344x128 .f32) (harg9 : arg9.IsWhole) (arg10 : Memref sig .tc .vmem S2x17x16x128 .f32) (harg10 : arg10.IsWhole)

/-- A code's log usage, as a trip of the first book's loop finds it. -/
abbrev code_t2 (Y : BufTy.Contents (Elt F) arg10.view.ty) (k : Fin k0_t2_loop.trips) : FVec F S1x1 .f32 :=
  k0_pay21 k0_pay3 (st_k0_t3 (F := F) 𝒱₀ c none arg0 harg0 arg1 harg1 arg2 harg2 arg3 harg3 arg4 harg4 arg5 harg5 arg6 harg6 arg7 harg7 arg8 harg8 arg9 harg9 arg10 harg10 k0_pay3 0#32 1#32 k Y k0_pay19 (Scf.trips k0_t3_loop.lb k0_t3_loop.ub k0_t3_loop.st))
/-- What a trip of the first book's loop stores. -/
theorem trip_t2_pieces (Y : BufTy.Contents (Elt F) arg10.view.ty) (k : Fin k0_t2_loop.trips) (f) : (trip_t2 (F := F) c arg0 harg0 arg1 harg1 arg2 harg2 arg3 harg3 arg4 harg4 arg5 harg5 arg6 harg6 arg7 harg7 arg8 harg8 arg9 harg9 arg10 harg10 Y k).1.1 f =
    [⟨Rect.unit (s := S2x128) (k0_off5 k) S1x128.size (k0_off5_inb k), select (cmpi .eq (iota .tc S1x128 32 [1] iota_S1x128_d1_w32) (broadcast S1x128 (laneOf (Scf.iv 0#32 1#32 k.val)))) (broadcastTo S1x128 (shapeCast S1x1 (code_t2 (F := F) c arg0 harg0 arg1 harg1 arg2 harg2 arg3 harg3 arg4 harg4 arg5 harg5 arg6 harg6 arg7 harg7 arg8 harg8 arg9 harg9 arg10 harg10 Y k) shapeCasts_S1x1_S1x1) broadcasts_S1x1_S1x128)
      (shapeCast S1x128 (View.readAt (Elt F) arg5.view (Rect.unit (s := S2x128) (k0_off5 k) S1x128.size (k0_off5_inb k)).toLoadRect f) shapeCasts_S1x128_S1x128)⟩] := by
  unfold trip_t2
  rfl
/-- What it carries. -/
theorem trip_t2_carry (Y : BufTy.Contents (Elt F) arg10.view.ty) (k : Fin k0_t2_loop.trips) (acc) : (trip_t2 (F := F) c arg0 harg0 arg1 harg1 arg2 harg2 arg3 harg3 arg4 harg4 arg5 harg5 arg6 harg6 arg7 harg7 arg8 harg8 arg9 harg9 arg10 harg10 Y k).1.2 acc = k0_pay7 acc (code_t2 (F := F) c arg0 harg0 arg1 harg1 arg2 harg2 arg3 harg3 arg4 harg4 arg5 harg5 arg6 harg6 arg7 harg7 arg8 harg8 arg9 harg9 arg10 harg10 Y k) := by
  unfold trip_t2
  rfl

/-- A code's log usage, as a trip of the second book's loop finds it. -/
abbrev code_t4 (Y : BufTy.Contents (Elt F) arg10.view.ty) (k : Fin k0_t4_loop.trips) : FVec F S1x1 .f32 :=
  k0_pay25 k0_pay3 (st_k0_t5 (F := F) 𝒱₀ c none arg0 harg0 arg1 harg1 arg2 harg2 arg3 harg3 arg4 harg4 arg5 harg5 arg6 harg6 arg7 harg7 arg8 harg8 arg9 harg9 arg10 harg10 k0_pay3 0#32 1#32 k Y k0_pay23 (Scf.trips k0_t5_loop.lb k0_t5_loop.ub k0_t5_loop.st))
/-- What a trip of the second book's loop stores. -/
theorem trip_t4_pieces (Y : BufTy.Contents (Elt F) arg10.view.ty) (k : Fin k0_t4_loop.trips) (f) : (trip_t4 (F := F) c arg0 harg0 arg1 harg1 arg2 harg2 arg3 harg3 arg4 harg4 arg5 harg5 arg6 harg6 arg7 harg7 arg8 harg8 arg9 harg9 arg10 harg10 Y k).1.1 f =
    [⟨Rect.unit (s := S4x128) (k0_off7 k) S1x128.size (k0_off7_inb k), select (cmpi .eq (iota .tc S1x128 32 [1] iota_S1x128_d1_w32) (broadcast S1x128 (laneOf (Scf.iv 0#32 1#32 k.val)))) (broadcastTo S1x128 (shapeCast S1x1 (code_t4 (F := F) c arg0 harg0 arg1 harg1 arg2 harg2 arg3 harg3 arg4 harg4 arg5 harg5 arg6 harg6 arg7 harg7 arg8 harg8 arg9 harg9 arg10 harg10 Y k) shapeCasts_S1x1_S1x1) broadcasts_S1x1_S1x128)
      (shapeCast S1x128 (View.readAt (Elt F) arg6.view (Rect.unit (s := S4x128) (k0_off7 k) S1x128.size (k0_off7_inb k)).toLoadRect f) shapeCasts_S1x128_S1x128)⟩] := by
  unfold trip_t4
  rfl
/-- What it carries. -/
theorem trip_t4_carry (Y : BufTy.Contents (Elt F) arg10.view.ty) (k : Fin k0_t4_loop.trips) (acc) : (trip_t4 (F := F) c arg0 harg0 arg1 harg1 arg2 harg2 arg3 harg3 arg4 harg4 arg5 harg5 arg6 harg6 arg7 harg7 arg8 harg8 arg9 harg9 arg10 harg10 Y k).1.2 acc = k0_pay10 acc (code_t4 (F := F) c arg0 harg0 arg1 harg1 arg2 harg2 arg3 harg3 arg4 harg4 arg5 harg5 arg6 harg6 arg7 harg7 arg8 harg8 arg9 harg9 arg10 harg10 Y k) := by
  unfold trip_t4
  rfl
end Trips

section Outer
variable (c : Dev nD) (arg0 : Memref sig .tc .vmem S17x3x640 .bf16) (harg0 : arg0.IsWhole) (arg1 : Memref sig .tc .vmem S3x640 .i32) (harg1 : arg1.IsWhole) (arg2 : Memref sig .tc .vmem S3x640 .i32) (harg2 : arg2.IsWhole) (arg3 : Memref sig .tc .vmem S3x640 .f32) (harg3 : arg3.IsWhole) (arg4 : Memref sig .tc .vmem S3x640 .f32) (harg4 : arg4.IsWhole) (arg5 : Memref sig .tc .vmem S2x128 .f32) (harg5 : arg5.IsWhole) (arg6 : Memref sig .tc .vmem S4x128 .f32) (harg6 : arg6.IsWhole) (arg7 : Memref sig .tc .vmem S1x1 .f32) (harg7 : arg7.IsWhole) (arg8 : Memref sig .tc .vmem S17x16x128 .f32) (harg8 : arg8.IsWhole) (arg9 : Memref sig .tc .vmem S1344x128 .f32) (harg9 : arg9.IsWhole) (arg10 : Memref sig .tc .vmem S2x17x16x128 .f32) (harg10 : arg10.IsWhole)

variable (X : S17x3x640.Idx → EReal) (Y : arg10.view.ty.Contents (Elt Ideal)) (hY : ∀ y, arg10.view.read (Elt Ideal) Y y = logArr X y)
include hY

/-- After `n` trips of the first book's loop the rows hold the log usage of the codes below `n`. -/
theorem row_t2_eq (G) (y : S2x128.Idx) : ∀ n, n ≤ 256 → 128 * (y 0).val + (y 1).val < n →
    arg5.view.read (Elt Ideal) (row_t2 (F := Ideal) c arg0 harg0 arg1 harg1 arg2 harg2 arg3 harg3 arg4 harg4 arg5 harg5 arg6 harg6 arg7 harg7 arg8 harg8 arg9 harg9 arg10 harg10 Y G n) y = lgU (Real.log 256) (tot X 0 8 (128 * (y 0).val + (y 1).val))
  | 0, _, h => absurd h (by omega)
  | n + 1, hn, h => by
    have hk : n < k0_t2_loop.trips := by rw [trips_eq.2.1]; omega
    rw [show row_t2 (F := Ideal) c arg0 harg0 arg1 harg1 arg2 harg2 arg3 harg3 arg4 harg4 arg5 harg5 arg6 harg6 arg7 harg7 arg8 harg8 arg9 harg9 arg10 harg10 Y G (n + 1) = _ from row_t2_succ (F := Ideal) c arg0 harg0 arg1 harg1 arg2 harg2 arg3 harg3 arg4 harg4 arg5 harg5 arg6 harg6 arg7 harg7 arg8 harg8 arg9 harg9 arg10 harg10 Y G ⟨n, hk⟩, trip_t2_pieces]
    refine (row_write (R := 2) arg5 _ n (by omega) _ (off5_eq ⟨n, hk⟩) _ (lgU (Real.log 256) (tot X 0 8 n)) _ (fun l => ?_) y).trans ?_
    · refine (entry_eq ⟨n, by omega⟩ _ _ l).trans ?_
      rw [show code_t2 (F := Ideal) c arg0 harg0 arg1 harg1 arg2 harg2 arg3 harg3 arg4 harg4 arg5 harg5 arg6 harg6 arg7 harg7 arg8 harg8 arg9 harg9 arg10 harg10 Y ⟨n, hk⟩ (ix2 (0 : Fin 1) (0 : Fin 1)) = _ from code_t3 c arg0 harg0 arg1 harg1 arg2 harg2 arg3 harg3 arg4 harg4 arg5 harg5 arg6 harg6 arg7 harg7 arg8 harg8 arg9 harg9 arg10 harg10 X Y hY ⟨n, hk⟩]
      show (if l.val = n % 128 then _ else _) = _
      by_cases e : l.val = n % 128
      · rw [if_pos e, if_pos e]
      · rw [if_neg e, if_neg e]
        exact (congrFun (shapeCast_self _ _) _).trans (row_load (R := 2) arg5 _ (n / 128) (by omega) _ (off5_eq ⟨n, hk⟩) _ l)
    · by_cases e : 128 * (y 0).val + (y 1).val = n
      · rw [if_pos e, e]
      · rw [if_neg e]
        exact row_t2_eq G y n (by omega) (by omega)

/-- After `n` trips it carries the divergence of the codes below `n`. -/
theorem kl_t2_eq : ∀ n, n ≤ 256 →
    kl_t2 (F := Ideal) c arg0 harg0 arg1 harg1 arg2 harg2 arg3 harg3 arg4 harg4 arg5 harg5 arg6 harg6 arg7 harg7 arg8 harg8 arg9 harg9 arg10 harg10 Y k0_pay5 n (ix2 (0 : Fin 1) (0 : Fin 1)) = ∑ m ∈ Finset.range n, klU (Real.log 256) (tot X 0 8 m)
  | 0, _ => by rw [Finset.sum_range_zero]; exact c_zero
  | n + 1, hn => by
    have hk : n < k0_t2_loop.trips := by rw [trips_eq.2.1]; omega
    rw [show kl_t2 (F := Ideal) c arg0 harg0 arg1 harg1 arg2 harg2 arg3 harg3 arg4 harg4 arg5 harg5 arg6 harg6 arg7 harg7 arg8 harg8 arg9 harg9 arg10 harg10 Y k0_pay5 (n + 1) = _ from kl_t2_succ (F := Ideal) c arg0 harg0 arg1 harg1 arg2 harg2 arg3 harg3 arg4 harg4 arg5 harg5 arg6 harg6 arg7 harg7 arg8 harg8 arg9 harg9 arg10 harg10 Y k0_pay5 ⟨n, hk⟩, trip_t2_carry,
      pay7_eq _ _ _ (tot_nonneg X 0 8 n) (code_t3 c arg0 harg0 arg1 harg1 arg2 harg2 arg3 harg3 arg4 harg4 arg5 harg5 arg6 harg6 arg7 harg7 arg8 harg8 arg9 harg9 arg10 harg10 X Y hY ⟨n, hk⟩), Finset.sum_range_succ]
    congr 1
    exact kl_t2_eq n (by omega)

/-- After `n` trips of the second book's loop the rows hold the log usage of the codes below `n`. -/
theorem row_t4_eq (G) (y : S4x128.Idx) : ∀ n, n ≤ 512 → 128 * (y 0).val + (y 1).val < n →
    arg6.view.read (Elt Ideal) (row_t4 (F := Ideal) c arg0 harg0 arg1 harg1 arg2 harg2 arg3 harg3 arg4 harg4 arg5 harg5 arg6 harg6 arg7 harg7 arg8 harg8 arg9 harg9 arg10 harg10 Y G n) y = lgU (Real.log 512) (tot X 8 9 (128 * (y 0).val + (y 1).val))
  | 0, _, h => absurd h (by omega)
  | n + 1, hn, h => by
    have hk : n < k0_t4_loop.trips := by rw [trips_eq.2.2.2.1]; omega
    rw [show row_t4 (F := Ideal) c arg0 harg0 arg1 harg1 arg2 harg2 arg3 harg3 arg4 harg4 arg5 harg5 arg6 harg6 arg7 harg7 arg8 harg8 arg9 harg9 arg10 harg10 Y G (n + 1) = _ from row_t4_succ (F := Ideal) c arg0 harg0 arg1 harg1 arg2 harg2 arg3 harg3 arg4 harg4 arg5 harg5 arg6 harg6 arg7 harg7 arg8 harg8 arg9 harg9 arg10 harg10 Y G ⟨n, hk⟩, trip_t4_pieces]
    refine (row_write (R := 4) arg6 _ n (by omega) _ (off7_eq ⟨n, hk⟩) _ (lgU (Real.log 512) (tot X 8 9 n)) _ (fun l => ?_) y).trans ?_
    · refine (entry_eq ⟨n, by omega⟩ _ _ l).trans ?_
      rw [show code_t4 (F := Ideal) c arg0 harg0 arg1 harg1 arg2 harg2 arg3 harg3 arg4 harg4 arg5 harg5 arg6 harg6 arg7 harg7 arg8 harg8 arg9 harg9 arg10 harg10 Y ⟨n, hk⟩ (ix2 (0 : Fin 1) (0 : Fin 1)) = _ from code_t5 c arg0 harg0 arg1 harg1 arg2 harg2 arg3 harg3 arg4 harg4 arg5 harg5 arg6 harg6 arg7 harg7 arg8 harg8 arg9 harg9 arg10 harg10 X Y hY ⟨n, hk⟩]
      show (if l.val = n % 128 then _ else _) = _
      by_cases e : l.val = n % 128
      · rw [if_pos e, if_pos e]
      · rw [if_neg e, if_neg e]
        exact (congrFun (shapeCast_self _ _) _).trans (row_load (R := 4) arg6 _ (n / 128) (by omega) _ (off7_eq ⟨n, hk⟩) _ l)
    · by_cases e : 128 * (y 0).val + (y 1).val = n
      · rw [if_pos e, e]
      · rw [if_neg e]
        exact row_t4_eq G y n (by omega) (by omega)

/-- After `n` trips it carries the divergence of the codes below `n`. -/
theorem kl_t4_eq : ∀ n, n ≤ 512 →
    kl_t4 (F := Ideal) c arg0 harg0 arg1 harg1 arg2 harg2 arg3 harg3 arg4 harg4 arg5 harg5 arg6 harg6 arg7 harg7 arg8 harg8 arg9 harg9 arg10 harg10 Y k0_pay8 n (ix2 (0 : Fin 1) (0 : Fin 1)) = ∑ m ∈ Finset.range n, klU (Real.log 512) (tot X 8 9 m)
  | 0, _ => by rw [Finset.sum_range_zero]; exact c_zero
  | n + 1, hn => by
    have hk : n < k0_t4_loop.trips := by rw [trips_eq.2.2.2.1]; omega
    rw [show kl_t4 (F := Ideal) c arg0 harg0 arg1 harg1 arg2 harg2 arg3 harg3 arg4 harg4 arg5 harg5 arg6 harg6 arg7 harg7 arg8 harg8 arg9 harg9 arg10 harg10 Y k0_pay8 (n + 1) = _ from kl_t4_succ (F := Ideal) c arg0 harg0 arg1 harg1 arg2 harg2 arg3 harg3 arg4 harg4 arg5 harg5 arg6 harg6 arg7 harg7 arg8 harg8 arg9 harg9 arg10 harg10 Y k0_pay8 ⟨n, hk⟩, trip_t4_carry,
      pay10_eq _ _ _ (tot_nonneg X 8 9 n) (code_t5 c arg0 harg0 arg1 harg1 arg2 harg2 arg3 harg3 arg4 harg4 arg5 harg5 arg6 harg6 arg7 harg7 arg8 harg8 arg9 harg9 arg10 harg10 X Y hY ⟨n, hk⟩), Finset.sum_range_succ]
    congr 1
    exact kl_t4_eq n (by omega)
end Outer

section Results
variable (c : Dev nD) (arg0 : Memref sig .tc .vmem S17x3x640 .bf16) (harg0 : arg0.IsWhole) (arg1 : Memref sig .tc .vmem S3x640 .i32) (harg1 : arg1.IsWhole) (arg2 : Memref sig .tc .vmem S3x640 .i32) (harg2 : arg2.IsWhole) (arg3 : Memref sig .tc .vmem S3x640 .f32) (harg3 : arg3.IsWhole) (arg4 : Memref sig .tc .vmem S3x640 .f32) (harg4 : arg4.IsWhole) (arg5 : Memref sig .tc .vmem S2x128 .f32) (harg5 : arg5.IsWhole) (arg6 : Memref sig .tc .vmem S4x128 .f32) (harg6 : arg6.IsWhole) (arg7 : Memref sig .tc .vmem S1x1 .f32) (harg7 : arg7.IsWhole) (arg8 : Memref sig .tc .vmem S17x16x128 .f32) (harg8 : arg8.IsWhole) (arg9 : Memref sig .tc .vmem S1344x128 .f32) (harg9 : arg9.IsWhole) (arg10 : Memref sig .tc .vmem S2x17x16x128 .f32) (harg10 : arg10.IsWhole)

variable (f0 : arg0.view.ty.Contents (Elt Ideal)) (f10 : arg10.view.ty.Contents (Elt Ideal)) (hc : stretch.sl.v3883 (F := Ideal) arg0 arg8 f0 = 1#1)
include hc

/-- Result 5 with the fallback. -/
theorem res5_loop (r : arg5.view.ty.Contents (Elt Ideal)) (h : Scf.trips k0_t2_loop.lb k0_t2_loop.ub k0_t2_loop.st = 0 ∨ ∃ G, r = row_t2 (F := Ideal) c arg0 harg0 arg1 harg1 arg2 harg2 arg3 harg3 arg4 harg4 arg5 harg5 arg6 harg6 arg7 harg7 arg8 harg8 arg9 harg9 arg10 harg10 (logits (F := Ideal) c arg0 harg0 arg1 harg1 arg2 harg2 arg3 harg3 arg4 harg4 arg5 harg5 arg6 harg6 arg7 harg7 arg8 harg8 arg9 harg9 arg10 harg10 f0 f10) G (Scf.trips k0_t2_loop.lb k0_t2_loop.ub k0_t2_loop.st)) :
    arg5.view.read (Elt Ideal) r = usageA (inp arg0 f0) := by
  have ht : Scf.trips k0_t2_loop.lb k0_t2_loop.ub k0_t2_loop.st = 256 := trips_eq.2.1
  rw [ht] at h
  rcases h with h | ⟨G, rfl⟩
  · exact absurd h (by omega)
  · funext y
    have h0 : (y 0).val < 2 := (y 0).isLt
    have h1 : (y 1).val < 128 := (y 1).isLt
    exact row_t2_eq c arg0 harg0 arg1 harg1 arg2 harg2 arg3 harg3 arg4 harg4 arg5 harg5 arg6 harg6 arg7 harg7 arg8 harg8 arg9 harg9 arg10 harg10 (inp arg0 f0) _ (logits_read c arg0 harg0 arg1 harg1 arg2 harg2 arg3 harg3 arg4 harg4 arg5 harg5 arg6 harg6 arg7 harg7 arg8 harg8 arg9 harg9 arg10 harg10 f0 f10) G y 256 (le_refl _) (by omega)

/-- Result 6 with the fallback. -/
theorem res6_loop (r : arg6.view.ty.Contents (Elt Ideal)) (h : Scf.trips k0_t4_loop.lb k0_t4_loop.ub k0_t4_loop.st = 0 ∨ ∃ G, r = row_t4 (F := Ideal) c arg0 harg0 arg1 harg1 arg2 harg2 arg3 harg3 arg4 harg4 arg5 harg5 arg6 harg6 arg7 harg7 arg8 harg8 arg9 harg9 arg10 harg10 (logits (F := Ideal) c arg0 harg0 arg1 harg1 arg2 harg2 arg3 harg3 arg4 harg4 arg5 harg5 arg6 harg6 arg7 harg7 arg8 harg8 arg9 harg9 arg10 harg10 f0 f10) G (Scf.trips k0_t4_loop.lb k0_t4_loop.ub k0_t4_loop.st)) :
    arg6.view.read (Elt Ideal) r = usageB (inp arg0 f0) := by
  have ht : Scf.trips k0_t4_loop.lb k0_t4_loop.ub k0_t4_loop.st = 512 := trips_eq.2.2.2.1
  rw [ht] at h
  rcases h with h | ⟨G, rfl⟩
  · exact absurd h (by omega)
  · funext y
    have h0 : (y 0).val < 4 := (y 0).isLt
    have h1 : (y 1).val < 128 := (y 1).isLt
    exact row_t4_eq c arg0 harg0 arg1 harg1 arg2 harg2 arg3 harg3 arg4 harg4 arg5 harg5 arg6 harg6 arg7 harg7 arg8 harg8 arg9 harg9 arg10 harg10 (inp arg0 f0) _ (logits_read c arg0 harg0 arg1 harg1 arg2 harg2 arg3 harg3 arg4 harg4 arg5 harg5 arg6 harg6 arg7 harg7 arg8 harg8 arg9 harg9 arg10 harg10 f0 f10) G y 512 (le_refl _) (by omega)

/-- Result 7 with the fallback. -/
theorem res7_loop {f9 : arg9.view.ty.Contents (Elt Ideal)} :
    arg7.view.read (Elt Ideal) (arg7.view.writes (Elt Ideal) arg7.view.junk [⟨Rect.unit ![0, 0] S1x1.size inb_S1x1_S1x1_0_0, k0_pay11 (kl_t2 (F := Ideal) c arg0 harg0 arg1 harg1 arg2 harg2 arg3 harg3 arg4 harg4 arg5 harg5 arg6 harg6 arg7 harg7 arg8 harg8 arg9 harg9 arg10 harg10 (logits (F := Ideal) c arg0 harg0 arg1 harg1 arg2 harg2 arg3 harg3 arg4 harg4 arg5 harg5 arg6 harg6 arg7 harg7 arg8 harg8 arg9 harg9 arg10 harg10 f0 f10) k0_pay5 (Scf.trips k0_t2_loop.lb k0_t2_loop.ub k0_t2_loop.st)) (kl_t4 (F := Ideal) c arg0 harg0 arg1 harg1 arg2 harg2 arg3 harg3 arg4 harg4 arg5 harg5 arg6 harg6 arg7 harg7 arg8 harg8 arg9 harg9 arg10 harg10 (logits (F := Ideal) c arg0 harg0 arg1 harg1 arg2 harg2 arg3 harg3 arg4 harg4 arg5 harg5 arg6 harg6 arg7 harg7 arg8 harg8 arg9 harg9 arg10 harg10 f0 f10) k0_pay8 (Scf.trips k0_t4_loop.lb k0_t4_loop.ub k0_t4_loop.st))⟩, ⟨Rect.unit ![0, 0] S1x1.size inb_S1x1_S1x1_0_0, k0_pay2 (stretch.sl.v3785 (F := Ideal) arg0 arg8 arg9 f0 f9) (stretch.sl.r_266 (F := Ideal) arg0 arg8 arg9 f0 f9) (stretch.sl.r_267 (F := Ideal) arg0 arg8 arg9 f0 f9)⟩]) = divergence (inp arg0 f0) := by
  have h2 : Scf.trips k0_t2_loop.lb k0_t2_loop.ub k0_t2_loop.st = 256 := trips_eq.2.1
  have h4 : Scf.trips k0_t4_loop.lb k0_t4_loop.ub k0_t4_loop.st = 512 := trips_eq.2.2.2.1
  rw [h2, h4]
  funext y
  rw [ValueIdx.eq_ix2 (n0 := 1) (n1 := 1) y, show y 1 = (0 : Fin 1) from Subsingleton.elim (α := Fin 1) _ _, show y 0 = (0 : Fin 1) from Subsingleton.elim (α := Fin 1) _ _]
  refine (read_writes_cons_rows_of_mem arg7.view _ _ _ _ (ix2 (0 : Fin 1) (0 : Fin 1)) (ix2 (0 : Fin 1) (0 : Fin 1)) rfl rfl rfl).trans ?_
  refine (show _ = (kl_t2 (F := Ideal) c arg0 harg0 arg1 harg1 arg2 harg2 arg3 harg3 arg4 harg4 arg5 harg5 arg6 harg6 arg7 harg7 arg8 harg8 arg9 harg9 arg10 harg10 (logits (F := Ideal) c arg0 harg0 arg1 harg1 arg2 harg2 arg3 harg3 arg4 harg4 arg5 harg5 arg6 harg6 arg7 harg7 arg8 harg8 arg9 harg9 arg10 harg10 f0 f10) k0_pay5 256 (ix2 (0 : Fin 1) (0 : Fin 1)) + kl_t4 (F := Ideal) c arg0 harg0 arg1 harg1 arg2 harg2 arg3 harg3 arg4 harg4 arg5 harg5 arg6 harg6 arg7 harg7 arg8 harg8 arg9 harg9 arg10 harg10 (logits (F := Ideal) c arg0 harg0 arg1 harg1 arg2 harg2 arg3 harg3 arg4 harg4 arg5 harg5 arg6 harg6 arg7 harg7 arg8 harg8 arg9 harg9 arg10 harg10 f0 f10) k0_pay8 512 (ix2 (0 : Fin 1) (0 : Fin 1)) : EReal) from rfl).trans ?_
  rw [kl_t2_eq c arg0 harg0 arg1 harg1 arg2 harg2 arg3 harg3 arg4 harg4 arg5 harg5 arg6 harg6 arg7 harg7 arg8 harg8 arg9 harg9 arg10 harg10 (inp arg0 f0) _ (logits_read c arg0 harg0 arg1 harg1 arg2 harg2 arg3 harg3 arg4 harg4 arg5 harg5 arg6 harg6 arg7 harg7 arg8 harg8 arg9 harg9 arg10 harg10 f0 f10) 256 (le_refl _), kl_t4_eq c arg0 harg0 arg1 harg1 arg2 harg2 arg3 harg3 arg4 harg4 arg5 harg5 arg6 harg6 arg7 harg7 arg8 harg8 arg9 harg9 arg10 harg10 (inp arg0 f0) _ (logits_read c arg0 harg0 arg1 harg1 arg2 harg2 arg3 harg3 arg4 harg4 arg5 harg5 arg6 harg6 arg7 harg7 arg8 harg8 arg9 harg9 arg10 harg10 f0 f10) 512 (le_refl _)]
  rfl
end Results

end Cert.Proof.KernelIdeal

end
-- ==== Proof.ValueRun.lean ====
/-
  What a run of `KernelIdeal` leaves in its results: each result's array, as a function of the channel-major input.
-/
module

public import proofs.«01_k».proof.Proof.Tokens
public import proofs.«01_k».proof.Proof.Gen.KernelIdeal.Frame
public import Idealize.ShloMosaic.PureOps.Ideal
public import Idealize.ShloMosaic.Lib.Pipeline.ValueKit
public import proofs.«01_k».proof.Proof.Usage

@[expose] public section

set_option maxRecDepth 16384

noncomputable section

namespace Cert.Proof.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

local notation "𝕄" => MT nD τ sig Unit (Elt Ideal) ℕ (UR sig nD τ) ℕ

/-- From the input's buffer held at `x` and every other buffer held at something, the body runs to the continuation that takes the
    input at `x` and the results at their formulas in `x`. -/
theorem kernelRun (c : Dev nD) (arg0 : Memref sig .tc .vmem S17x3x640 .bf16) (harg0 : arg0.IsWhole) (arg1 : Memref sig .tc .vmem S3x640 .i32) (harg1 : arg1.IsWhole) (arg2 : Memref sig .tc .vmem S3x640 .i32) (harg2 : arg2.IsWhole) (arg3 : Memref sig .tc .vmem S3x640 .f32) (harg3 : arg3.IsWhole) (arg4 : Memref sig .tc .vmem S3x640 .f32) (harg4 : arg4.IsWhole) (arg5 : Memref sig .tc .vmem S2x128 .f32) (harg5 : arg5.IsWhole) (arg6 : Memref sig .tc .vmem S4x128 .f32) (harg6 : arg6.IsWhole) (arg7 : Memref sig .tc .vmem S1x1 .f32) (harg7 : arg7.IsWhole) (arg8 : Memref sig .tc .vmem S17x16x128 .f32) (harg8 : arg8.IsWhole) (arg9 : Memref sig .tc .vmem S1344x128 .f32) (harg9 : arg9.IsWhole) (arg10 : Memref sig .tc .vmem S2x17x16x128 .f32) (harg10 : arg10.IsWhole)
    (x : Vec Ideal S17x3x640 .bf16) (K : PUnit → sProp 𝕄) :
    iprop(owns (c : Thread nD τ) arg0 fullShare x ∗ (∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
      ∗ (iprop(owns (c : Thread nD τ) arg0 fullShare x ∗ owns (c : Thread nD τ) arg1 fullShare (resArr (F := Ideal) mIa x) ∗ owns (c : Thread nD τ) arg2 fullShare (resArr (F := Ideal) mIb x) ∗ owns (c : Thread nD τ) arg3 fullShare (resArr (F := Ideal) mEnt x) ∗ owns (c : Thread nD τ) arg4 fullShare (resArr (F := Ideal) mCom x) ∗ owns (c : Thread nD τ) arg5 fullShare (usageA x) ∗ owns (c : Thread nD τ) arg6 fullShare (usageB x) ∗ owns (c : Thread nD τ) arg7 fullShare (divergence x) ∗ (∃ d, owns (c : Thread nD τ) arg8 fullShare d) ∗ (∃ d, owns (c : Thread nD τ) arg9 fullShare d) ∗ (∃ d, owns (c : Thread nD τ) arg10 fullShare d)) -∗ K ⟨⟩))
    ⊢ wp frame (wpE (defs₀ (F := Ideal)) 𝒱₀ (c : Thread nD τ) none) Set.univ
        (cc0__body (F := Ideal) arg0 harg0 arg1 harg1 arg2 harg2 arg3 harg3 arg4 harg4 arg5 harg5 arg6 harg6 arg7 harg7 arg8 harg8 arg9 harg9 arg10 harg10) K := by
  unfold owns
  iintro ⟨⟨%f0, %hf0, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
  subst hf0
  iapply (bodyRun (F := Ideal) c arg0 harg0 arg1 harg1 arg2 harg2 arg3 harg3 arg4 harg4 arg5 harg5 arg6 harg6 arg7 harg7 arg8 harg8 arg9 harg9 arg10 harg10 f0 f1 f2 f3 f4 f5 f6 f7 f8 f9 f10 (fun g1 g2 g3 g4 g5 g6 g7 => arg1.view.read (Elt Ideal) g1 = resArr (F := Ideal) mIa (inp arg0 f0) ∧ arg2.view.read (Elt Ideal) g2 = resArr (F := Ideal) mIb (inp arg0 f0) ∧ arg3.view.read (Elt Ideal) g3 = resArr (F := Ideal) mEnt (inp arg0 f0) ∧ arg4.view.read (Elt Ideal) g4 = resArr (F := Ideal) mCom (inp arg0 f0) ∧ arg5.view.read (Elt Ideal) g5 = usageA (inp arg0 f0) ∧ arg6.view.read (Elt Ideal) g6 = usageB (inp arg0 f0) ∧ arg7.view.read (Elt Ideal) g7 = divergence (inp arg0 f0))
    (fun hc => ⟨res1_read arg0 arg8 f0 arg1 _, res2_read arg0 arg8 f0 arg2 _, res3_read arg0 arg8 f0 arg3 _, res4_read arg0 arg8 f0 arg4 _, res5_safe arg0 arg8 arg9 f0 f9 arg5 _ hc, res6_safe arg0 arg8 arg9 f0 f9 arg6 _ hc, res7_safe arg0 arg8 arg9 f0 f9 arg7 _ hc⟩)
    (fun hc r5 r6 h5 h6 => ⟨res1_read arg0 arg8 f0 arg1 _, res2_read arg0 arg8 f0 arg2 _, res3_read arg0 arg8 f0 arg3 _, res4_read arg0 arg8 f0 arg4 _, res5_loop c arg0 harg0 arg1 harg1 arg2 harg2 arg3 harg3 arg4 harg4 arg5 harg5 arg6 harg6 arg7 harg7 arg8 harg8 arg9 harg9 arg10 harg10 f0 f10 hc r5 h5, res6_loop c arg0 harg0 arg1 harg1 arg2 harg2 arg3 harg3 arg4 harg4 arg5 harg5 arg6 harg6 arg7 harg7 arg8 harg8 arg9 harg9 arg10 harg10 f0 f10 hc r6 h6, res7_loop c arg0 harg0 arg1 harg1 arg2 harg2 arg3 harg3 arg4 harg4 arg5 harg5 arg6 harg6 arg7 harg7 arg8 harg8 arg9 harg9 arg10 harg10 f0 f10 hc⟩) K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, ⟨%g1, %g2, %g3, %g4, %g5, %g6, %g7, %hg, H1, H2, H3, H4, H5, H6, H7⟩, ⟨%g8, H8⟩, ⟨%g9, H9⟩, ⟨%g10, H10⟩⟩
  obtain ⟨h1, h2, h3, h4, h5, h6, h7⟩ := hg
  iapply Hk
  isplitl [H0]
  · iexists _; isplitr; · ipureintro; rfl
    iexact H0
  isplitl [H1]
  · iexists g1; isplitr; · ipureintro; exact h1
    iexact H1
  isplitl [H2]
  · iexists g2; isplitr; · ipureintro; exact h2
    iexact H2
  isplitl [H3]
  · iexists g3; isplitr; · ipureintro; exact h3
    iexact H3
  isplitl [H4]
  · iexists g4; isplitr; · ipureintro; exact h4
    iexact H4
  isplitl [H5]
  · iexists g5; isplitr; · ipureintro; exact h5
    iexact H5
  isplitl [H6]
  · iexists g6; isplitr; · ipureintro; exact h6
    iexact H6
  isplitl [H7]
  · iexists g7; isplitr; · ipureintro; exact h7
    iexact H7
  isplitl [H8]
  · iexists (arg8.view.read (Elt Ideal) g8), g8; isplitr; · ipureintro; rfl
    iexact H8
  isplitl [H9]
  · iexists (arg9.view.read (Elt Ideal) g9), g9; isplitr; · ipureintro; rfl
    iexact H9
  iexists (arg10.view.read (Elt Ideal) g10), g10; isplitr; · ipureintro; rfl
  iexact H10

/-! ## The pipeline's proof data -/

variable (m : (ℓ : Loc nD τ sig) → Buf (Elt Ideal) ℓ) (ρ : Dev nD → PrngReg)

/-- The windows of whose contents nothing is said. -/
abbrev fgt : Fin cfg0.W → Bool := fun w => match w with
  | _ => false

/-- The arrays as the region finds them; after the body the input's buffer at its block and each result at its formula; the invariant
    the frame kit's; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => resArr (F := Ideal) mIa (iblk m c 0 t)
    | ⟨2, _⟩ => resArr (F := Ideal) mIb (iblk m c 0 t)
    | ⟨3, _⟩ => resArr (F := Ideal) mEnt (iblk m c 0 t)
    | ⟨4, _⟩ => resArr (F := Ideal) mCom (iblk m c 0 t)
    | ⟨5, _⟩ => usageA (iblk m c 0 t)
    | ⟨6, _⟩ => usageB (iblk m c 0 t)
    | ⟨7, _⟩ => divergence (iblk m c 0 t)
  Φ _ := Pipeline.ΦA spec0 c
  q _ := fullShare
  owed _ := 0

/-- The input's block is what the body finds. -/
theorem before0_0 (c : Dev nD) (t : Fin cfg0.N) (d) : (dats m 0 c).before 0 t d = iblk m c 0 t :=
  before0_0_of m (dats m 0 c) rfl (fun t => by dsimp only [dats]) t d

/-- The library's body obligation: the invariant's three scratch buffers and the eight staging buffers are what the body's run asks for. -/
theorem body_obligation (c : Dev nD) : BodyObligationLoose (dats m 0 c) (defs₀ (F := Ideal)) 𝒱₀ () Set.univ fgt := fun t => by
  rw [bigSep_W0, bigSep_W0]
  sl_whnfR [defs₀, Defs.onTc]
  simp only [before0_0]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl]
  unfold Pipeline.ΦA
  rw [scopedRest0_eq]
  rw [show (dats m 0 c).after 0 t = iblk m c 0 t from by dsimp only [dats],
    show (dats m 0 c).after 1 t = resArr (F := Ideal) mIa (iblk m c 0 t) from by dsimp only [dats],
    show (dats m 0 c).after 2 t = resArr (F := Ideal) mIb (iblk m c 0 t) from by dsimp only [dats],
    show (dats m 0 c).after 3 t = resArr (F := Ideal) mEnt (iblk m c 0 t) from by dsimp only [dats],
    show (dats m 0 c).after 4 t = resArr (F := Ideal) mCom (iblk m c 0 t) from by dsimp only [dats],
    show (dats m 0 c).after 5 t = usageA (iblk m c 0 t) from by dsimp only [dats],
    show (dats m 0 c).after 6 t = usageB (iblk m c 0 t) from by dsimp only [dats],
    show (dats m 0 c).after 7 t = divergence (iblk m c 0 t) from by dsimp only [dats]]
  simp only [← owns_whole]
  iintro ⟨⟨⟨H8, H9, H10⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (kernelRun c _ _ _ _ _ _ _ _ _ _ _ _ _ _ _ _ _ _ _ _ _ _ (iblk m c 0 t) _)
  isplitl [H0]; · iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexact H8
  isplitl [H9]; · iexact H9
  isplitl [H10]; · iexact H10
  iintro ⟨H0, H1, H2, H3, H4, H5, H6, H7, H8, H9, H10⟩
  isplitl [H8 H9 H10 Hr]
  · isplitr [Hr]
    · isplitl [H8]; · iexact H8
      isplitl [H9]; · iexact H9
      iexact H10
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

-- `θ_run_frame_forget`'s implicit arguments are found by unifying its conclusion with this one
set_option backward.isDefEq.respectTransparency.types false in
/-- From any memory with zero counters every weakly fair execution of @main terminates, with the results' arrays at the proof data's. -/
theorem run_main : θ_run defs (onTc (τ := τ) (main (F := Ideal))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ 𝒱₀ fgt m ρ main
    (hbody := fun c => body_obligation m c) (hshare := fun c => (dats m 0 c).share_full fun _ => rfl)
    (howed := fun _ _ => rfl) (V := V m) (hmain := hmain m 𝒱₀) (hA := fun _ _ => rfl) (hΦ := fun _ _ => rfl)

/-- The channel-major input, as the region finds it. -/
def xin (c : Dev nD) : S17x3x640.Idx → Elt Ideal .bf16 :=
  transpose S17x3x640 [2, 0, 1] (m ((c.tc : Thread nD τ).loc main_arg0)) transposes_S3x640x17_S17x3x640_2_0_1

/-- The region's input array is the transposed input. -/
theorem V_main_v0 (c : Dev nD) : V m c main_v0 = xin m c := by
  unfold V
  simp only [hostOps0, StableHlo.after_cons, StableHlo.after_nil]
  after_results_simp
  rfl

/-- The input's one block is the whole of it. -/
theorem iblk_eq (c : Dev nD) (t : Fin cfg0.N) : iblk m c 0 t = xin m c := by
  refine Eq.trans ?_ (V_main_v0 m c)
  funext y
  show V m c main_v0 _ = V m c main_v0 _
  refine congrArg (V m c main_v0) ?_
  funext a
  apply Fin.ext
  fin_cases t
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- Result 1's array after the run. -/
theorem arr1 (c : Dev nD) : (dats m 0 c).arrAt 1 cfg0.N = resArr (F := Ideal) mIa (xin m c) := by
  refine (dats m 0 c).arrAt_eq_of_after_last 1 (⟨0, by decide⟩ : Fin cfg0.N) (by decide +kernel) _ fun j => ?_
  rw [← iblk_eq m c (⟨0, by decide⟩ : Fin cfg0.N)]
  dsimp only [dats]
  rfl

/-- Result 2's array after the run. -/
theorem arr2 (c : Dev nD) : (dats m 0 c).arrAt 2 cfg0.N = resArr (F := Ideal) mIb (xin m c) := by
  refine (dats m 0 c).arrAt_eq_of_after_last 2 (⟨0, by decide⟩ : Fin cfg0.N) (by decide +kernel) _ fun j => ?_
  rw [← iblk_eq m c (⟨0, by decide⟩ : Fin cfg0.N)]
  dsimp only [dats]
  rfl

/-- Result 3's array after the run. -/
theorem arr3 (c : Dev nD) : (dats m 0 c).arrAt 3 cfg0.N = resArr (F := Ideal) mEnt (xin m c) := by
  refine (dats m 0 c).arrAt_eq_of_after_last 3 (⟨0, by decide⟩ : Fin cfg0.N) (by decide +kernel) _ fun j => ?_
  rw [← iblk_eq m c (⟨0, by decide⟩ : Fin cfg0.N)]
  dsimp only [dats]
  rfl

/-- Result 4's array after the run. -/
theorem arr4 (c : Dev nD) : (dats m 0 c).arrAt 4 cfg0.N = resArr (F := Ideal) mCom (xin m c) := by
  refine (dats m 0 c).arrAt_eq_of_after_last 4 (⟨0, by decide⟩ : Fin cfg0.N) (by decide +kernel) _ fun j => ?_
  rw [← iblk_eq m c (⟨0, by decide⟩ : Fin cfg0.N)]
  dsimp only [dats]
  rfl

/-- Result 5's array after the run. -/
theorem arr5 (c : Dev nD) : (dats m 0 c).arrAt 5 cfg0.N = usageA (xin m c) := by
  refine (dats m 0 c).arrAt_eq_of_after_last 5 (⟨0, by decide⟩ : Fin cfg0.N) (by decide +kernel) _ fun j => ?_
  rw [← iblk_eq m c (⟨0, by decide⟩ : Fin cfg0.N)]
  dsimp only [dats]
  rfl

/-- Result 6's array after the run. -/
theorem arr6 (c : Dev nD) : (dats m 0 c).arrAt 6 cfg0.N = usageB (xin m c) := by
  refine (dats m 0 c).arrAt_eq_of_after_last 6 (⟨0, by decide⟩ : Fin cfg0.N) (by decide +kernel) _ fun j => ?_
  rw [← iblk_eq m c (⟨0, by decide⟩ : Fin cfg0.N)]
  dsimp only [dats]
  rfl

/-- Result 7's array after the run. -/
theorem arr7 (c : Dev nD) : (dats m 0 c).arrAt 7 cfg0.N = divergence (xin m c) := by
  refine (dats m 0 c).arrAt_eq_of_after_last 7 (⟨0, by decide⟩ : Fin cfg0.N) (by decide +kernel) _ fun j => ?_
  rw [← iblk_eq m c (⟨0, by decide⟩ : Fin cfg0.N)]
  dsimp only [dats]
  rfl

/-- From any memory every weakly fair execution of @main terminates with each result at its formula in the input and the input
    unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v1_0) = resArr (F := Ideal) mIa (xin m c) ∧ r.2.mem ((c.tc : Thread nD τ).loc main_v1_1) = resArr (F := Ideal) mIb (xin m c) ∧ r.2.mem ((c.tc : Thread nD τ).loc main_v1_2) = resArr (F := Ideal) mEnt (xin m c) ∧ r.2.mem ((c.tc : Thread nD τ).loc main_v1_3) = resArr (F := Ideal) mCom (xin m c) ∧ r.2.mem ((c.tc : Thread nD τ).loc main_v1_4) = usageA (xin m c) ∧ r.2.mem ((c.tc : Thread nD τ).loc main_v1_5) = usageB (xin m c) ∧ r.2.mem ((c.tc : Thread nD τ).loc main_v1_6) = divergence (xin m c)
      ∧ r.2.mem ((c.tc : Thread nD τ).loc main_arg0) = m ((c.tc : Thread nD τ).loc main_arg0)) :=
  (θ_run defs _ _).mono (fun _ h c => ⟨(((dats m 0 c).toRForget_arrAt_iff (fgt := fgt) (w := 1) rfl _ _).mp ((h.1 c).1 1)).trans (arr1 m c), (((dats m 0 c).toRForget_arrAt_iff (fgt := fgt) (w := 2) rfl _ _).mp ((h.1 c).1 2)).trans (arr2 m c), (((dats m 0 c).toRForget_arrAt_iff (fgt := fgt) (w := 3) rfl _ _).mp ((h.1 c).1 3)).trans (arr3 m c), (((dats m 0 c).toRForget_arrAt_iff (fgt := fgt) (w := 4) rfl _ _).mp ((h.1 c).1 4)).trans (arr4 m c), (((dats m 0 c).toRForget_arrAt_iff (fgt := fgt) (w := 5) rfl _ _).mp ((h.1 c).1 5)).trans (arr5 m c), (((dats m 0 c).toRForget_arrAt_iff (fgt := fgt) (w := 6) rfl _ _).mp ((h.1 c).1 6)).trans (arr6 m c), (((dats m 0 c).toRForget_arrAt_iff (fgt := fgt) (w := 7) rfl _ _).mp ((h.1 c).1 7)).trans (arr7 m c),
      ((h.1 c).2 main_arg0 (Pipeline.mem_restRefs_of main_arg0 (by decide) (by decide))).trans (V_main_arg0 m c)⟩)
    (run_main m ρ)

end Cert.Proof.KernelIdeal.Value

end
-- ==== Proof.RefTokens.lean ====
/-
  The reference's four results of a token are the kernel's formulas in the token's channels, over the extended reals.
-/
module

public import proofs.«01_k».proof.Proof.Channel
public import proofs.«01_k».proof.Proof.Gen.ReferenceIdeal.Run
public import Idealize.ShloMosaic.Lib.Pointwise

@[expose] public section

set_option maxRecDepth 16384

noncomputable section

namespace Cert.Proof.Ref

open Cert.ReferenceIdeal Cert.ReferenceIdeal.Gen Cert.ReferenceIdeal.Value
open Idealize.ShloMosaic Idealize.ShloMosaic.TcCoe
open Cert.Proof.KernelIdeal (mPos mBit mCode mIa mIb mSum mErr mCom mE mU mNear mFar mBig mEnt mMag mP mQ)
open Cert.Proof.Ideals

/-! ## The codes -/

/-- The mask a positive channel makes. -/
theorem mPos_eq (x : EReal) : mPos (F := Ideal) x = BitVec.ofBool (decide (0 < x)) := by
  refine (show _ = BitVec.ofBool (decide (Ideal.ofBits .f32 0x00000000#32 < x)) from rfl).trans ?_
  rw [c_zero]

/-- The bit of a positive channel. -/
def mk (x : EReal) : BitVec 32 := BitVec.setWidth 32 (BitVec.ofBool (decide (0 < x)))

/-- A bit times its weight is the weight or nothing. -/
theorem bit_eq (x : EReal) (w : BitVec 32) :
    IntOp.muli (BitVec.setWidth 32 (BitVec.ofBool (decide (0 < x)))) w = mBit (F := Ideal) x w := by
  unfold mBit
  rw [mPos_eq]
  by_cases h : 0 < x
  · simp [h, IntOp.muli, Scalar.select]
  · simp [h, IntOp.muli, Scalar.select]

/-- A sum of eight words, written out. -/
theorem fold8 (g : Fin 8 → BitVec 32) : Finset.fold IntOp.addi 0#32 g Finset.univ
    = IntOp.addi (IntOp.addi (IntOp.addi (IntOp.addi (IntOp.addi (IntOp.addi (IntOp.addi (g 0) (g 1)) (g 2)) (g 3)) (g 4)) (g 5)) (g 6)) (g 7) := by
  refine (show _ = g 0 + (g 1 + (g 2 + (g 3 + (g 4 + (g 5 + (g 6 + (g 7 + 0#32))))))) from rfl).trans ?_
  show _ = g 0 + g 1 + g 2 + g 3 + g 4 + g 5 + g 6 + g 7
  simp only [BitVec.add_zero, BitVec.add_assoc]

/-- A sum of nine words, written out. -/
theorem fold9 (g : Fin 9 → BitVec 32) : Finset.fold IntOp.addi 0#32 g Finset.univ
    = IntOp.addi (IntOp.addi (IntOp.addi (IntOp.addi (IntOp.addi (IntOp.addi (IntOp.addi (IntOp.addi (g 0) (g 1)) (g 2)) (g 3)) (g 4)) (g 5)) (g 6)) (g 7)) (g 8) := by
  refine (show _ = g 0 + (g 1 + (g 2 + (g 3 + (g 4 + (g 5 + (g 6 + (g 7 + (g 8 + 0#32)))))))) from rfl).trans ?_
  show _ = g 0 + g 1 + g 2 + g 3 + g 4 + g 5 + g 6 + g 7 + g 8
  simp only [BitVec.add_zero, BitVec.add_assoc]

variable (V0 : Valuation τ sig (Elt Ideal)) (z : ℕ → EReal)

/-- The first book's code. -/
theorem ref1 (a : Fin 3) (b : Fin 640) (hz : ∀ k : Fin 17, res_main_v0 (F := Ideal) V0 (ix3 a b k) = z k.val) :
    Host.reduce IntOp.addi (muli (extractStridedSlice S3x640x8 ![0,0,0] (res_main_v3 (F := Ideal) V0) slices_S3x640x17_S3x640x8_0_0_0) (broadcastInDim S3x640x8 ![0,1,2] bcast_S1x1x8_S3x640x8_0_1_2 (broadcastInDim S1x1x8 ![2] bcast_S8_S1x1x8_2 (Host.shli (broadcastInDim S8 ![] bcast_S_S8 (constantI S_ 32 1#32)) (subi (broadcastInDim S8 ![] bcast_S_S8 (constantI S_ 32 7#32)) (iotaInDim S8 32 0)))))) (constantI S_ 32 0#32) reducesTo_S3x640x8_S3x640_d2 h_S_ (ix2 a b)
      = mIa (F := Ideal) z := by
  pointwise [res_main_v3, res_main_v2]
  rw [fold8]
  refine (show _ = (IntOp.addi (IntOp.addi (IntOp.addi (IntOp.addi (IntOp.addi (IntOp.addi (IntOp.addi (IntOp.muli (mk (res_main_v0 (F := Ideal) V0 (ix3 a b 0))) 128#32) (IntOp.muli (mk (res_main_v0 (F := Ideal) V0 (ix3 a b 1))) 64#32)) (IntOp.muli (mk (res_main_v0 (F := Ideal) V0 (ix3 a b 2))) 32#32)) (IntOp.muli (mk (res_main_v0 (F := Ideal) V0 (ix3 a b 3))) 16#32)) (IntOp.muli (mk (res_main_v0 (F := Ideal) V0 (ix3 a b 4))) 8#32)) (IntOp.muli (mk (res_main_v0 (F := Ideal) V0 (ix3 a b 5))) 4#32)) (IntOp.muli (mk (res_main_v0 (F := Ideal) V0 (ix3 a b 6))) 2#32)) (IntOp.muli (mk (res_main_v0 (F := Ideal) V0 (ix3 a b 7))) 1#32)) from rfl).trans ?_
  simp only [mk, bit_eq, hz]
  rfl

/-- The second book's code. -/
theorem ref2 (a : Fin 3) (b : Fin 640) (hz : ∀ k : Fin 17, res_main_v0 (F := Ideal) V0 (ix3 a b k) = z k.val) :
    Host.reduce IntOp.addi (muli (extractStridedSlice S3x640x9 ![0,0,8] (res_main_v3 (F := Ideal) V0) slices_S3x640x17_S3x640x9_0_0_8) (broadcastInDim S3x640x9 ![0,1,2] bcast_S1x1x9_S3x640x9_0_1_2 (broadcastInDim S1x1x9 ![2] bcast_S9_S1x1x9_2 (Host.shli (broadcastInDim S9 ![] bcast_S_S9 (constantI S_ 32 1#32)) (subi (broadcastInDim S9 ![] bcast_S_S9 (constantI S_ 32 8#32)) (iotaInDim S9 32 0)))))) (constantI S_ 32 0#32) reducesTo_S3x640x9_S3x640_d2 h_S_ (ix2 a b)
      = mIb (F := Ideal) z := by
  pointwise [res_main_v3, res_main_v2]
  rw [fold9]
  refine (show _ = (IntOp.addi (IntOp.addi (IntOp.addi (IntOp.addi (IntOp.addi (IntOp.addi (IntOp.addi (IntOp.addi (IntOp.muli (mk (res_main_v0 (F := Ideal) V0 (ix3 a b 8))) 256#32) (IntOp.muli (mk (res_main_v0 (F := Ideal) V0 (ix3 a b 9))) 128#32)) (IntOp.muli (mk (res_main_v0 (F := Ideal) V0 (ix3 a b 10))) 64#32)) (IntOp.muli (mk (res_main_v0 (F := Ideal) V0 (ix3 a b 11))) 32#32)) (IntOp.muli (mk (res_main_v0 (F := Ideal) V0 (ix3 a b 12))) 16#32)) (IntOp.muli (mk (res_main_v0 (F := Ideal) V0 (ix3 a b 13))) 8#32)) (IntOp.muli (mk (res_main_v0 (F := Ideal) V0 (ix3 a b 14))) 4#32)) (IntOp.muli (mk (res_main_v0 (F := Ideal) V0 (ix3 a b 15))) 2#32)) (IntOp.muli (mk (res_main_v0 (F := Ideal) V0 (ix3 a b 16))) 1#32)) from rfl).trans ?_
  simp only [mk, bit_eq, hz]
  rfl

/-! ## The log-probabilities -/

/-- The reference's log-probability of the positive sign. -/
theorem v33_eq (k : S3x640x17.Idx) : res_main_v33 (F := Ideal) V0 k = lp (res_main_v0 (F := Ideal) V0 k) := by
  pointwise [res_main_v33, res_main_call1_v0, res_main_call1_call0_v3, res_main_call1_call0_cst, res_main_v32]
  rw [if_neg (by simp)]
  unfold lp lsig
  rw [c_two]; rfl

/-- The reference's log-probability of the negative sign. -/
theorem v35_eq (k : S3x640x17.Idx) : res_main_v35 (F := Ideal) V0 k = lq (res_main_v0 (F := Ideal) V0 k) := by
  pointwise [res_main_v35, res_main_call2_v0, res_main_call2_call0_v3, res_main_call2_call0_cst, res_main_v32]
  rw [if_neg (by simp)]
  unfold lq lsig
  rw [c_two]; rfl

/-- The entropy. -/
theorem ref3 (a : Fin 3) (b : Fin 640) (hz : ∀ k : Fin 17, res_main_v0 (F := Ideal) V0 (ix3 a b k) = z k.val) :
    Host.negf (Host.reduceAdd (addf (mulf (Host.exp (res_main_v33 (F := Ideal) V0)) (res_main_v33 (F := Ideal) V0)) (mulf (Host.exp (res_main_v35 (F := Ideal) V0)) (res_main_v35 (F := Ideal) V0))) (constant S_ .f32 0#32) reducesTo_S3x640x17_S3x640_d2 h_S_) (ix2 a b)
      = mEnt (F := Ideal) z := by
  pointwise
  simp only [v33_eq, v35_eq, hz, pair_eq]
  rw [mEnt_eq, ← coe_sum, ← EReal.coe_neg, Finset.sum_neg_distrib, neg_neg, Fin.sum_univ_eq_sum_range (fun i => Real.log (rU (z i)) + 2 * rL (z i)) 17]

/-- A channel's distance to its sign. -/
theorem err_eq (x : EReal) : (x - if 0 < x then 1 else Ideal.ofBits FTy.f32 0xBF800000#32) = mErr (F := Ideal) x := by
  refine Eq.symm ((show _ = x - Scalar.select (mPos (F := Ideal) x) (Ideal.ofBits .f32 0x3F800000#32) (Ideal.ofBits .f32 0xBF800000#32) from rfl).trans ?_)
  rw [mPos_eq, c_one]
  by_cases h : 0 < x
  · simp [h, Scalar.select]
  · simp [h, Scalar.select]

/-- The commitment term. -/
theorem ref4 (a : Fin 3) (b : Fin 640) (hz : ∀ k : Fin 17, res_main_v0 (F := Ideal) V0 (ix3 a b k) = z k.val) :
    Host.divf (Host.reduceAdd (mulf (res_main_v26 (F := Ideal) V0) (res_main_v26 (F := Ideal) V0)) (constant S_ .f32 0#32) reducesTo_S3x640x17_S3x640_d2 h_S_) (broadcastInDim S3x640 ![] bcast_S_S3x640 (constant S_ .f32 0x41880000#32)) (ix2 a b)
      = mCom (F := Ideal) z := by
  pointwise
  unfold res_main_v26 id
  pointwise [res_main_v2]
  rw [c_17, Ideal.div_coe (by norm_num)]
  refine (show _ = mSum (F := Ideal) (fun c => mErr (F := Ideal) (z c) * mErr (F := Ideal) (z c)) 16 * Named.named (F := Ideal) Cert.KernelIdeal.κ "inv_17" (φ := .f32) 0x3D70F0F1#32 from ?_)
  rw [k_inv_17, mSum_eq, ← Fin.sum_univ_eq_sum_range (fun c => mErr (F := Ideal) (z c) * mErr (F := Ideal) (z c)) 17]
  simp only [hz, err_eq]

end Cert.Proof.Ref

end
-- ==== Proof.RefBits.lean ====
/-
  The bits of the codes, as the reference's tables hold them.
-/
module

public import Idealize.ShloMosaic.PureOps.Ideal

@[expose] public section

set_option maxRecDepth 16384

noncomputable section

namespace Cert.Proof.Ref

open Idealize.ShloMosaic

/-- The bits of the first book's codes. -/
theorem bits_a : ∀ (i : Fin 8) (m : Fin 256), IntOp.andi (IntOp.shrsi ArithUnit.host (BitVec.ofNat 32 m.val) (IntOp.subi 7#32 (BitVec.ofNat 32 i.val))) 1#32 = BitVec.setWidth 32 (BitVec.ofBool (m.val.testBit (7 - i.val))) := by
  decide +kernel
/-- The bits of the second book's codes. -/
theorem bits_b : ∀ (i : Fin 9) (m : Fin 512), IntOp.andi (IntOp.shrsi ArithUnit.host (BitVec.ofNat 32 m.val) (IntOp.subi 8#32 (BitVec.ofNat 32 i.val))) 1#32 = BitVec.setWidth 32 (BitVec.ofBool (m.val.testBit (8 - i.val))) := by
  decide +kernel

end Cert.Proof.Ref

end
-- ==== Proof.RefUsage.lean ====
/-
  The reference's usage of each code and its divergence, over the extended reals.
-/
module

public import proofs.«01_k».proof.Proof.RefTokens
public import proofs.«01_k».proof.Proof.LogSum
public import proofs.«01_k».proof.Proof.RefBits

@[expose] public section

set_option maxRecDepth 16384

noncomputable section

namespace Cert.Proof.Ref

open Cert.ReferenceIdeal Cert.ReferenceIdeal.Gen Cert.ReferenceIdeal.Value
open Idealize.ShloMosaic Idealize.ShloMosaic.TcCoe
open Cert.Proof.KernelIdeal (tok packed tot rCode rB lgU klU dB dSum dSum_ne_top exp_dSum lse_real log_lgU exp_klU tot_nonneg usageA usageB divergence)
open Cert.Proof.Ideals

/-! ## The tokens, flat and in packed rows -/

/-- A sum over the tokens in their flat order is the sum over the packed rows. -/
theorem tokens_sum (g : ℕ → ℕ → ℝ) : ∑ t : Fin 1920, g (t.val / 640) (t.val % 640) = ∑ r ∈ Finset.range 15, ∑ l : Fin 128, g (r % 3) (r / 3 * 128 + l.val) := by
  have h1 : ∑ t : Fin (3 * 640), g (t.val / 640) (t.val % 640) = ∑ b : Fin 3, ∑ n : Fin 640, g b.val n.val := by
    rw [← Equiv.sum_comp finProdFinEquiv, Fintype.sum_prod_type]
    refine Finset.sum_congr rfl fun b _ => Finset.sum_congr rfl fun n _ => ?_
    have hn := n.isLt
    show g ((n.val + 640 * b.val) / 640) ((n.val + 640 * b.val) % 640) = _
    rw [show (n.val + 640 * b.val) / 640 = b.val by omega, show (n.val + 640 * b.val) % 640 = n.val by omega]
  have h2 : ∑ r : Fin (5 * 3), ∑ l : Fin 128, g (r.val % 3) (r.val / 3 * 128 + l.val) = ∑ q : Fin 5, ∑ b : Fin 3, ∑ l : Fin 128, g b.val (q.val * 128 + l.val) := by
    rw [← Equiv.sum_comp finProdFinEquiv, Fintype.sum_prod_type]
    refine Finset.sum_congr rfl fun q _ => Finset.sum_congr rfl fun b _ => Finset.sum_congr rfl fun l _ => ?_
    have hb := b.isLt
    show g ((b.val + 3 * q.val) % 3) ((b.val + 3 * q.val) / 3 * 128 + l.val) = _
    rw [show (b.val + 3 * q.val) % 3 = b.val by omega, show (b.val + 3 * q.val) / 3 = q.val by omega]
  have h3 : ∀ b : Fin 3, ∑ n : Fin (5 * 128), g b.val n.val = ∑ q : Fin 5, ∑ l : Fin 128, g b.val (q.val * 128 + l.val) := fun b => by
    rw [← Equiv.sum_comp finProdFinEquiv, Fintype.sum_prod_type]
    refine Finset.sum_congr rfl fun q _ => Finset.sum_congr rfl fun l _ => ?_
    show g b.val (l.val + 128 * q.val) = _
    rw [show l.val + 128 * q.val = q.val * 128 + l.val by omega]
  refine h1.trans ((Finset.sum_congr rfl fun b _ => h3 b).trans (Finset.sum_comm.trans (h2.symm.trans ?_)))
  exact Fin.sum_univ_eq_sum_range (fun r => ∑ l : Fin 128, g (r % 3) (r / 3 * 128 + l.val)) 15

/-- A code's total over the tokens in their flat order. -/
theorem tot_flat (X : Cert.KernelIdeal.S17x3x640.Idx → EReal) (c n m : ℕ) : ∑ t : Fin 1920, rCode c n (tok (F := Ideal) X (t.val / 640) (t.val % 640)) m = tot X c n m := by
  rw [tokens_sum (fun b k => rCode c n (tok (F := Ideal) X b k) m)]
  unfold tot
  refine Finset.sum_congr rfl fun r hr => Finset.sum_congr rfl fun l _ => ?_
  have hr' : r < 15 := Finset.mem_range.mp hr
  have e : packed (F := Ideal) X r l.val = tok (F := Ideal) X (r % 3) (r / 3 * 128 + l.val) := by
    funext k
    unfold packed
    rw [if_pos hr']
  rw [e]

/-! ## Small pieces -/

/-- The constant eight. -/
theorem c_8 : (Ideal.ofBits .f32 0x41000000#32 : EReal) = ((8 : ℝ) : EReal) := by simp [Ideal.ofBits, Ideal.ieee, -EReal.coe_mul]; norm_num
/-- The constant nine. -/
theorem c_9 : (Ideal.ofBits .f32 0x41100000#32 : EReal) = ((9 : ℝ) : EReal) := by simp [Ideal.ofBits, Ideal.ieee, -EReal.coe_mul]; norm_num
/-- The constant of infinity. -/
theorem c_inf : (Ideal.ofBits .f32 0x7F800000#32 : EReal) = ⊤ := by simp [Ideal.ofBits, Ideal.ieee]

/-- The log of the number of tokens. -/
theorem log_1920 : Ideal.log ((1920 : ℝ) : EReal) = ((Real.log 1920 : ℝ) : EReal) := by rw [Ideal.log_coe, if_neg (by norm_num)]
/-- The maximum, or zero when it is infinite, is a real. -/
theorem finite_part (M : EReal) : ∃ μ : ℝ, (if max M (-M) < (⊤ : EReal) then M else 0) = ((μ : ℝ) : EReal) := by
  induction M with
  | top => exact ⟨0, by rw [if_neg (by simp)]; exact EReal.coe_zero.symm⟩
  | bot => exact ⟨0, by rw [if_neg (by simp)]; exact EReal.coe_zero.symm⟩
  | coe r => exact ⟨r, by rw [if_pos (max_lt (EReal.coe_lt_top r) (by rw [← EReal.coe_neg]; exact EReal.coe_lt_top _))]⟩

/-- A bit as a float. -/
theorem bit_float (b : Bool) : FloatOps.sitofp (F := Ideal) .f32 (BitVec.setWidth 32 (BitVec.ofBool b)) = (bif b then 1 else 0 : EReal) := by
  refine (show _ = (((BitVec.setWidth 32 (BitVec.ofBool b)).toInt : ℝ) : EReal) from rfl).trans ?_
  cases b <;> simp
/-- The other bit as a float. -/
theorem bit_float' (b : Bool) : FloatOps.sitofp (F := Ideal) .f32 (IntOp.subi 1#32 (BitVec.setWidth 32 (BitVec.ofBool b))) = (bif b then 0 else 1 : EReal) := by
  refine (show _ = (((IntOp.subi 1#32 (BitVec.setWidth 32 (BitVec.ofBool b))).toInt : ℝ) : EReal) from rfl).trans ?_
  cases b <;> simp [IntOp.subi]
/-- One channel's part of a code's log-probability. -/
theorem part_eq (b : Bool) (x : EReal) : lp x * (bif b then 1 else 0 : EReal) + lq x * (bif b then 0 else 1 : EReal) = dB b x := by
  unfold dB
  cases b
  · simp only [cond_false, mul_zero, mul_one, zero_add]
  · simp only [cond_true, mul_zero, mul_one, add_zero]

variable (V0 : Valuation τ sig (Elt Ideal)) (X : Cert.KernelIdeal.S17x3x640.Idx → EReal)

section Tok
variable (hX : ∀ (a : Fin 3) (b : Fin 640) (k : Fin 17), res_main_v0 (F := Ideal) V0 (ix3 a b k) = tok (F := Ideal) X a.val b.val k.val)
include hX

/-- A token's log-probability of a positive channel. -/
theorem v43_eq (t : Fin 1920) (k : Fin 17) : res_main_v43 (F := Ideal) V0 (ix2 t k) = lp (tok (F := Ideal) X (t.val / 640) (t.val % 640) k.val) := by
  pointwise [res_main_v43]
  rw [v33_eq, hX]
/-- And of the other sign. -/
theorem v44_eq (t : Fin 1920) (k : Fin 17) : res_main_v44 (F := Ideal) V0 (ix2 t k) = lq (tok (F := Ideal) X (t.val / 640) (t.val % 640) k.val) := by
  pointwise [res_main_v44]
  rw [v35_eq, hX]
end Tok

/-! ## The first book -/

/-- The bit of a code. -/
theorem v58_eq (i : Fin 8) (m : Fin 256) : res_main_v58 (F := Ideal) V0 (ix2 i m) = BitVec.setWidth 32 (BitVec.ofBool (m.val.testBit (8 - 1 - i.val))) := by
  pointwise [res_main_v58]
  exact bits_a i m

/-- The log of the number of codes. -/
theorem v65_eq (j : S_.Idx) : res_main_v65 (F := Ideal) V0 j = ((Real.log 256 : ℝ) : EReal) := by
  pointwise [res_main_v65]
  rw [c_8, c_two, Ideal.log_coe, if_neg (by norm_num), ← EReal.coe_mul, show ((256 : ℝ)) = 2 ^ 8 by norm_num, Real.log_pow]
  norm_num

/-- The number the sum's exponentials are taken about is a real. -/
theorem v72_real (m : Fin 256) : ∃ μ : ℝ, res_main_v72 (F := Ideal) V0 (ix1 m) = ((μ : ℝ) : EReal) := by
  obtain ⟨μ, h⟩ := finite_part (res_main_v68 (F := Ideal) V0 (ix1 m))
  refine ⟨μ, Eq.trans ?_ h⟩
  pointwise [res_main_v72]
  rw [c_inf]
  exact if_congr Iff.rfl rfl c_zero

section Tok
variable (hX : ∀ (a : Fin 3) (b : Fin 640) (k : Fin 17), res_main_v0 (F := Ideal) V0 (ix3 a b k) = tok (F := Ideal) X a.val b.val k.val)
include hX

/-- A token's log-probability of a code. -/
theorem v63_eq (t : Fin 1920) (m : Fin 256) : res_main_v63 (F := Ideal) V0 (ix2 t m) = dSum 0 8 (tok (F := Ideal) X (t.val / 640) (t.val % 640)) m.val := by
  pointwise [res_main_v63]
  simp only [v43_eq V0 X hX, v44_eq V0 X hX, v58_eq, bit_float, bit_float', ← Finset.sum_add_distrib, part_eq]
  refine Eq.trans ?_ (Fin.sum_univ_eq_sum_range (fun i => dB (m.val.testBit (8 - 1 - i)) (tok (F := Ideal) X (t.val / 640) (t.val % 640) (0 + i))) 8)
  show (∑ i : Fin 8, dB (m.val.testBit (8 - 1 - i.val)) (tok (F := Ideal) X (t.val / 640) (t.val % 640) i.val) : EReal) = ∑ i : Fin 8, dB (m.val.testBit (8 - 1 - i.val)) (tok (F := Ideal) X (t.val / 640) (t.val % 640) (0 + i.val))
  simp only [Nat.zero_add]

/-- A code's log usage. -/
theorem v81_eq (m : Fin 256) : res_main_v81 (F := Ideal) V0 (ix1 m) = lgU (Real.log 256) (tot X 0 8 m.val) := by
  obtain ⟨μ, hμ⟩ := v72_real V0 m
  pointwise [res_main_v81]
  simp only [v63_eq V0 X hX, v65_eq]
  rw [hμ, lse_real _ (fun t : Fin 1920 => rCode 0 8 (tok (F := Ideal) X (t.val / 640) (t.val % 640)) m.val) (fun t => dSum_ne_top _ _ _ _) (fun t => exp_dSum _ _ _ _) μ,
    tot_flat, c_1920, log_1920, ← EReal.coe_sub]
  exact log_lgU 256 _ _ rfl

/-- Result 5. -/
theorem ref5 : (shapeCast _ (res_main_v81 (F := Ideal) V0) shapeCasts_S256_S2x128 : S2x128.Idx → EReal) = usageA X := by
  funext y
  have h0 : (y 0).val < 2 := (y 0).isLt
  have h1 : (y 1).val < 128 := (y 1).isLt
  refine Eq.trans (b := res_main_v81 (F := Ideal) V0 (ix1 (⟨(y 0).val * 128 + (y 1).val, by omega⟩ : Fin 256))) ?_ ?_
  · pointwise
  · rw [v81_eq V0 X hX]
    show lgU _ (tot X 0 8 ((y 0).val * 128 + (y 1).val)) = lgU _ (tot X 0 8 (128 * (y 0).val + (y 1).val))
    rw [Nat.mul_comm]
end Tok

/-! ## The second book -/

/-- The bit of a code. -/
theorem v100_eq (i : Fin 9) (m : Fin 512) : res_main_v100 (F := Ideal) V0 (ix2 i m) = BitVec.setWidth 32 (BitVec.ofBool (m.val.testBit (9 - 1 - i.val))) := by
  pointwise [res_main_v100]
  exact bits_b i m

/-- The log of the number of codes. -/
theorem v107_eq (j : S_.Idx) : res_main_v107 (F := Ideal) V0 j = ((Real.log 512 : ℝ) : EReal) := by
  pointwise [res_main_v107]
  rw [c_9, c_two, Ideal.log_coe, if_neg (by norm_num), ← EReal.coe_mul, show ((512 : ℝ)) = 2 ^ 9 by norm_num, Real.log_pow]
  norm_num

/-- The number the sum's exponentials are taken about is a real. -/
theorem v114_real (m : Fin 512) : ∃ μ : ℝ, res_main_v114 (F := Ideal) V0 (ix1 m) = ((μ : ℝ) : EReal) := by
  obtain ⟨μ, h⟩ := finite_part (res_main_v110 (F := Ideal) V0 (ix1 m))
  refine ⟨μ, Eq.trans ?_ h⟩
  pointwise [res_main_v114]
  rw [c_inf]
  exact if_congr Iff.rfl rfl c_zero

section Tok
variable (hX : ∀ (a : Fin 3) (b : Fin 640) (k : Fin 17), res_main_v0 (F := Ideal) V0 (ix3 a b k) = tok (F := Ideal) X a.val b.val k.val)
include hX

/-- A token's log-probability of a code. -/
theorem v105_eq (t : Fin 1920) (m : Fin 512) : res_main_v105 (F := Ideal) V0 (ix2 t m) = dSum 8 9 (tok (F := Ideal) X (t.val / 640) (t.val % 640)) m.val := by
  pointwise [res_main_v105]
  simp only [v43_eq V0 X hX, v44_eq V0 X hX, v100_eq, bit_float, bit_float', ← Finset.sum_add_distrib, part_eq]
  refine Eq.trans ?_ (Fin.sum_univ_eq_sum_range (fun i => dB (m.val.testBit (9 - 1 - i)) (tok (F := Ideal) X (t.val / 640) (t.val % 640) (8 + i))) 9)
  show (∑ i : Fin 9, dB (m.val.testBit (9 - 1 - i.val)) (tok (F := Ideal) X (t.val / 640) (t.val % 640) (8 + i.val)) : EReal) = ∑ i : Fin 9, dB (m.val.testBit (9 - 1 - i.val)) (tok (F := Ideal) X (t.val / 640) (t.val % 640) (8 + i.val))
  rfl

/-- A code's log usage. -/
theorem v123_eq (m : Fin 512) : res_main_v123 (F := Ideal) V0 (ix1 m) = lgU (Real.log 512) (tot X 8 9 m.val) := by
  obtain ⟨μ, hμ⟩ := v114_real V0 m
  pointwise [res_main_v123]
  simp only [v105_eq V0 X hX, v107_eq]
  rw [hμ, lse_real _ (fun t : Fin 1920 => rCode 8 9 (tok (F := Ideal) X (t.val / 640) (t.val % 640)) m.val) (fun t => dSum_ne_top _ _ _ _) (fun t => exp_dSum _ _ _ _) μ,
    tot_flat, c_1920, log_1920, ← EReal.coe_sub]
  exact log_lgU 512 _ _ rfl

/-- Result 6. -/
theorem ref6 : (shapeCast _ (res_main_v123 (F := Ideal) V0) shapeCasts_S512_S4x128 : S4x128.Idx → EReal) = usageB X := by
  funext y
  have h0 : (y 0).val < 4 := (y 0).isLt
  have h1 : (y 1).val < 128 := (y 1).isLt
  refine Eq.trans (b := res_main_v123 (F := Ideal) V0 (ix1 (⟨(y 0).val * 128 + (y 1).val, by omega⟩ : Fin 512))) ?_ ?_
  · pointwise
  · rw [v123_eq V0 X hX]
    show lgU _ (tot X 8 9 ((y 0).val * 128 + (y 1).val)) = lgU _ (tot X 8 9 (128 * (y 0).val + (y 1).val))
    rw [Nat.mul_comm]
end Tok

section Tok
variable (hX : ∀ (a : Fin 3) (b : Fin 640) (k : Fin 17), res_main_v0 (F := Ideal) V0 (ix3 a b k) = tok (F := Ideal) X a.val b.val k.val)
include hX

/-- Result 7. -/
theorem ref7 : (shapeCast S1x1 (addf (Host.reduceAdd (mulf (Host.exp (subf (res_main_v81 V0) (broadcastInDim S256 ![] bcast_S_S256 (res_main_v65 V0)))) (res_main_v81 V0)) (constant S_ .f32 0x00000000#32) reducesTo_S256_S_d0 h_S_) (Host.reduceAdd (mulf (Host.exp (subf (res_main_v123 (F := Ideal) V0) (broadcastInDim S512 ![] bcast_S_S512 (res_main_v107 V0)))) (res_main_v123 V0)) (constant S_ .f32 0x00000000#32) reducesTo_S512_S_d0 h_S_)) shapeCasts_S_S1x1 : S1x1.Idx → EReal) = divergence X := by
  funext y
  pointwise
  simp only [v81_eq V0 X hX, v123_eq V0 X hX, v65_eq, v107_eq, exp_klU _ _ (tot_nonneg X _ _ _)]
  unfold divergence
  rw [← Fin.sum_univ_eq_sum_range (fun m => klU (Real.log 256) (tot X 0 8 m)) 256, ← Fin.sum_univ_eq_sum_range (fun m => klU (Real.log 512) (tot X 8 9 m)) 512]
end Tok

end Cert.Proof.Ref

end
-- ==== Proof.Algebraic.lean ====
/-
  Over the extended reals the kernel and the reference, from one input, leave the same values in each of the seven results.
-/
module

public import proofs.«01_k».proof.Defs
public import proofs.«01_k».proof.Proof.ValueRun
public import proofs.«01_k».proof.Proof.RefUsage

@[expose] public section

set_option maxRecDepth 16384

noncomputable section

namespace Cert.Proof

open Idealize.ShloMosaic Idealize.ShloMosaic.TcCoe Idealize.SL.Sem
open Cert.Proof.KernelIdeal (tok resArr mIa mIb mEnt mCom)

/-- A channel of the reference's widened input is the channel of the token in the kernel's channel-major input. -/
theorem channel_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) (a : Fin 3) (b : Fin 640) (k : Fin 17) :
    Cert.ReferenceIdeal.Value.res_main_v0 (F := Ideal) (StableHlo.launchContents m' c) (ix3 a b k)
      = tok (F := Ideal) (Cert.Proof.KernelIdeal.Value.xin m c) a.val b.val k.val := by
  unfold tok
  rw [dif_pos ⟨k.isLt, a.isLt, b.isLt⟩]
  unfold Cert.Proof.KernelIdeal.Value.xin
  rw [← h]
  pointwise [Cert.ReferenceIdeal.Value.res_main_v0]

/-- A result of one value per token is known by its value at every token. -/
theorem resArr_ext {α : Type} (A : Cert.KernelIdeal.S3x640.Idx → α) (S : (ℕ → EReal) → α) (X : Cert.KernelIdeal.S17x3x640.Idx → EReal)
    (h : ∀ (a : Fin 3) (b : Fin 640), A (ix2 a b) = S (tok (F := Ideal) X a.val b.val)) : A = resArr (F := Ideal) S X := by
  funext j
  exact (congrArg A (ValueIdx.eq_ix2 (n0 := 3) (n1 := 640) j)).trans (h (j 0) (j 1))

/-- The value claim: from one input the two programs agree on all seven results. -/
theorem algebraic : @Cert.algebraic_KernelIdeal_ReferenceIdeal Cert.KernelIdeal.Gen.facts Cert.ReferenceIdeal.Gen.facts := by
  intro m ρ m' ρ' _ hagree
  refine ⟨_, _, _, _, _, _, _, Cert.Proof.KernelIdeal.Value.run m ρ, (θ_run Cert.ReferenceIdeal.defs _ _).mono (fun _ h c =>
    ⟨(h c).1.trans ?_, (h c).2.1.trans ?_, (h c).2.2.1.trans ?_, (h c).2.2.2.1.trans ?_, (h c).2.2.2.2.1.trans ?_, (h c).2.2.2.2.2.1.trans ?_,
      (h c).2.2.2.2.2.2.1.trans ?_, (h c).2.2.2.2.2.2.2⟩)
    (Cert.ReferenceIdeal.Value.run (F := Ideal) m' ρ')⟩
  · exact resArr_ext _ _ _ fun a b => Ref.ref1 _ _ a b fun k => channel_eq m m' c (hagree c) a b k
  · exact resArr_ext _ _ _ fun a b => Ref.ref2 _ _ a b fun k => channel_eq m m' c (hagree c) a b k
  · exact resArr_ext _ _ _ fun a b => Ref.ref3 _ _ a b fun k => channel_eq m m' c (hagree c) a b k
  · exact resArr_ext _ _ _ fun a b => Ref.ref4 _ _ a b fun k => channel_eq m m' c (hagree c) a b k
  · exact Ref.ref5 _ _ fun a b k => channel_eq m m' c (hagree c) a b k
  · exact Ref.ref6 _ _ fun a b k => channel_eq m m' c (hagree c) a b k
  · exact Ref.ref7 _ _ fun a b k => channel_eq m m' c (hagree c) a b k

end Cert.Proof

end
-- ==== Proof.lean ====
module

public import proofs.«01_k».proof.Defs
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

/-- The five claims. -/
theorem claim : Cert.Claim :=
  ⟨Cert.Kernel.Gen.facts, Cert.KernelIdeal.Gen.facts, Cert.ReferenceIdeal.Gen.facts, frame_p, frame_pi, frame_ri, preserves, algebraic⟩

end Cert.Proof

end
